-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v130_0)) (v1 : (c : Dev Cert.KernelIdeal.nD) → Buf (Elt Ideal) ((c.tc : Thread Cert.KernelIdeal.nD Cert.KernelIdeal.τ).loc Cert.KernelIdeal.main_v130_1)) (v2 : (c : Dev Cert.KernelIdeal.nD) → Buf (Elt Ideal) ((c.tc : Thread Cert.KernelIdeal.nD Cert.KernelIdeal.τ).loc Cert.KernelIdeal.main_v130_2)) (v3 : (c : Dev Cert.KernelIdeal.nD) → Buf (Elt Ideal) ((c.tc : Thread Cert.KernelIdeal.nD Cert.KernelIdeal.τ).loc Cert.KernelIdeal.main_v130_3)) (v4 : (c : Dev Cert.KernelIdeal.nD) → Buf (Elt Ideal) ((c.tc : Thread Cert.KernelIdeal.nD Cert.KernelIdeal.τ).loc Cert.KernelIdeal.main_v130_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130_0) = v0 c
          ∧ r.2.mem ((c.tc : Thread Cert.KernelIdeal.nD Cert.KernelIdeal.τ).loc Cert.KernelIdeal.main_v130_1) = v1 c
          ∧ r.2.mem ((c.tc : Thread Cert.KernelIdeal.nD Cert.KernelIdeal.τ).loc Cert.KernelIdeal.main_v130_2) = v2 c
          ∧ r.2.mem ((c.tc : Thread Cert.KernelIdeal.nD Cert.KernelIdeal.τ).loc Cert.KernelIdeal.main_v130_3) = v3 c
          ∧ r.2.mem ((c.tc : Thread Cert.KernelIdeal.nD Cert.KernelIdeal.τ).loc Cert.KernelIdeal.main_v130_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_v90) = v1 c
          ∧ r.2.mem ((c.tc : Thread Cert.Reference2Ideal.nD Cert.Reference2Ideal.τ).loc Cert.Reference2Ideal.main_v88) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_v71) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x512 : Shape := ⟨2, ![8192, 512]⟩
abbrev S8x8192 : Shape := ⟨2, ![8, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S8192x512 .bf16) (main_arg3 : FVec F S8x8192 .f32) (main_arg4 : FVec F S8192x512 .f32) (main_v12 : IVec S_ 1) (main_v14 : IVec S8192x512 1) (main_v15 : FVec F S8192x512 .bf16) : IVec S_ 1 :=
  let main_v16 : IVec S8192x512 1 := cmpf .olt main_arg2 main_v15
  let main_v17 : IVec S8192x512 1 := andi main_v14 main_v16
  let main_c_6 : IVec S_ 1 := constantI S_ 1 1#1
  let main_v18 : IVec S_ 1 := (fun x v => Host.reduce IntOp.andi x v reducesTo_S8192x512_S_d0_1 h_S_) main_v17 main_c_6
  let main_v19 : IVec S_ 1 := andi main_v12 main_v18
  let main_cst_7 : FVec F S_ .f32 := constant S_ .f32 0xFF800000#32
  let main_v20 : FVec F S8x8192 .f32 := broadcastInDim S8x8192 ![] bcast_S_S8x8192 main_cst_7
  let main_v21 : IVec S8x8192 1 := cmpf .ogt main_arg3 main_v20
  let main_cst_8 : FVec F S_ .f32 := constant S_ .f32 0x7F800000#32
  let main_v22 : FVec F S8x8192 .f32 := broadcastInDim S8x8192 ![] bcast_S_S8x8192 main_cst_8
  let main_v23 : IVec S8x8192 1 := cmpf .olt main_arg3 main_v22
  let main_v24 : IVec S8x8192 1 := andi main_v21 main_v23
  let main_c_9 : IVec S_ 1 := constantI S_ 1 1#1
  let main_v25 : IVec S_ 1 := (fun x v => Host.reduce IntOp.andi x v reducesTo_S8x8192_S_d0_1 h_S_) main_v24 main_c_9
  let main_v26 : IVec S_ 1 := andi main_v19 main_v25
  let main_cst_10 : FVec F S_ .f32 := constant S_ .f32 0xFF800000#32
  let main_v27 : FVec F S8192x512 .f32 := broadcastInDim S8192x512 ![] bcast_S_S8192x512 main_cst_10
  let main_v28 : IVec S8192x512 1 := cmpf .ogt main_arg4 main_v27
  let main_cst_11 : FVec F S_ .f32 := constant S_ .f32 0x7F800000#32
  let main_v29 : FVec F S8192x512 .f32 := broadcastInDim S8192x512 ![] bcast_S_S8192x512 main_cst_11
  let main_v30 : IVec S8192x512 1 := cmpf .olt main_arg4 main_v29
  let main_v31 : IVec S8192x512 1 := andi main_v28 main_v30
  let main_c_12 : IVec S_ 1 := constantI S_ 1 1#1
  let main_v32 : IVec S_ 1 := (fun x v => Host.reduce IntOp.andi x v reducesTo_S8192x512_S_d0_1 h_S_) main_v31 main_c_12
  fn_part2 (F := F) main_v26 main_v32

def fn {F : FTy → Type} [FloatOps F] (main_arg0 : FVec F S8192x512 .bf16) (main_arg1 : FVec F S8192x512 .bf16) (main_arg2 : FVec F S8192x512 .bf16) (main_arg3 : FVec F S8x8192 .f32) (main_arg4 : FVec F S8192x512 .f32) : IVec S_ 1 :=
  let main_cst : FVec F S_ .bf16 := constant S_ .bf16 0xFF80#16
  let main_v0 : FVec F S8192x512 .bf16 := broadcastInDim S8192x512 ![] bcast_S_S8192x512 main_cst
  let main_v1 : IVec S8192x512 1 := cmpf .ogt main_arg0 main_v0
  let main_cst_0 : FVec F S_ .bf16 := constant S_ .bf16 0x7F80#16
  let main_v2 : FVec F S8192x512 .bf16 := broadcastInDim S8192x512 ![] bcast_S_S8192x512 main_cst_0
  let main_v3 : IVec S8192x512 1 := cmpf .olt main_arg0 main_v2
  let main_v4 : IVec S8192x512 1 := andi main_v1 main_v3
  let main_c : IVec S_ 1 := constantI S_ 1 1#1
  let main_v5 : IVec S_ 1 := (fun x v => Host.reduce IntOp.andi x v reducesTo_S8192x512_S_d0_1 h_S_) main_v4 main_c
  let main_cst_1 : FVec F S_ .bf16 := constant S_ .bf16 0xFF80#16
  let main_v6 : FVec F S8192x512 .bf16 := broadcastInDim S8192x512 ![] bcast_S_S8192x512 main_cst_1
  let main_v7 : IVec S8192x512 1 := cmpf .ogt main_arg1 main_v6
  let main_cst_2 : FVec F S_ .bf16 := constant S_ .bf16 0x7F80#16
  let main_v8 : FVec F S8192x512 .bf16 := broadcastInDim S8192x512 ![] bcast_S_S8192x512 main_cst_2
  let main_v9 : IVec S8192x512 1 := cmpf .olt main_arg1 main_v8
  let main_v10 : IVec S8192x512 1 := andi main_v7 main_v9
  let main_c_3 : IVec S_ 1 := constantI S_ 1 1#1
  let main_v11 : IVec S_ 1 := (fun x v => Host.reduce IntOp.andi x v reducesTo_S8192x512_S_d0_1 h_S_) main_v10 main_c_3
  let main_v12 : IVec S_ 1 := andi main_v5 main_v11
  let main_cst_4 : FVec F S_ .bf16 := constant S_ .bf16 0xFF80#16
  let main_v13 : FVec F S8192x512 .bf16 := broadcastInDim S8192x512 ![] bcast_S_S8192x512 main_cst_4
  let main_v14 : IVec S8192x512 1 := cmpf .ogt main_arg2 main_v13
  let main_cst_5 : FVec F S_ .bf16 := constant S_ .bf16 0x7F80#16
  let main_v15 : FVec F S8192x512 .bf16 := broadcastInDim S8192x512 ![] bcast_S_S8192x512 main_cst_5
  fn_part1 (F := F) main_arg2 main_arg3 main_arg4 main_v12 main_v14 main_v15
-- ==== Kernel.lean ====
abbrev S8192x512 : Shape := ⟨2, ![8192, 512]⟩
abbrev S8x8192 : Shape := ⟨2, ![8, 8192]⟩
abbrev S8192x8x64 : Shape := ⟨3, ![8192, 8, 64]⟩
abbrev S8x8192x64 : Shape := ⟨3, ![8, 8192, 64]⟩
abbrev S_ : Shape := ⟨0, ![]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192x8 : Shape := ⟨2, ![8192, 8]⟩
abbrev S8192x8x1 : Shape := ⟨3, ![8192, 8, 1]⟩
abbrev S8192x8x3 : Shape := ⟨3, ![8192, 8, 3]⟩
abbrev S8192x4x6 : Shape := ⟨3, ![8192, 4, 6]⟩
abbrev S8192x4x128 : Shape := ⟨3, ![8192, 4, 128]⟩
abbrev S8192x4x3 : Shape := ⟨3, ![8192, 4, 3]⟩
abbrev S8192x4x119 : Shape := ⟨3, ![8192, 4, 119]⟩
abbrev S8192x4x256 : Shape := ⟨3, ![8192, 4, 256]⟩
abbrev S8192x1024 : Shape := ⟨2, ![8192, 1024]⟩
abbrev S512x8192 : Shape := ⟨2, ![512, 8192]⟩
abbrev S8192x4x2x6 : Shape := ⟨4, ![8192, 4, 2, 6]⟩
abbrev S8192x4x2x128 : Shape := ⟨4, ![8192, 4, 2, 128]⟩
abbrev S8192x4x1x128 : Shape := ⟨4, ![8192, 4, 1, 128]⟩
abbrev S8192x4x2x3 : Shape := ⟨4, ![8192, 4, 2, 3]⟩
abbrev S8192x4x2x119 : Shape := ⟨4, ![8192, 4, 2, 119]⟩
abbrev S8192x4x2x256 : Shape := ⟨4, ![8192, 4, 2, 256]⟩
abbrev S8192x2048 : Shape := ⟨2, ![8192, 2048]⟩
abbrev S8x128 : Shape := ⟨2, ![8, 128]⟩
abbrev S8192x128 : Shape := ⟨2, ![8192, 128]⟩
abbrev S512x1024 : Shape := ⟨2, ![512, 1024]⟩
abbrev S512x512 : Shape := ⟨2, ![512, 512]⟩
abbrev S512x2048 : Shape := ⟨2, ![512, 2048]⟩
abbrev S512x128 : Shape := ⟨2, ![512, 128]⟩
abbrev S8x1 : Shape := ⟨2, ![8, 1]⟩
abbrev S1x128 : Shape := ⟨2, ![1, 128]⟩
abbrev S128x1 : Shape := ⟨2, ![128, 1]⟩
abbrev S512x256 : Shape := ⟨2, ![512, 256]⟩
abbrev S8x512 : Shape := ⟨2, ![8, 512]⟩
abbrev S128x512 : Shape := ⟨2, ![128, 512]⟩
abbrev S512 : Shape := ⟨1, ![512]⟩
abbrev S1x512 : Shape := ⟨2, ![1, 512]⟩
abbrev S512x1 : Shape := ⟨2, ![512, 1]⟩

abbrev nBuf : Space → Nat
  | .hbm => 161
  | .vmem => 22
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8x8192, .f32⟩
  | 4 => ⟨S8192x512, .f32⟩
  | 5 => ⟨S8192x8x64, .bf16⟩
  | 6 => ⟨S8x8192x64, .bf16⟩
  | 7 => ⟨S8x8192x64, .f32⟩
  | 8 => ⟨S_, .f32⟩
  | 9 => ⟨S8x8192x64, .f32⟩
  | 10 => ⟨S8x8192x64, .f32⟩
  | 11 => ⟨S8192x8x64, .bf16⟩
  | 12 => ⟨S8x8192x64, .bf16⟩
  | 13 => ⟨S8x8192x64, .f32⟩
  | 14 => ⟨S8192x8x64, .bf16⟩
  | 15 => ⟨S8x8192x64, .bf16⟩
  | 16 => ⟨S8x8192x64, .f32⟩
  | 17 => ⟨S8x8192x8192, .f32⟩
  | 18 => ⟨S8x8192x1, .f32⟩
  | 19 => ⟨S8x8192x8192, .f32⟩
  | 20 => ⟨S8x8192x8192, .f32⟩
  | 21 => ⟨S8x1x8192, .f32⟩
  | 22 => ⟨S8x8192x8192, .f32⟩
  | 23 => ⟨S8x8192x8192, .f32⟩
  | 24 => ⟨S8x8192x8192, .i32⟩
  | 25 => ⟨S8x8192x8192, .i32⟩
  | 26 => ⟨S8x8192x8192, .i1⟩
  | 27 => ⟨S_, .f32⟩
  | 28 => ⟨S8x8192x8192, .f32⟩
  | 29 => ⟨S8x8192x8192, .f32⟩
  | 30 => ⟨S_, .f32⟩
  | 31 => ⟨S8x8192, .f32⟩
  | 32 => ⟨S8x8192x1, .f32⟩
  | 33 => ⟨S8x8192x8192, .f32⟩
  | 34 => ⟨S8x8192x8192, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .f32⟩
  | 41 => ⟨S8x8192x64, .f32⟩
  | 42 => ⟨S8192x8x64, .f32⟩
  | 43 => ⟨S8192x512, .f32⟩
  | 44 => ⟨S8x8192, .f32⟩
  | 45 => ⟨S8x8192, .f32⟩
  | 46 => ⟨S8x8192, .f32⟩
  | 47 => ⟨S8192x8, .f32⟩
  | 48 => ⟨S8192x512, .f32⟩
  | 49 => ⟨S8192x8x64, .f32⟩
  | 50 => ⟨S_, .f32⟩
  | 51 => ⟨S8192x8, .f32⟩
  | 52 => ⟨S8x8192, .f32⟩
  | 53 => ⟨S8192x8, .f32⟩
  | 54 => ⟨S8192x8, .bf16⟩
  | 55 => ⟨S8192x8, .f32⟩
  | 56 => ⟨S8192x8, .f32⟩
  | 57 => ⟨S8192x8, .bf16⟩
  | 58 => ⟨S8192x8, .f32⟩
  | 59 => ⟨S8192x8, .f32⟩
  | 60 => ⟨S8192x8, .bf16⟩
  | 61 => ⟨S8192x8x1, .bf16⟩
  | 62 => ⟨S8192x8x1, .bf16⟩
  | 63 => ⟨S8192x8x1, .bf16⟩
  | 64 => ⟨S8192x8x3, .bf16⟩
  | 65 => ⟨S8192x4x6, .bf16⟩
  | 66 => ⟨S8192x4x128, .bf16⟩
  | 67 => ⟨S_, .bf16⟩
  | 68 => ⟨S8192x4x3, .bf16⟩
  | 69 => ⟨S_, .bf16⟩
  | 70 => ⟨S8192x4x119, .bf16⟩
  | 71 => ⟨S8192x4x256, .bf16⟩
  | 72 => ⟨S8192x1024, .bf16⟩
  | 73 => ⟨S8192x4x128, .bf16⟩
  | 74 => ⟨S_, .bf16⟩
  | 75 => ⟨S8192x4x3, .bf16⟩
  | 76 => ⟨S_, .bf16⟩
  | 77 => ⟨S8192x4x119, .bf16⟩
  | 78 => ⟨S8192x4x256, .bf16⟩
  | 79 => ⟨S8192x1024, .bf16⟩
  | 80 => ⟨S512x8192, .bf16⟩
  | 81 => ⟨S8192x4x2x6, .i32⟩
  | 82 => ⟨S_, .i32⟩
  | 83 => ⟨S8192x4x2x6, .i32⟩
  | 84 => ⟨S8192x4x2x6, .i32⟩
  | 85 => ⟨S8192x4x2x6, .i32⟩
  | 86 => ⟨S8192x4x2x6, .i1⟩
  | 87 => ⟨S8192x4x2x128, .i32⟩
  | 88 => ⟨S_, .i32⟩
  | 89 => ⟨S8192x4x2x128, .i32⟩
  | 90 => ⟨S8192x4x2x128, .i32⟩
  | 91 => ⟨S8192x4x2x128, .i32⟩
  | 92 => ⟨S8192x4x2x128, .i1⟩
  | 93 => ⟨S8192x4x1x128, .bf16⟩
  | 94 => ⟨S8192x4x2x128, .bf16⟩
  | 95 => ⟨S_, .bf16⟩
  | 96 => ⟨S8192x4x2x128, .bf16⟩
  | 97 => ⟨S8192x4x2x128, .bf16⟩
  | 98 => ⟨S_, .bf16⟩
  | 99 => ⟨S8192x4x2x128, .bf16⟩
  | 100 => ⟨S8192x4x2x128, .bf16⟩
  | 101 => ⟨S_, .bf16⟩
  | 102 => ⟨S8192x4x2x6, .bf16⟩
  | 103 => ⟨S_, .bf16⟩
  | 104 => ⟨S8192x4x2x6, .bf16⟩
  | 105 => ⟨S8192x4x2x6, .bf16⟩
  | 106 => ⟨S8192x8, .f32⟩
  | 107 => ⟨S8192x8, .bf16⟩
  | 108 => ⟨S8192x8, .f32⟩
  | 109 => ⟨S8192x8, .f32⟩
  | 110 => ⟨S8192x8, .bf16⟩
  | 111 => ⟨S8192x8, .f32⟩
  | 112 => ⟨S8192x8, .f32⟩
  | 113 => ⟨S8192x8, .bf16⟩
  | 114 => ⟨S8192x8x1, .bf16⟩
  | 115 => ⟨S8192x8x1, .bf16⟩
  | 116 => ⟨S8192x8x1, .bf16⟩
  | 117 => ⟨S8192x8x3, .bf16⟩
  | 118 => ⟨S8192x4x2x3, .bf16⟩
  | 119 => ⟨S_, .bf16⟩
  | 120 => ⟨S8192x4x2x119, .bf16⟩
  | 121 => ⟨S8192x4x2x256, .bf16⟩
  | 122 => ⟨S8192x2048, .bf16⟩
  | 123 => ⟨S8192x4x2x128, .i32⟩
  | 124 => ⟨S_, .i32⟩
  | 125 => ⟨S8192x4x2x128, .i32⟩
  | 126 => ⟨S8192x4x2x128, .i32⟩
  | 127 => ⟨S8192x4x2x128, .i32⟩
  | _ => ⟨S8192x512, .bf16⟩

abbrev hbmTy0_1 (i : Nat) : BufTy := match i % 128 with
  | 0 => ⟨S8192x4x2x128, .i1⟩
  | 1 => ⟨S8192x4x1x128, .f32⟩
  | 2 => ⟨S8192x4x2x128, .f32⟩
  | 3 => ⟨S_, .f32⟩
  | 4 => ⟨S8192x4x2x128, .f32⟩
  | 5 => ⟨S8192x4x2x128, .f32⟩
  | 6 => ⟨S8192x4x2x128, .bf16⟩
  | 7 => ⟨S_, .bf16⟩
  | 8 => ⟨S8192x4x2x6, .bf16⟩
  | 9 => ⟨S8192x8, .f32⟩
  | 10 => ⟨S8192x8, .bf16⟩
  | 11 => ⟨S8192x8, .f32⟩
  | 12 => ⟨S8192x8, .f32⟩
  | 13 => ⟨S8192x8, .bf16⟩
  | 14 => ⟨S8192x8, .f32⟩
  | 15 => ⟨S8192x8, .f32⟩
  | 16 => ⟨S8192x8, .bf16⟩
  | 17 => ⟨S8192x8x1, .bf16⟩
  | 18 => ⟨S8192x8x1, .bf16⟩
  | 19 => ⟨S8192x8x1, .bf16⟩
  | 20 => ⟨S8192x8x3, .bf16⟩
  | 21 => ⟨S8192x4x2x3, .bf16⟩
  | 22 => ⟨S_, .bf16⟩
  | 23 => ⟨S8192x4x2x119, .bf16⟩
  | 24 => ⟨S8192x4x2x256, .bf16⟩
  | 25 => ⟨S8192x2048, .bf16⟩
  | 26 => ⟨S_, .f32⟩
  | 27 => ⟨S8x128, .f32⟩
  | 28 => ⟨S512x8192, .f32⟩
  | 29 => ⟨S8x8192, .f32⟩
  | 30 => ⟨S8192x512, .bf16⟩
  | 31 => ⟨S8192x512, .bf16⟩
  | 32 => ⟨S8192x128, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | .local _ .vmem, ⟨11, _⟩ => ⟨S512x8192, .f32⟩
  | .local _ .vmem, ⟨12, _⟩ => ⟨S8x8192, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_cst_12 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_13 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_c_14 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_15 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_16 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_17 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_18 : Ref sig .tc := ⟨.hbm, 154, rfl⟩
abbrev main_v129 : Ref sig .tc := ⟨.hbm, 155, rfl⟩
abbrev main_v130_0 : Ref sig .tc := ⟨.hbm, 156, rfl⟩
abbrev main_v130_1 : Ref sig .tc := ⟨.hbm, 157, rfl⟩
abbrev main_v130_2 : Ref sig .tc := ⟨.hbm, 158, rfl⟩
abbrev main_v130_3 : Ref sig .tc := ⟨.hbm, 159, rfl⟩
abbrev main_v130_4 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![1, 8, 17], ![false, false, false]⟩

def k0_cond3 (i : grid0.Coords) : BitVec 1 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c15_i32 : BitVec 32 := 15#32
  let v2 : BitVec 32 := Scalar.subi c15_i32 arg1
  let v3 : BitVec 32 := Scalar.select v1 arg1 v2
  let v20 : BitVec 1 := Scalar.cmpi .sgt v9 v3
  let v21 : BitVec 32 := Scalar.extui v20
  let c0_i32_5 : BitVec 32 := 0#32
  let v22 : BitVec 1 := Scalar.cmpi .ne v21 c0_i32_5
  v22

def k0_mult1 (i : grid0.Coords) : BitVec 32 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  v29
def k0_off1 (i : grid0.Coords) : Fin 2 → Nat :=
  let c0_75 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v154 : Index := Scalar.indexCast v30
  ![0, v154.toNat]
def k0_off2 (i : grid0.Coords) : Fin 2 → Nat :=
  let c128_131 : Index := 128#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v275 : Index := Scalar.indexCast v30
  ![128, v275.toNat]
def k0_off3 (i : grid0.Coords) : Fin 2 → Nat :=
  let c256_189 : Index := 256#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v396 : Index := Scalar.indexCast v30
  ![256, v396.toNat]
def k0_off4 (i : grid0.Coords) : Fin 2 → Nat :=
  let c384_237 : Index := 384#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v507 : Index := Scalar.indexCast v30
  ![384, v507.toNat]
def k0_off5 (i : grid0.Coords) : Fin 2 → Nat :=
  let c0_244 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v523 : Index := Scalar.indexCast v30
  ![0, v523.toNat]
def k0_cond4 (i : grid0.Coords) : BitVec 1 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c15_i32 : BitVec 32 := 15#32
  let v2 : BitVec 32 := Scalar.subi c15_i32 arg1
  let v3 : BitVec 32 := Scalar.select v1 arg1 v2
  let v23 : BitVec 1 := Scalar.cmpi .eq v9 v3
  let v24 : BitVec 32 := Scalar.extui v23
  let c0_i32_6 : BitVec 32 := 0#32
  let v25 : BitVec 1 := Scalar.cmpi .ne v24 c0_i32_6
  v25

def k0_mult2 (i : grid0.Coords) : BitVec 32 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  v29
def k0_off6 (i : grid0.Coords) : Fin 2 → Nat :=
  let c0_77 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v161 : Index := Scalar.indexCast v30
  ![0, v161.toNat]
def k0_off7 (i : grid0.Coords) : Fin 2 → Nat :=
  let c128_135 : Index := 128#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v286 : Index := Scalar.indexCast v30
  ![128, v286.toNat]
def k0_off8 (i : grid0.Coords) : Fin 2 → Nat :=
  let c256_195 : Index := 256#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v411 : Index := Scalar.indexCast v30
  ![256, v411.toNat]
def k0_off9 (i : grid0.Coords) : Fin 2 → Nat :=
  let c384_245 : Index := 384#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v526 : Index := Scalar.indexCast v30
  ![384, v526.toNat]
def k0_off10 (i : grid0.Coords) : Fin 2 → Nat :=
  let c0_252 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v542 : Index := Scalar.indexCast v30
  ![0, v542.toNat]
def k0_cond1 (i : grid0.Coords) : BitVec 1 :=
  let arg1 : BitVec 32 := BitVec.ofNat 32 (i 1).val
  let c0_i32 : BitVec 32 := 0#32
  let v12 : BitVec 1 := Scalar.cmpi .eq arg1 c0_i32
  let arg2 : BitVec 32 := BitVec.ofNat 32 (i 2).val
  let c0_i32_2 : BitVec 32 := 0#32
  let v13 : BitVec 1 := Scalar.cmpi .eq arg2 c0_i32_2
  let v14 : BitVec 1 := Scalar.andi v12 v13
  let v15 : BitVec 32 := Scalar.extui v14
  let c0_i32_3 : BitVec 32 := 0#32
  let v16 : BitVec 1 := Scalar.cmpi .ne v15 c0_i32_3
  v16

def k0_cond5 (i : grid0.Coords) : BitVec 1 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c15_i32_7 : BitVec 32 := 15#32
  let v26 : BitVec 1 := Scalar.cmpi .eq v9 c15_i32_7
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![arg0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v9.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v9.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  let c0_i32_2 : BitVec 32 := 0#32
  ![v3.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S512x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 1 → Memref sig .tc .vmem S8x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]
-- ==== ReferenceIdeal.lean ====
abbrev S8192x512 : Shape := ⟨2, ![8192, 512]⟩
abbrev S8x8192 : Shape := ⟨2, ![8, 8192]⟩
abbrev S8192x8x64 : Shape := ⟨3, ![8192, 8, 64]⟩
abbrev S8x8192x64 : Shape := ⟨3, ![8, 8192, 64]⟩
abbrev S_ : Shape := ⟨0, ![]⟩
abbrev S8192 : Shape := ⟨1, ![8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S512x8192 : Shape := ⟨2, ![512, 8192]⟩
abbrev S8192x8 : Shape := ⟨2, ![8192, 8]⟩
abbrev S8192x120 : Shape := ⟨2, ![8192, 120]⟩
abbrev S8192x128 : Shape := ⟨2, ![8192, 128]⟩

abbrev nBuf : Space → Nat
  | .hbm => 131
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8x8192, .f32⟩
  | 4 => ⟨S8192x512, .f32⟩
  | 5 => ⟨S8192x8x64, .bf16⟩
  | 6 => ⟨S8x8192x64, .bf16⟩
  | 7 => ⟨S8x8192x64, .f32⟩
  | 8 => ⟨S_, .f32⟩
  | 9 => ⟨S8x8192x64, .f32⟩
  | 10 => ⟨S8x8192x64, .f32⟩
  | 11 => ⟨S8192x8x64, .bf16⟩
  | 12 => ⟨S8x8192x64, .bf16⟩
  | 13 => ⟨S8x8192x64, .f32⟩
  | 14 => ⟨S8192x8x64, .bf16⟩
  | 15 => ⟨S8x8192x64, .bf16⟩
  | 16 => ⟨S8x8192x64, .f32⟩
  | 17 => ⟨S8192, .i32⟩
  | 18 => ⟨S8x8192x8192, .f32⟩
  | 19 => ⟨S8x8192x1, .f32⟩
  | 20 => ⟨S8x8192x8192, .f32⟩
  | 21 => ⟨S8x8192x8192, .f32⟩
  | 22 => ⟨S8x1x8192, .f32⟩
  | 23 => ⟨S8x8192x8192, .f32⟩
  | 24 => ⟨S8x8192x8192, .f32⟩
  | 25 => ⟨S1x8192, .i32⟩
  | 26 => ⟨S8192x1, .i32⟩
  | 27 => ⟨S8192x8192, .i32⟩
  | 28 => ⟨S8192x8192, .i32⟩
  | 29 => ⟨S8192x8192, .i1⟩
  | 30 => ⟨S_, .f32⟩
  | 31 => ⟨S_, .f32⟩
  | 32 => ⟨S8x8192x8192, .i1⟩
  | 33 => ⟨S8x8192x8192, .f32⟩
  | 34 => ⟨S8x8192x8192, .f32⟩
  | 35 => ⟨S_, .f32⟩
  | 36 => ⟨S8x8192x8192, .f32⟩
  | 37 => ⟨S_, .f32⟩
  | 38 => ⟨S8x8192, .f32⟩
  | 39 => ⟨S8x8192x1, .f32⟩
  | 40 => ⟨S8x8192x8192, .f32⟩
  | 41 => ⟨S8x8192x8192, .i1⟩
  | 42 => ⟨S8x8192x8192, .f32⟩
  | 43 => ⟨S_, .f32⟩
  | 44 => ⟨S8x8192, .f32⟩
  | 45 => ⟨S_, .f32⟩
  | 46 => ⟨S8x8192, .f32⟩
  | 47 => ⟨S8x8192, .f32⟩
  | 48 => ⟨S_, .f32⟩
  | 49 => ⟨S8x8192, .f32⟩
  | 50 => ⟨S8x8192, .i1⟩
  | 51 => ⟨S_, .f32⟩
  | 52 => ⟨S8x8192, .f32⟩
  | 53 => ⟨S8x8192, .i1⟩
  | 54 => ⟨S_, .f32⟩
  | 55 => ⟨S8x8192, .f32⟩
  | 56 => ⟨S_, .f32⟩
  | 57 => ⟨S8x8192, .f32⟩
  | 58 => ⟨S_, .f32⟩
  | 59 => ⟨S8x8192, .f32⟩
  | 60 => ⟨S8x8192, .f32⟩
  | 61 => ⟨S8x8192, .f32⟩
  | 62 => ⟨S8x8192x1, .f32⟩
  | 63 => ⟨S8x8192x8192, .f32⟩
  | 64 => ⟨S8x8192x8192, .f32⟩
  | 65 => ⟨S8x8192x8192, .f32⟩
  | 66 => ⟨S_, .f32⟩
  | 67 => ⟨S8x8192, .f32⟩
  | 68 => ⟨S8x8192x1, .f32⟩
  | 69 => ⟨S8x8192x8192, .f32⟩
  | 70 => ⟨S8x8192x8192, .f32⟩
  | 71 => ⟨S8x8192x1, .f32⟩
  | 72 => ⟨S_, .f32⟩
  | 73 => ⟨S8x8192x1, .f32⟩
  | 74 => ⟨S8x8192x1, .f32⟩
  | 75 => ⟨S8x8192x64, .f32⟩
  | 76 => ⟨S8192x8x64, .f32⟩
  | 77 => ⟨S8192x512, .f32⟩
  | 78 => ⟨S8192x8x64, .f32⟩
  | 79 => ⟨S8x8192x64, .f32⟩
  | 80 => ⟨S8x64x8192, .f32⟩
  | 81 => ⟨S8x8192x64, .f32⟩
  | 82 => ⟨S8x8192x8192, .f32⟩
  | 83 => ⟨S8x8192x8192, .f32⟩
  | 84 => ⟨S8x8192x8192, .f32⟩
  | 85 => ⟨S8x8192x8192, .f32⟩
  | 86 => ⟨S_, .f32⟩
  | 87 => ⟨S8x8192, .f32⟩
  | 88 => ⟨S8x8192x1, .f32⟩
  | 89 => ⟨S8x8192x1, .f32⟩
  | 90 => ⟨S8x8192x8192, .f32⟩
  | 91 => ⟨S8x8192x8192, .f32⟩
  | 92 => ⟨S_, .f32⟩
  | 93 => ⟨S8x8192, .f32⟩
  | 94 => ⟨S8x8192x8192, .f32⟩
  | 95 => ⟨S8x8192x8192, .f32⟩
  | 96 => ⟨S8x8192x8192, .f32⟩
  | 97 => ⟨S_, .f32⟩
  | 98 => ⟨S8x8192x8192, .f32⟩
  | 99 => ⟨S8x8192x8192, .f32⟩
  | 100 => ⟨S8x8192x8192, .f32⟩
  | 101 => ⟨S_, .f32⟩
  | 102 => ⟨S8x8192, .f32⟩
  | 103 => ⟨S8x1x8192, .f32⟩
  | 104 => ⟨S_, .f32⟩
  | 105 => ⟨S8x8192, .f32⟩
  | 106 => ⟨S_, .f32⟩
  | 107 => ⟨S8x8192, .f32⟩
  | 108 => ⟨S8x8192x1, .f32⟩
  | 109 => ⟨S_, .f32⟩
  | 110 => ⟨S8x8192, .f32⟩
  | 111 => ⟨S8x8192x64, .f32⟩
  | 112 => ⟨S8x8192x64, .f32⟩
  | 113 => ⟨S8x8192x64, .bf16⟩
  | 114 => ⟨S8192x8x64, .bf16⟩
  | 115 => ⟨S8192x512, .bf16⟩
  | 116 => ⟨S8x8192x64, .bf16⟩
  | 117 => ⟨S8192x8x64, .bf16⟩
  | 118 => ⟨S8192x512, .bf16⟩
  | 119 => ⟨S_, .f32⟩
  | 120 => ⟨S8x8192x64, .f32⟩
  | 121 => ⟨S8x8192x64, .f32⟩
  | 122 => ⟨S8x8192x64, .bf16⟩
  | 123 => ⟨S8192x8x64, .bf16⟩
  | 124 => ⟨S8192x512, .bf16⟩
  | 125 => ⟨S512x8192, .bf16⟩
  | 126 => ⟨S512x8192, .f32⟩
  | 127 => ⟨S8192x8, .f32⟩
  | _ => ⟨S8192x512, .bf16⟩

abbrev hbmTy0_1 (i : Nat) : BufTy := match i % 128 with
  | 0 => ⟨S_, .f32⟩
  | 1 => ⟨S8192x120, .f32⟩
  | 2 => ⟨S8192x128, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_v24_1 : Ref sig .tc := ⟨.hbm, 32, rfl⟩
abbrev main_call0_v2 : Ref sig .tc := ⟨.hbm, 33, rfl⟩
abbrev main_v24_0 : Ref sig .tc := ⟨.hbm, 34, rfl⟩
abbrev main_call0_cst : Ref sig .tc := ⟨.hbm, 35, rfl⟩
abbrev main_v24_2 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_18 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S8x1024x512 : Shape := ⟨3, ![8, 1024, 512]⟩
abbrev S1024x1024 : Shape := ⟨2, ![1024, 1024]⟩
abbrev S1024x4096 : Shape := ⟨2, ![1024, 4096]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S8x1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S8x512x1024 : Shape := ⟨3, ![8, 512, 1024]⟩
abbrev S1024x4096 : Shape := ⟨2, ![1024, 4096]⟩
abbrev S1024x1024 : Shape := ⟨2, ![1024, 1024]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8x512x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S8x512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S8x512x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel2.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 38
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x4096, .bf16⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S8x512x1024, .f32⟩
  | .hbm, ⟨32, _⟩ => ⟨S8x512x1024, .bf16⟩
  | .hbm, ⟨33, _⟩ => ⟨S8192x1024, .bf16⟩
  | .hbm, ⟨34, _⟩ => ⟨S8192x4096, .bf16⟩
  | .hbm, ⟨35, _⟩ => ⟨S8192x1024, .f32⟩
  | .hbm, ⟨36, _⟩ => ⟨S1x1024, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | .local _ .vmem, ⟨7, _⟩ => ⟨S512x4096, .bf16⟩
  | .local _ .vmem, ⟨8, _⟩ => ⟨S8x1024x512, .bf16⟩
  | .local _ .vmem, ⟨9, _⟩ => ⟨S8x512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S_, .f32⟩
  | .hbm, ⟨9, _⟩ => ⟨S8192x4096, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .i1⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x4096, .f32⟩
  | .hbm, ⟨90, _⟩ => ⟨S8192x4096, .f32⟩
  | .hbm, ⟨91, _⟩ => ⟨S_, .f32⟩
  | .hbm, ⟨92, _⟩ => ⟨S8192x4096, .f32⟩
  | .hbm, ⟨93, _⟩ => ⟨S8192x4096, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .bf16⟩
  | .hbm, ⟨120, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_19 : Ref sig .tc := ⟨.hbm, 109, rfl⟩
abbrev main_v81 : Ref sig .tc := ⟨.hbm, 110, rfl⟩
abbrev main_v82 : Ref sig .tc := ⟨.hbm, 111, rfl⟩
abbrev main_cst_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== Kernel5.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S8x512x1024, .f32⟩
  | .hbm, ⟨9, _⟩ => ⟨S8x512x1024, .bf16⟩
  | .hbm, ⟨10, _⟩ => ⟨S8192x1024, .bf16⟩
  | .hbm, ⟨11, _⟩ => ⟨S8192x4096, .bf16⟩
  | .hbm, ⟨12, _⟩ => ⟨S8192x1024, .f32⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .bf16⟩
  | .hbm, ⟨27, _⟩ => ⟨S8192x4096, .bf16⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proof.Base.lean ====
/-
  Names shared by the modules about the kernel's body: the resource algebra and "this buffer holds these contents".
-/
module

public import proofs.«01_k».proof.Proof.Gen.KernelIdeal
public import proofs.«01_k».proof.Proof.Gen.KernelIdeal.Frame
public import proofs.«01_k».proof.Proof.Gen.KernelIdeal.Skeleton
public import Idealize.ShloMosaic.Lib.Tactic

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents a buffer behind a memref can have on core `c`. -/
abbrev Bf (c : Dev nD) {sp : Space} {S : Shape} {e : EltTy} (M : Memref sig .tc sp S e) : Type :=
  Buf (Elt F) (M.view.loc (c : Thread nD τ))

/-- Core `c` holds the whole buffer behind `M`, with contents `f`. -/
abbrev pt (c : Dev nD) {sp : Space} {S : Shape} {e : EltTy} (M : Memref sig .tc sp S e) (f : Bf (F := F) c M) : sProp 𝕄 :=
  M.view.loc (c : Thread nD τ) ↦{fullShare} f

end Cert.Proof

end
-- ==== Proof.Grid.lean ====
/-
  The grid walks the blocks on or under the diagonal: at a grid point it takes key block `kb i` and query block `qb i`.
  Here are both as numbers, the columns the body works on, and the conditions it branches on.
-/
module

public import proofs.«01_k».proof.Proof.Base

@[expose] public section

noncomputable section

namespace Cert.Proof

open Cert.KernelIdeal Cert.KernelIdeal.Gen
open Idealize.ShloMosaic Idealize.ShloMosaic.TcCoe Idealize.ShloMosaic.Tactic

/-- The key block of a grid point. -/
abbrev kbN (a b : Nat) : Nat := if b < 16 - a then a else 15 - a
/-- The query block of a grid point. -/
abbrev qbN (a b : Nat) : Nat := if b < 16 - a then a + b else 15 - a + (b - (16 - a))

/-- The key block at grid coordinates `i`. -/
def kb (i : grid0.Coords) : Nat := kbN (i 1).val (i 2).val
/-- The query block at grid coordinates `i`. -/
def qb (i : grid0.Coords) : Nat := qbN (i 1).val (i 2).val

/-- The query block as the kernel computes it, in words. -/
def qbW (a b : Nat) : BitVec 32 :=
  let arg2 : BitVec 32 := BitVec.ofNat 32 b
  let arg1 : BitVec 32 := BitVec.ofNat 32 a
  let v0 : BitVec 32 := Scalar.subi 16#32 arg1
  let v1 : BitVec 1 := Scalar.cmpi .slt arg2 v0
  let v4 : BitVec 32 := Scalar.addi arg1 arg2
  let v5 : BitVec 32 := Scalar.subi 15#32 arg1
  let v6 : BitVec 32 := Scalar.subi 16#32 arg1
  let v7 : BitVec 32 := Scalar.subi arg2 v6
  let v8 : BitVec 32 := Scalar.addi v5 v7
  Scalar.select v1 v4 v8

/-- The first column of the query block, in words. -/
def colW (a b : Nat) : Nat := (Scalar.indexCast (Scalar.muli (qbW a b) 512#32)).toNat

/-- The key block as the kernel computes it, in words. -/
def kbW (a b : Nat) : BitVec 32 :=
  let arg2 : BitVec 32 := BitVec.ofNat 32 b
  let arg1 : BitVec 32 := BitVec.ofNat 32 a
  let v0 : BitVec 32 := Scalar.subi 16#32 arg1
  let v1 : BitVec 1 := Scalar.cmpi .slt arg2 v0
  let v2 : BitVec 32 := Scalar.subi 15#32 arg1
  Scalar.select v1 arg1 v2

theorem colW_eq : ∀ (a : Fin 8) (b : Fin 17), colW a.val b.val = 512 * qbN a.val b.val := by decide +kernel

theorem cond1W : ∀ (a : Fin 8) (b : Fin 17),
    (Scalar.cmpi .ne (Scalar.extui (Scalar.andi (Scalar.cmpi .eq (BitVec.ofNat 32 a.val) 0#32)
      (Scalar.cmpi .eq (BitVec.ofNat 32 b.val) 0#32)) : BitVec 32) 0#32 = 1#1) ↔ (a.val = 0 ∧ b.val = 0) := by
  decide +kernel
theorem cond3W : ∀ (a : Fin 8) (b : Fin 17),
    (Scalar.cmpi .ne (Scalar.extui (Scalar.cmpi .sgt (qbW a.val b.val) (kbW a.val b.val)) : BitVec 32) 0#32 = 1#1)
      ↔ kbN a.val b.val < qbN a.val b.val := by
  decide +kernel
theorem cond4W : ∀ (a : Fin 8) (b : Fin 17),
    (Scalar.cmpi .ne (Scalar.extui (Scalar.cmpi .eq (qbW a.val b.val) (kbW a.val b.val)) : BitVec 32) 0#32 = 1#1)
      ↔ qbN a.val b.val = kbN a.val b.val := by
  decide +kernel
theorem cond5W : ∀ (a : Fin 8) (b : Fin 17),
    (Scalar.cmpi .ne (Scalar.extui (Scalar.cmpi .eq (qbW a.val b.val) 15#32) : BitVec 32) 0#32 = 1#1)
      ↔ qbN a.val b.val = 15 := by
  decide +kernel
theorem block_bounds : ∀ (a : Fin 8) (b : Fin 17), kbN a.val b.val ≤ qbN a.val b.val ∧ qbN a.val b.val < 16 := by
  decide +kernel

/-- The very first grid point. -/
theorem cond1_iff (i : grid0.Coords) : k0_cond1 i = 1#1 ↔ ((i 1).val = 0 ∧ (i 2).val = 0) := cond1W (i 1) (i 2)
/-- A block under the diagonal. -/
theorem cond3_iff (i : grid0.Coords) : k0_cond3 i = 1#1 ↔ kb i < qb i := cond3W (i 1) (i 2)
/-- A block on the diagonal. -/
theorem cond4_iff (i : grid0.Coords) : k0_cond4 i = 1#1 ↔ qb i = kb i := cond4W (i 1) (i 2)
/-- The last query block. -/
theorem cond5_iff (i : grid0.Coords) : k0_cond5 i = 1#1 ↔ qb i = 15 := cond5W (i 1) (i 2)
theorem kb_le_qb (i : grid0.Coords) : kb i ≤ qb i := (block_bounds (i 1) (i 2)).1
theorem qb_lt (i : grid0.Coords) : qb i < 16 := (block_bounds (i 1) (i 2)).2
theorem kb_lt (i : grid0.Coords) : kb i < 16 := (kb_le_qb i).trans_lt (qb_lt i)

instance off1 (i : grid0.Coords) : ClosedOff (k0_off1 i) :=
  ⟨![0, 512 * qb i], by show ![0, colW (i 1).val (i 2).val] = _; rw [colW_eq (i 1) (i 2)]; rfl⟩
instance off2 (i : grid0.Coords) : ClosedOff (k0_off2 i) :=
  ⟨![128, 512 * qb i], by show ![128, colW (i 1).val (i 2).val] = _; rw [colW_eq (i 1) (i 2)]; rfl⟩
instance off3 (i : grid0.Coords) : ClosedOff (k0_off3 i) :=
  ⟨![256, 512 * qb i], by show ![256, colW (i 1).val (i 2).val] = _; rw [colW_eq (i 1) (i 2)]; rfl⟩
instance off4 (i : grid0.Coords) : ClosedOff (k0_off4 i) :=
  ⟨![384, 512 * qb i], by show ![384, colW (i 1).val (i 2).val] = _; rw [colW_eq (i 1) (i 2)]; rfl⟩
instance off5 (i : grid0.Coords) : ClosedOff (k0_off5 i) :=
  ⟨![0, 512 * qb i], by show ![0, colW (i 1).val (i 2).val] = _; rw [colW_eq (i 1) (i 2)]; rfl⟩
instance off6 (i : grid0.Coords) : ClosedOff (k0_off6 i) :=
  ⟨![0, 512 * qb i], by show ![0, colW (i 1).val (i 2).val] = _; rw [colW_eq (i 1) (i 2)]; rfl⟩
instance off7 (i : grid0.Coords) : ClosedOff (k0_off7 i) :=
  ⟨![128, 512 * qb i], by show ![128, colW (i 1).val (i 2).val] = _; rw [colW_eq (i 1) (i 2)]; rfl⟩
instance off8 (i : grid0.Coords) : ClosedOff (k0_off8 i) :=
  ⟨![256, 512 * qb i], by show ![256, colW (i 1).val (i 2).val] = _; rw [colW_eq (i 1) (i 2)]; rfl⟩
instance off9 (i : grid0.Coords) : ClosedOff (k0_off9 i) :=
  ⟨![384, 512 * qb i], by show ![384, colW (i 1).val (i 2).val] = _; rw [colW_eq (i 1) (i 2)]; rfl⟩
instance off10 (i : grid0.Coords) : ClosedOff (k0_off10 i) :=
  ⟨![0, 512 * qb i], by show ![0, colW (i 1).val (i 2).val] = _; rw [colW_eq (i 1) (i 2)]; rfl⟩

end Cert.Proof

end
-- ==== Proof.RunOff.lean ====
/-
  What the body does at a block off the diagonal whose query block is not the last.
-/
module

public import proofs.«01_k».proof.Proof.Grid

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- What the body does at a block off the diagonal whose query block is not the last.
    The contents left are the ones the run finds. -/
noncomputable def runOff (𝒱₀ : Variants) (c : Dev nD) (i : grid0.Coords) (hc1 : k0_cond1 i ≠ 1#1) (hc3 : k0_cond3 i = 1#1) (hc4 : k0_cond4 i ≠ 1#1) (hc5 : k0_cond5 i ≠ 1#1)
    (M3 : Memref sig .tc .vmem S512x1024 .bf16) (h3 : M3.IsWhole)
    (M4 : Memref sig .tc .vmem S512x1024 .bf16) (h4 : M4.IsWhole)
    (M5 : Memref sig .tc .vmem S512x512 .bf16) (h5 : M5.IsWhole)
    (M6 : Memref sig .tc .vmem S512x2048 .bf16) (h6 : M6.IsWhole)
    (M7 : Memref sig .tc .vmem S512x2048 .bf16) (h7 : M7.IsWhole)
    (M8 : Memref sig .tc .vmem S8x128 .f32) (h8 : M8.IsWhole)
    (M9 : Memref sig .tc .vmem S512x8192 .f32) (h9 : M9.IsWhole)
    (M10 : Memref sig .tc .vmem S8x8192 .f32) (h10 : M10.IsWhole)
    (M11 : Memref sig .tc .vmem S512x512 .bf16) (h11 : M11.IsWhole)
    (M12 : Memref sig .tc .vmem S512x512 .bf16) (h12 : M12.IsWhole)
    (M13 : Memref sig .tc .vmem S512x128 .f32) (h13 : M13.IsWhole)
    (M14 : Memref sig .tc .vmem S512x512 .f32) (h14 : M14.IsWhole)
    (M15 : Memref sig .tc .vmem S512x512 .f32) (h15 : M15.IsWhole)
    (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M9 × Bf (F := F) c M10 × Bf (F := F) c M14 × Bf (F := F) c M15 × Bf (F := F) c M16 //
      ∀ (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (iprop(pt c M3 f3 ∗ pt c M4 f4 ∗ pt c M5 f5 ∗ pt c M6 f6 ∗ pt c M7 f7 ∗ pt c M8 f8 ∗ pt c M9 (W.1) ∗ pt c M10 (W.2.1) ∗ pt c M11 f11 ∗ pt c M12 f12 ∗ pt c M13 f13 ∗ pt c M14 (W.2.2.1) ∗ pt c M15 (W.2.2.2.1) ∗ pt c M16 (W.2.2.2.2)) -∗ Q ⟨⟩))
        ⊢ wp frame (wpE (defs₀ (F := F)) 𝒱₀ c none) E
            (cc0_attn_bwd i M3 h3 M4 h4 M5 h5 M6 h6 M7 h7 M8 h8 M9 h9 M10 h10 M11 h11 M12 h12 M13 h13 M14 h14 M15 h15 M16 h16) Q } := by
  refine ⟨⟨?_, ?_, ?_, ?_, ?_⟩, fun E Q => ?run⟩
  case run =>
    iintro ⟨H3, H4, H5, H6, H7, H8, H9, H10, H11, H12, H13, H14, H15, H16, Hk⟩
    sl_exec_parts!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof

end
-- ==== Proof.Over.lean ====
/-
  Writing a rectangle into an array of values and reading a rectangle out of it, on functions of indices; and how a
  buffer's view reads after a list of stores, in these terms.
-/
module

public import Idealize.ShloMosaic.Lib.Tactic
public import Idealize.ShloMosaic.Lib.Writes

@[expose] public section

noncomputable section

namespace Cert.Proof

open Idealize.ShloMosaic

variable {s : Shape} {e : EltTy} {Val : EltTy → Type}

/-- `x` with the rectangle `r` overwritten by `w`. -/
def over (r : Rect s) (w : r.shape.Idx → Val e) (x : s.Idx → Val e) : s.Idx → Val e :=
  fun y => open Classical in if h : ∃ j, r.emb j = y then w h.choose else x y

/-- The rectangle `r` of `x`. -/
def cut (r : Rect s) (x : s.Idx → Val e) : r.toLoadRect.shape.Idx → Val e := fun j => x (r.toLoadRect.idx j)

theorem over_hit (r : Rect s) (w : r.shape.Idx → Val e) (x : s.Idx → Val e) (j : r.shape.Idx) :
    over r w x (r.emb j) = w j := by
  have h : ∃ j', r.emb j' = r.emb j := ⟨j, rfl⟩
  unfold over
  rw [dif_pos h]
  exact congrArg w (r.emb.injective h.choose_spec)

theorem over_miss (r : Rect s) (w : r.shape.Idx → Val e) (x : s.Idx → Val e) (y : s.Idx) (hy : y ∉ r.set) :
    over r w x y = x y := by
  unfold over
  rw [dif_neg]
  rintro ⟨j, rfl⟩
  exact hy (r.idx_mem j)

/-- A view after a store reads the store's payload over what it read before. -/
theorem read_writes_over {sig : RefSig} {κ : Kind} {sp : Space} (v : View sig κ sp s e) (f : v.ty.Contents Val)
    (p : View.Piece Val s e) (L : List (View.Piece Val s e)) :
    v.read Val (v.writes Val f (p :: L)) = over p.1 p.2 (v.read Val (v.writes Val f L)) := by
  obtain ⟨r, w⟩ := p
  funext y
  by_cases hy : y ∈ r.set
  · obtain ⟨j, rfl⟩ := r.exists_idx_of_mem hy
    exact (View.read_writes_cons_emb v f r w L j).trans (over_hit r w _ j).symm
  · rw [View.read_writes_cons_miss v f ⟨r, w⟩ L y hy, over_miss r w _ y hy]

theorem readAt_cut {sig : RefSig} {κ : Kind} {sp : Space} (v : View sig κ sp s e) (r : Rect s) (f : v.ty.Contents Val) :
    v.readAt Val r.toLoadRect f = cut r (v.read Val f) := rfl

/-- Reading a rectangle apart from the one just written. -/
theorem cut_over_of_axis (r r' : Rect s) (w : r.shape.Idx → Val e) (x : s.Idx → Val e) (a : Fin s.rank)
    (hst : r.stride a = 1) (hst' : r'.stride a = 1)
    (h : r'.off a + r'.size a ≤ r.off a ∨ r.off a + r.size a ≤ r'.off a) : cut r' (over r w x) = cut r' x := by
  funext j
  refine over_miss r w x _ (r.not_mem_set_of_axis _ a (r.off a) (r.size a) rfl hst rfl ?_)
  have hj : ((r'.toLoadRect.idx j) a).val = r'.off a + r'.stride a * (j a).val := rfl
  have hlt : (j a).val < r'.size a := (j a).isLt
  rw [hj, hst', Nat.one_mul]
  omega

/-- Reading the rectangle just written. -/
theorem cut_over_self (r : Rect s) (w : r.shape.Idx → Val e) (x : s.Idx → Val e) : cut r (over r w x) = w :=
  funext fun j => over_hit r w x j

/-- Overwriting everything. -/
theorem over_whole (inb : ∀ a, (fun _ => 0 : Fin s.rank → Nat) a + s.size a ≤ s.size a) (w : s.Idx → Val e) (x : s.Idx → Val e) :
    over (Rect.unit (s := s) (fun _ => 0) s.size inb) w x = w := by
  funext y
  have := over_hit (Rect.unit (s := s) (fun _ => 0) s.size inb) w x y
  rwa [show (Rect.unit (s := s) (fun _ => 0) s.size inb).emb y = y from Rect.emb_eq_of_coords _ _ _ fun a => by
    show (y a).val = 0 + 1 * (y a).val; omega] at this

/-- Reading everything. -/
theorem cut_whole (inb : ∀ a, (fun _ => 0 : Fin s.rank → Nat) a + s.size a ≤ s.size a) (x : s.Idx → Val e) :
    cut (Rect.unit (s := s) (fun _ => 0) s.size inb) x = x := by
  funext y
  refine congrArg x (Rect.emb_eq_of_coords (Rect.unit (s := s) (fun _ => 0) s.size inb) _ _ fun a => ?_)
  show (y a).val = 0 + 1 * (y a).val; omega

end Cert.Proof

end
-- ==== Proof.Step.lean ====
/-
  What one grid point does, as a function of its five blocks of operands and of the five accumulators, over any float
  operations.  For each of the eight heads: the logits of the keys' rows against the queries' rows, the probabilities,
  the gradient of the logits, and from those the contributions to the five gradients.
-/
module

public import proofs.«01_k».proof.Proof.Grid
public import proofs.«01_k».proof.Proof.Over

@[expose] public section

noncomputable section

namespace Cert.Proof

open Cert.KernelIdeal Cert.KernelIdeal.Gen
open Idealize.ShloMosaic Idealize.ShloMosaic.TcCoe Idealize.ShloMosaic.Tactic

variable {F : FTy → Type} [FloatOps F]

/-- The operands' blocks at a grid point: keys, values, transposed keys, queries, output gradients. -/
structure Blk (F : FTy → Type) where
  K : Vec F S512x1024 .bf16
  V : Vec F S512x1024 .bf16
  Kt : Vec F S512x512 .bf16
  Q : Vec F S512x2048 .bf16
  W : Vec F S512x2048 .bf16

/-- The accumulators: the queries' gradient (transposed), its logit biases', the keys', the values', the keys' biases'. -/
@[ext] structure St (F : FTy → Type) where
  dq : Vec F S512x8192 .f32
  dc : Vec F S8x8192 .f32
  dk : Vec F S512x512 .f32
  dv : Vec F S512x512 .f32
  dck : Vec F S512x128 .f32

/-- The 256 columns of pair `p`. -/
abbrev kcol (p : Fin 4) : Rect S512x1024 :=
  Rect.unit (s := S512x1024) ![0, 256 * p.val] S512x256.size (by have := p.isLt; intro a; fin_cases a <;> simp <;> omega)
/-- The 256 columns of head `n`. -/
abbrev qcol (n : Fin 8) : Rect S512x2048 :=
  Rect.unit (s := S512x2048) ![0, 256 * n.val] S512x256.size (by have := n.isLt; intro a; fin_cases a <;> simp <;> omega)
/-- The 128 columns of pair `p`. -/
abbrev lanes (p : Fin 4) : Rect S512x512 :=
  Rect.unit (s := S512x512) ![0, 128 * p.val] S512x128.size (by have := p.isLt; intro a; fin_cases a <;> simp <;> omega)
/-- The 128 rows of pair `p`. -/
abbrev krow (p : Fin 4) : Rect S512x512 :=
  Rect.unit (s := S512x512) ![128 * p.val, 0] S128x512.size (by have := p.isLt; intro a; fin_cases a <;> simp <;> omega)
/-- Pair `p`'s rows of the transposed queries' gradient, at the query block `b`. -/
abbrev qtile (p : Fin 4) (b : Nat) (hb : b < 16) : Rect S512x8192 :=
  Rect.unit (s := S512x8192) ![128 * p.val, 512 * b] S128x512.size (by have := p.isLt; intro a; fin_cases a <;> simp <;> omega)
/-- The columns of the query block `b` in the queries' biases. -/
abbrev ctile (b : Nat) (hb : b < 16) : Rect S8x8192 :=
  Rect.unit (s := S8x8192) ![0, 512 * b] S8x512.size (by intro a; fin_cases a <;> simp <;> omega)

/-- The pair of head `n`. -/
abbrev pairOf (n : Fin 8) : Fin 4 := ⟨n.val / 2, by omega⟩
/-- Pair `p`'s first head. -/
abbrev headA (p : Fin 4) : Fin 8 := ⟨2 * p.val, by omega⟩
/-- Pair `p`'s second head. -/
abbrev headB (p : Fin 4) : Fin 8 := ⟨2 * p.val + 1, by omega⟩

/-- A 512 × 256 block as loaded. -/
abbrev ld (x : Vec F S512x256 .bf16) : FVec F S512x256 .bf16 := shapeCast S512x256 x shapeCasts_S512x256_S512x256

/-- Rows against rows. -/
def nt (a b : Vec F S512x256 .bf16) : FVec F S512x512 .f32 :=
  matmul dot_S512x256_S512x256_S512x512_1_1_0_0_n_n none (ld a) (ld b) (constant S512x512 .f32 0x00000000#32)

/-- The logits' exponents of head `n`, keys down and queries across. -/
def logp (B : Blk F) (n : Fin 8) : FVec F S512x512 .f32 := nt (cut (kcol (pairOf n)) B.K) (cut (qcol n) B.Q)
/-- The output gradients against the values, less the row sums. -/
def dpv (B : Blk F) (n : Fin 8) : FVec F S512x512 .f32 := nt (cut (kcol (pairOf n)) B.V) (cut (qcol n) B.W)

/-- Keys at or before the query, in a block on the diagonal. -/
def causal : IVec S512x512 1 :=
  cmpi .sle (iota .tc S512x512 32 [0] iota_S512x512_d0_w32) (iota .tc S512x512 32 [1] iota_S512x512_d1_w32)

/-- The probabilities: on the diagonal (`mk`) the later keys have none. -/
def prob (mk : Bool) (l : FVec F S512x512 .f32) : FVec F S512x512 .f32 :=
  match mk with
  | false => exp l
  | true => select causal (exp l) (broadcast S512x512 (Scalar.ofBits .f32 0x00000000#32 : F .f32))

/-- The gradient of the logits of head `n`. -/
def dsc (mk : Bool) (B : Blk F) (n : Fin 8) : FVec F S512x512 .f32 := mulf (prob mk (logp B n)) (dpv B n)

/-- A 512 × 512 block times the first 128 columns of a loaded block. -/
def nnl (a : FVec F S512x512 .bf16) (w : Vec F S512x256 .bf16) : FVec F S512x128 .f32 :=
  matmul dot_S512x512_S512x128_S512x128_1_0_0_1_n_n none a
    (extractStridedSlice S512x128 ![0, 0] (ld w) slices_S512x256_o0_0_S512x128) (constant S512x128 .f32 0x00000000#32)

/-- Zeros to accumulate 512 × 128 into. -/
def z128 : FVec F S512x128 .f32 := broadcast S512x128 (Scalar.ofBits .f32 0x00000000#32 : F .f32)
/-- Zeros to accumulate 8 × 512 into. -/
def z8 : FVec F S8x512 .f32 := broadcast S8x512 (Scalar.ofBits .f32 0x00000000#32 : F .f32)

/-- Pair `p`'s contribution to the values' gradient. -/
def dvPair (mk : Bool) (B : Blk F) (p : Fin 4) : FVec F S512x128 .f32 :=
  addf (addf z128 (nnl (truncf .bf16 (prob mk (logp B (headA p))) bitsLt_bf16_f32) (cut (qcol (headA p)) B.W)))
    (nnl (truncf .bf16 (prob mk (logp B (headB p))) bitsLt_bf16_f32) (cut (qcol (headB p)) B.W))
/-- Pair `p`'s contribution to the keys' gradient. -/
def dkPair (mk : Bool) (B : Blk F) (p : Fin 4) : FVec F S512x128 .f32 :=
  addf (addf z128 (nnl (truncf .bf16 (dsc mk B (headA p)) bitsLt_bf16_f32) (cut (qcol (headA p)) B.Q)))
    (nnl (truncf .bf16 (dsc mk B (headB p)) bitsLt_bf16_f32) (cut (qcol (headB p)) B.Q))
/-- Pair `p`'s keys, transposed and scaled. -/
def ktPair (B : Blk F) (p : Fin 4) : FVec F S128x512 .bf16 :=
  mulf (shapeCast S128x512 (cut (krow p) B.Kt) shapeCasts_S128x512_S128x512)
    (broadcast S128x512 (Scalar.ofBits .bf16 0x3E00#16 : F .bf16))
/-- The queries' gradient of head `n`, transposed. -/
def dqHead (mk : Bool) (B : Blk F) (p : Fin 4) (n : Fin 8) : FVec F S128x512 .f32 :=
  matmul dot_S128x512_S512x512_S128x512_1_0_0_1_n_n none (ktPair B p) (truncf .bf16 (dsc mk B n) bitsLt_bf16_f32)
    (constant S128x512 .f32 0x00000000#32)
/-- Pair `p`'s contribution to the queries' gradient: the first head's rows, then the second's. -/
def dqPair (mk : Bool) (B : Blk F) (p : Fin 4) : FVec F S128x512 .f32 :=
  select (broadcastTo S128x512 (shapeCast S128x1 (cmpi .slt (iota .tc S128x1 32 [0] iota_S128x1_d0_w32) (broadcast S128x1 64#32))
    shapeCasts_S128x1_S128x1) broadcasts_S128x1_S128x512) (dqHead mk B p (headA p)) (dqHead mk B p (headB p))

/-- Head `n`'s row of sums over the keys, the other rows zero. -/
def colSum (mk : Bool) (B : Blk F) (n : Fin 8) : FVec F S8x512 .f32 :=
  select (broadcastTo S8x512 (shapeCast S8x1 (cmpi .eq (iota .tc S8x1 32 [0] iota_S8x1_d0_w32) (broadcast S8x1 (BitVec.ofNat 32 n.val)))
      shapeCasts_S8x1_S8x1) broadcasts_S8x1_S8x512)
    (broadcastTo S8x512 (shapeCast S1x512 (shapeCast S1x512 (multiReduction .add [0] S512 (dsc mk B n) 0x00000000#32
      reduces_S512x512_S512 (.inl rfl) rfl) shapeCasts_S512_S1x512) shapeCasts_S1x512_S1x512) broadcasts_S1x512_S8x512)
    (broadcast S8x512 (Scalar.ofBits .f32 0x00000000#32 : F .f32))
/-- Head `n`'s column of sums over the queries, the other columns zero. -/
def rowSum (mk : Bool) (B : Blk F) (n : Fin 8) : FVec F S512x128 .f32 :=
  select (broadcastTo S512x128 (shapeCast S1x128 (cmpi .eq (iota .tc S1x128 32 [1] iota_S1x128_d1_w32) (broadcast S1x128 (BitVec.ofNat 32 n.val)))
      shapeCasts_S1x128_S1x128) broadcasts_S1x128_S512x128)
    (broadcastTo S512x128 (shapeCast S512x1 (shapeCast S512x1 (multiReduction .add [1] S512 (dsc mk B n) 0x00000000#32
      reduces_S512x512_S512_2 (.inl rfl) rfl) shapeCasts_S512_S512x1) shapeCasts_S512x1_S512x1) broadcasts_S512x1_S512x128)
    (broadcast S512x128 (Scalar.ofBits .f32 0x00000000#32 : F .f32))

/-- The eight heads' contributions to the queries' biases. -/
def dcqAll (mk : Bool) (B : Blk F) : FVec F S8x512 .f32 :=
  addf (addf (addf (addf (addf (addf (addf (addf z8 (colSum mk B 0)) (colSum mk B 1)) (colSum mk B 2)) (colSum mk B 3))
    (colSum mk B 4)) (colSum mk B 5)) (colSum mk B 6)) (colSum mk B 7)
/-- The eight heads' contributions to the keys' biases. -/
def dckAll (mk : Bool) (B : Blk F) : FVec F S512x128 .f32 :=
  subf (subf (subf (subf (subf (subf (subf (subf z128 (rowSum mk B 0)) (rowSum mk B 1)) (rowSum mk B 2)) (rowSum mk B 3))
    (rowSum mk B 4)) (rowSum mk B 5)) (rowSum mk B 6)) (rowSum mk B 7)

/-- Pair `p`'s tile of the queries' gradient after the point. -/
def putQ (mk : Bool) (B : Blk F) (b : Nat) (hb : b < 16) (x : Vec F S512x8192 .f32) (p : Fin 4) : FVec F S128x512 .f32 :=
  addf (shapeCast S128x512 (cut (qtile p b hb) x) shapeCasts_S128x512_S128x512) (dqPair mk B p)
/-- The queries' gradient after the point. -/
def nextQ (mk : Bool) (B : Blk F) (b : Nat) (hb : b < 16) (x : Vec F S512x8192 .f32) : Vec F S512x8192 .f32 :=
  over (Val := Elt F) (e := .f32) (qtile 3 b hb) (putQ mk B b hb x 3)
    (over (Val := Elt F) (e := .f32) (qtile 2 b hb) (putQ mk B b hb x 2)
    (over (Val := Elt F) (e := .f32) (qtile 1 b hb) (putQ mk B b hb x 1)
    (over (Val := Elt F) (e := .f32) (qtile 0 b hb) (putQ mk B b hb x 0) x)))
/-- The queries' biases after the point. -/
def nextC (mk : Bool) (B : Blk F) (b : Nat) (hb : b < 16) (x : Vec F S8x8192 .f32) : Vec F S8x8192 .f32 :=
  over (Val := Elt F) (e := .f32) (ctile b hb) (addf (shapeCast S8x512 (cut (ctile b hb) x) shapeCasts_S8x512_S8x512) (dcqAll mk B)) x
/-- Pair `p`'s columns of the keys' gradient after the point. -/
def putK (y : FVec F S512x128 .f32) (x : Vec F S512x512 .f32) (p : Fin 4) : FVec F S512x128 .f32 :=
  shapeCast S512x128 (addf (cut (lanes p) x) y) shapeCasts_S512x128_S512x128
/-- A 512 × 512 accumulator after the point, from the four pairs' contributions. -/
def nextK (y : Fin 4 → FVec F S512x128 .f32) (x : Vec F S512x512 .f32) : Vec F S512x512 .f32 :=
  over (Val := Elt F) (e := .f32) (lanes 3) (putK (y 3) x 3) (over (Val := Elt F) (e := .f32) (lanes 2) (putK (y 2) x 2)
    (over (Val := Elt F) (e := .f32) (lanes 1) (putK (y 1) x 1) (over (Val := Elt F) (e := .f32) (lanes 0) (putK (y 0) x 0) x)))

/-- The accumulators after a grid point at query block `b`. -/
def step (mk : Bool) (B : Blk F) (b : Nat) (hb : b < 16) (s : St F) : St F where
  dq := nextQ mk B b hb s.dq
  dc := nextC mk B b hb s.dc
  dk := nextK (dkPair mk B) s.dk
  dv := nextK (dvPair mk B) s.dv
  dck := shapeCast S512x128 (addf s.dck (dckAll mk B)) shapeCasts_S512x128_S512x128

/-- The keys' accumulators set to zero. -/
def clearK (s : St F) : St F :=
  { s with
    dk := shapeCast S512x512 (broadcast S512x512 (Scalar.ofBits .f32 0x00000000#32 : F .f32)) shapeCasts_S512x512_S512x512
    dv := shapeCast S512x512 (broadcast S512x512 (Scalar.ofBits .f32 0x00000000#32 : F .f32)) shapeCasts_S512x512_S512x512
    dck := shapeCast S512x128 (broadcast S512x128 (Scalar.ofBits .f32 0x00000000#32 : F .f32)) shapeCasts_S512x128_S512x128 }

/-- The queries' accumulators set to zero. -/
def clearQ (s : St F) : St F :=
  { s with
    dq := broadcast S512x8192 (Scalar.ofBits .f32 0x00000000#32 : F .f32)
    dc := broadcast S8x8192 (Scalar.ofBits .f32 0x00000000#32 : F .f32) }

end Cert.Proof

end
-- ==== Proof.ReadLib.lean ====
/-
  What the accumulators read after the body's stores, in the terms of `Step`: rectangles at equal offsets, rectangles
  that cover an accumulator, and the blocks and accumulators that a set of buffers holds.
-/
module

public import proofs.«01_k».proof.Proof.Step

@[expose] public section

noncomputable section

namespace Cert.Proof

open Cert.KernelIdeal Cert.KernelIdeal.Gen
open Idealize.ShloMosaic Idealize.ShloMosaic.TcCoe Idealize.ShloMosaic.Tactic

variable {F : FTy → Type} [FloatOps F]

section
variable {s : Shape} {e : EltTy} {Val : EltTy → Type}

theorem over_at {off off' size : Fin s.rank → Nat} (h : off = off') (inb : ∀ a, off a + size a ≤ s.size a)
    (inb' : ∀ a, off' a + size a ≤ s.size a) (w : (⟨s.rank, size⟩ : Shape).Idx → Val e) (x : s.Idx → Val e) :
    over (Rect.unit off size inb) w x = over (Rect.unit off' size inb') w x := by subst h; rfl

theorem cut_at {off off' size : Fin s.rank → Nat} (h : off = off') (inb : ∀ a, off a + size a ≤ s.size a)
    (inb' : ∀ a, off' a + size a ≤ s.size a) (x : s.Idx → Val e) :
    (cut (Rect.unit off size inb) x : (⟨s.rank, size⟩ : Shape).Idx → Val e) = cut (Rect.unit off' size inb') x := by subst h; rfl

theorem over_all {off : Fin s.rank → Nat} (h : off = fun _ => 0) (inb : ∀ a, off a + s.size a ≤ s.size a)
    (w : s.Idx → Val e) (x : s.Idx → Val e) : over (Rect.unit off s.size inb) w x = w := by subst h; exact over_whole _ _ _

theorem cut_all {off : Fin s.rank → Nat} (h : off = fun _ => 0) (inb : ∀ a, off a + s.size a ≤ s.size a)
    (x : s.Idx → Val e) : cut (Rect.unit off s.size inb) x = x := by subst h; exact cut_whole _ _
end

theorem zero2 : (![0, 0] : Fin 2 → Nat) = fun _ => 0 := by decide

/-- Four pairs' columns are all the columns. -/
theorem lanes_cover (w0 w1 w2 w3 : FVec F S512x128 .f32) (x x' : Vec F S512x512 .f32) :
    over (Val := Elt F) (e := .f32) (lanes 3) w3 (over (Val := Elt F) (e := .f32) (lanes 2) w2
      (over (Val := Elt F) (e := .f32) (lanes 1) w1 (over (Val := Elt F) (e := .f32) (lanes 0) w0 x)))
    = over (Val := Elt F) (e := .f32) (lanes 3) w3 (over (Val := Elt F) (e := .f32) (lanes 2) w2
      (over (Val := Elt F) (e := .f32) (lanes 1) w1 (over (Val := Elt F) (e := .f32) (lanes 0) w0 x'))) := by
  have key : ∀ (p : Fin 4) (w : FVec F S512x128 .f32) (u u' : Vec F S512x512 .f32) (y : S512x512.Idx),
      (y ∈ (lanes p).set ∨ u y = u' y) →
      over (Val := Elt F) (e := .f32) (lanes p) w u y = over (Val := Elt F) (e := .f32) (lanes p) w u' y := by
    intro p w u u' y h
    by_cases hy : y ∈ (lanes p).set
    · obtain ⟨j, rfl⟩ := (lanes p).exists_idx_of_mem hy
      exact (over_hit (Val := Elt F) (e := .f32) (lanes p) w u j).trans (over_hit (Val := Elt F) (e := .f32) (lanes p) w u' j).symm
    · rw [over_miss _ _ _ _ hy, over_miss _ _ _ _ hy]
      exact h.resolve_left hy
  have cover : ∀ y : S512x512.Idx, y ∈ (lanes 0).set ∨ y ∈ (lanes 1).set ∨ y ∈ (lanes 2).set ∨ y ∈ (lanes 3).set := by
    intro y
    have h0 : (y 0).val < 512 := (y 0).isLt
    have h1 : (y 1).val < 512 := (y 1).isLt
    have mem : ∀ p : Fin 4, 128 * p.val ≤ (y 1).val → (y 1).val < 128 * p.val + 128 → y ∈ (lanes p).set := by
      intro p hl hu
      rw [Rect.mem_set_unit]
      intro a
      match a with
      | ⟨0, _⟩ => exact ⟨Nat.zero_le _, by show (y 0).val < 0 + 512; omega⟩
      | ⟨1, _⟩ => exact ⟨hl, hu⟩
    have e0 := mem 0; have e1 := mem 1; have e2 := mem 2; have e3 := mem 3
    simp only [show (0 : Fin 4).val = 0 from rfl, show (1 : Fin 4).val = 1 from rfl, show (2 : Fin 4).val = 2 from rfl,
      show (3 : Fin 4).val = 3 from rfl] at e0 e1 e2 e3
    rcases Nat.lt_or_ge (y 1).val 128 with h | h
    · exact .inl (e0 (by omega) (by omega))
    · rcases Nat.lt_or_ge (y 1).val 256 with h | h
      · exact .inr (.inl (e1 (by omega) (by omega)))
      · rcases Nat.lt_or_ge (y 1).val 384 with h | h
        · exact .inr (.inr (.inl (e2 (by omega) (by omega))))
        · exact .inr (.inr (.inr (e3 (by omega) (by omega))))
  funext y
  apply key
  rcases cover y with h | h | h | h
  · exact .inr (key _ _ _ _ _ (.inr (key _ _ _ _ _ (.inr (key _ _ _ _ _ (.inl h))))))
  · exact .inr (key _ _ _ _ _ (.inr (key _ _ _ _ _ (.inl h))))
  · exact .inr (key _ _ _ _ _ (.inl h))
  · exact .inl h

/-- The blocks that five buffers hold. -/
abbrev blkOf (c : Dev nD) (M3 M4 : Memref sig .tc .vmem S512x1024 .bf16) (M5 : Memref sig .tc .vmem S512x512 .bf16)
    (M6 M7 : Memref sig .tc .vmem S512x2048 .bf16) (f3 : Bf (F := F) c M3) (f4 : Bf (F := F) c M4) (f5 : Bf (F := F) c M5)
    (f6 : Bf (F := F) c M6) (f7 : Bf (F := F) c M7) : Blk F :=
  ⟨M3.view.read (Elt F) f3, M4.view.read (Elt F) f4, M5.view.read (Elt F) f5, M6.view.read (Elt F) f6, M7.view.read (Elt F) f7⟩

/-- The accumulators that five buffers hold. -/
abbrev stOf (c : Dev nD) (M9 : Memref sig .tc .vmem S512x8192 .f32) (M10 : Memref sig .tc .vmem S8x8192 .f32)
    (M14 M15 : Memref sig .tc .vmem S512x512 .f32) (M16 : Memref sig .tc .vmem S512x128 .f32) (f9 : Bf (F := F) c M9)
    (f10 : Bf (F := F) c M10) (f14 : Bf (F := F) c M14) (f15 : Bf (F := F) c M15) (f16 : Bf (F := F) c M16) : St F :=
  ⟨M9.view.read (Elt F) f9, M10.view.read (Elt F) f10, M14.view.read (Elt F) f14, M15.view.read (Elt F) f15,
    M16.view.read (Elt F) f16⟩

/-- `nextK` with each pair's columns read after the pairs before it were written. -/
def seqK (y : Fin 4 → FVec F S512x128 .f32) (x : Vec F S512x512 .f32) : Vec F S512x512 .f32 :=
  let x1 : Vec F S512x512 .f32 := over (Val := Elt F) (e := .f32) (lanes 0) (putK (y 0) x 0) x
  let x2 : Vec F S512x512 .f32 := over (Val := Elt F) (e := .f32) (lanes 1) (putK (y 1) x1 1) x1
  let x3 : Vec F S512x512 .f32 := over (Val := Elt F) (e := .f32) (lanes 2) (putK (y 2) x2 2) x2
  over (Val := Elt F) (e := .f32) (lanes 3) (putK (y 3) x3 3) x3

theorem cut_lanes (p q : Fin 4) (h : q < p) (w : FVec F S512x128 .f32) (x : Vec F S512x512 .f32) :
    cut (lanes p) (over (Val := Elt F) (e := .f32) (lanes q) w x) = cut (lanes p) x :=
  cut_over_of_axis (Val := Elt F) (e := .f32) (lanes q) (lanes p) w x 1 rfl rfl
    (.inr (show 128 * q.val + 128 ≤ 128 * p.val by have : q.val < p.val := h; omega))

theorem seqK_eq (y : Fin 4 → FVec F S512x128 .f32) (x : Vec F S512x512 .f32) : seqK y x = nextK y x := by
  simp only [seqK, nextK, putK]
  rw [cut_lanes 3 2 (by decide), cut_lanes 3 1 (by decide), cut_lanes 3 0 (by decide), cut_lanes 2 1 (by decide),
    cut_lanes 2 0 (by decide), cut_lanes 1 0 (by decide)]

/-- `nextQ` with each pair's tile read after the pairs before it were written. -/
def seqQ (mk : Bool) (B : Blk F) (b : Nat) (hb : b < 16) (x : Vec F S512x8192 .f32) : Vec F S512x8192 .f32 :=
  let x1 : Vec F S512x8192 .f32 := over (Val := Elt F) (e := .f32) (qtile 0 b hb) (putQ mk B b hb x 0) x
  let x2 : Vec F S512x8192 .f32 := over (Val := Elt F) (e := .f32) (qtile 1 b hb) (putQ mk B b hb x1 1) x1
  let x3 : Vec F S512x8192 .f32 := over (Val := Elt F) (e := .f32) (qtile 2 b hb) (putQ mk B b hb x2 2) x2
  over (Val := Elt F) (e := .f32) (qtile 3 b hb) (putQ mk B b hb x3 3) x3

theorem cut_qtile (p q : Fin 4) (b : Nat) (hb : b < 16) (h : q < p) (w : FVec F S128x512 .f32) (x : Vec F S512x8192 .f32) :
    cut (qtile p b hb) (over (Val := Elt F) (e := .f32) (qtile q b hb) w x) = cut (qtile p b hb) x :=
  cut_over_of_axis (Val := Elt F) (e := .f32) (qtile q b hb) (qtile p b hb) w x 0 rfl rfl
    (.inr (show 128 * q.val + 128 ≤ 128 * p.val by have : q.val < p.val := h; omega))

theorem seqQ_eq (mk : Bool) (B : Blk F) (b : Nat) (hb : b < 16) (x : Vec F S512x8192 .f32) :
    seqQ mk B b hb x = nextQ mk B b hb x := by
  simp only [seqQ, nextQ, putQ]
  rw [cut_qtile 3 2 b hb (by decide), cut_qtile 3 1 b hb (by decide), cut_qtile 3 0 b hb (by decide),
    cut_qtile 2 1 b hb (by decide), cut_qtile 2 0 b hb (by decide), cut_qtile 1 0 b hb (by decide)]

/-- A tile of the queries' gradient, written at an offset that the body computes: `x` is the array that the tile's old
    values are read from, `u` the one that is overwritten. -/
theorem put_tile (mk : Bool) (B : Blk F) (b : Nat) (hb : b < 16) (p : Fin 4) {off : Fin 2 → Nat} (h : off = ![128 * p.val, 512 * b])
    (inb : ∀ a, off a + S128x512.size a ≤ S512x8192.size a) (x u : Vec F S512x8192 .f32) :
    over (Val := Elt F) (e := .f32) (Rect.unit (s := S512x8192) off S128x512.size inb)
      (addf (shapeCast S128x512 (cut (Rect.unit (s := S512x8192) off S128x512.size inb) x : Vec F S128x512 .f32)
        shapeCasts_S128x512_S128x512) (dqPair mk B p) : FVec F S128x512 .f32) u
    = over (Val := Elt F) (e := .f32) (qtile p b hb) (putQ mk B b hb x p) u := by
  subst h; rfl

/-- The queries' biases, written at an offset that the body computes. -/
theorem put_cols (mk : Bool) (B : Blk F) (b : Nat) (hb : b < 16) {off : Fin 2 → Nat} (h : off = ![0, 512 * b])
    (inb : ∀ a, off a + S8x512.size a ≤ S8x8192.size a) (x : Vec F S8x8192 .f32) :
    over (Val := Elt F) (e := .f32) (Rect.unit (s := S8x8192) off S8x512.size inb)
      (addf (shapeCast S8x512 (cut (Rect.unit (s := S8x8192) off S8x512.size inb) x : Vec F S8x512 .f32)
        shapeCasts_S8x512_S8x512) (dcqAll mk B) : FVec F S8x512 .f32) x
    = nextC mk B b hb x := by
  subst h; rfl

end Cert.Proof

end
-- ==== Proof.ReadOff.lean ====
/-
  What the accumulators hold after a block off the diagonal whose query block is not the last.
-/
module

public import proofs.«01_k».proof.Proof.RunOff
public import proofs.«01_k».proof.Proof.ReadLib

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic
open Idealize.SL Idealize.SL.Sem

variable {F : FTy → Type} [FloatOps F]

variable (𝒱₀ : Variants) (c : Dev nD) (i : grid0.Coords) (hc1 : k0_cond1 i ≠ 1#1) (hc3 : k0_cond3 i = 1#1) (hc4 : k0_cond4 i ≠ 1#1) (hc5 : k0_cond5 i ≠ 1#1)
    (M3 : Memref sig .tc .vmem S512x1024 .bf16) (h3 : M3.IsWhole) (M4 : Memref sig .tc .vmem S512x1024 .bf16) (h4 : M4.IsWhole)
    (M5 : Memref sig .tc .vmem S512x512 .bf16) (h5 : M5.IsWhole) (M6 : Memref sig .tc .vmem S512x2048 .bf16) (h6 : M6.IsWhole)
    (M7 : Memref sig .tc .vmem S512x2048 .bf16) (h7 : M7.IsWhole) (M8 : Memref sig .tc .vmem S8x128 .f32) (h8 : M8.IsWhole)
    (M9 : Memref sig .tc .vmem S512x8192 .f32) (h9 : M9.IsWhole) (M10 : Memref sig .tc .vmem S8x8192 .f32) (h10 : M10.IsWhole)
    (M11 : Memref sig .tc .vmem S512x512 .bf16) (h11 : M11.IsWhole) (M12 : Memref sig .tc .vmem S512x512 .bf16) (h12 : M12.IsWhole)
    (M13 : Memref sig .tc .vmem S512x128 .f32) (h13 : M13.IsWhole) (M14 : Memref sig .tc .vmem S512x512 .f32) (h14 : M14.IsWhole)
    (M15 : Memref sig .tc .vmem S512x512 .f32) (h15 : M15.IsWhole) (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)

local notation "B" => blkOf c M3 M4 M5 M6 M7 f3 f4 f5 f6 f7

theorem runOff_dk : M14.view.read (Elt F) (M14.view.writes (Elt F) M14.view.junk (runOff.sl.H14_4 c M3 M4 M6 M7 M14 f3 f4 f6 f7 f14))
      = nextK (dkPair false B) (M14.view.read (Elt F) f14) := by
  rw [runOff.sl.H14_4, read_writes_over, runOff.sl.H14_3, read_writes_over, runOff.sl.H14_2, read_writes_over,
    runOff.sl.H14_1, read_writes_over]
  exact lanes_cover _ _ _ _ _ _

theorem runOff_dv : M15.view.read (Elt F) (M15.view.writes (Elt F) M15.view.junk (runOff.sl.H15_4 c M3 M6 M7 M15 f3 f6 f7 f15))
      = nextK (dvPair false B) (M15.view.read (Elt F) f15) := by
  rw [runOff.sl.H15_4, read_writes_over, runOff.sl.H15_3, read_writes_over, runOff.sl.H15_2, read_writes_over,
    runOff.sl.H15_1, read_writes_over]
  exact lanes_cover _ _ _ _ _ _

theorem runOff_dck : M16.view.read (Elt F) (M16.view.writes (Elt F) M16.view.junk (runOff.sl.H16_1 c M3 M4 M6 M7 M16 f3 f4 f6 f7 f16))
      = (step false (blkOf c M3 M4 M5 M6 M7 f3 f4 f5 f6 f7) (qb i) (qb_lt i) (stOf c M9 M10 M14 M15 M16 f9 f10 f14 f15 f16)).dck := by
  rw [runOff.sl.H16_1, read_writes_over]
  refine (over_all (Val := Elt F) (e := .f32) zero2 inb_S512x128_S512x128_0_0 _ _).trans ?_
  refine congrArg (fun z : FVec F S512x128 .f32 => shapeCast S512x128 (addf z (dckAll false B)) shapeCasts_S512x128_S512x128) ?_
  exact cut_all (Val := Elt F) (e := .f32) zero2 inb_S512x128_S512x128_0_0 _

theorem runOff_dq : M9.view.read (Elt F) ((runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = (step false (blkOf c M3 M4 M5 M6 M7 f3 f4 f5 f6 f7) (qb i) (qb_lt i) (stOf c M9 M10 M14 M15 M16 f9 f10 f14 f15 f16)).dq := by
  refine (read_writes_over (Val := Elt F) _ _ _ _).trans ?_
  refine (put_tile false B (qb i) (qb_lt i) 3 (off4 i).eq _ (M9.view.read (Elt F) f9) _).trans ?_
  refine congrArg (over (Val := Elt F) (e := .f32) (qtile 3 (qb i) (qb_lt i)) _) ?_
  refine (read_writes_over (Val := Elt F) _ _ _ _).trans ?_
  refine (put_tile false B (qb i) (qb_lt i) 2 (off3 i).eq _ (M9.view.read (Elt F) f9) _).trans ?_
  refine congrArg (over (Val := Elt F) (e := .f32) (qtile 2 (qb i) (qb_lt i)) _) ?_
  refine (read_writes_over (Val := Elt F) _ _ _ _).trans ?_
  refine (put_tile false B (qb i) (qb_lt i) 1 (off2 i).eq _ (M9.view.read (Elt F) f9) _).trans ?_
  refine congrArg (over (Val := Elt F) (e := .f32) (qtile 1 (qb i) (qb_lt i)) _) ?_
  refine (read_writes_over (Val := Elt F) _ _ _ _).trans ?_
  exact put_tile false B (qb i) (qb_lt i) 0 (off1 i).eq _ (M9.view.read (Elt F) f9) _

theorem runOff_dc : M10.view.read (Elt F) ((runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = (step false (blkOf c M3 M4 M5 M6 M7 f3 f4 f5 f6 f7) (qb i) (qb_lt i) (stOf c M9 M10 M14 M15 M16 f9 f10 f14 f15 f16)).dc := by
  refine (read_writes_over (Val := Elt F) _ _ _ _).trans ?_
  exact put_cols false B (qb i) (qb_lt i) (off5 i).eq _ (M10.view.read (Elt F) f10)

/-- The accumulators that the run leaves. -/
theorem runOff_reads : let s := step false (blkOf c M3 M4 M5 M6 M7 f3 f4 f5 f6 f7) (qb i) (qb_lt i) (stOf c M9 M10 M14 M15 M16 f9 f10 f14 f15 f16)
    M9.view.read (Elt F) ((runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = s.dq
    ∧ M10.view.read (Elt F) ((runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = s.dc
    ∧ M14.view.read (Elt F) ((runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.1) = s.dk
    ∧ M15.view.read (Elt F) ((runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.1) = s.dv
    ∧ M16.view.read (Elt F) ((runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2) = s.dck := by
  intro s
  refine ⟨runOff_dq .., runOff_dc .., runOff_dk .., runOff_dv .., runOff_dck ..⟩

end Cert.Proof

end
-- ==== Proof.RunOffLast.lean ====
/-
  What the body does at a block off the diagonal whose query block is the last.
-/
module

public import proofs.«01_k».proof.Proof.Grid

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- What the body does at a block off the diagonal whose query block is the last.
    The contents left are the ones the run finds. -/
noncomputable def runOffLast (𝒱₀ : Variants) (c : Dev nD) (i : grid0.Coords) (hc1 : k0_cond1 i ≠ 1#1) (hc3 : k0_cond3 i = 1#1) (hc4 : k0_cond4 i ≠ 1#1) (hc5 : k0_cond5 i = 1#1)
    (M3 : Memref sig .tc .vmem S512x1024 .bf16) (h3 : M3.IsWhole)
    (M4 : Memref sig .tc .vmem S512x1024 .bf16) (h4 : M4.IsWhole)
    (M5 : Memref sig .tc .vmem S512x512 .bf16) (h5 : M5.IsWhole)
    (M6 : Memref sig .tc .vmem S512x2048 .bf16) (h6 : M6.IsWhole)
    (M7 : Memref sig .tc .vmem S512x2048 .bf16) (h7 : M7.IsWhole)
    (M8 : Memref sig .tc .vmem S8x128 .f32) (h8 : M8.IsWhole)
    (M9 : Memref sig .tc .vmem S512x8192 .f32) (h9 : M9.IsWhole)
    (M10 : Memref sig .tc .vmem S8x8192 .f32) (h10 : M10.IsWhole)
    (M11 : Memref sig .tc .vmem S512x512 .bf16) (h11 : M11.IsWhole)
    (M12 : Memref sig .tc .vmem S512x512 .bf16) (h12 : M12.IsWhole)
    (M13 : Memref sig .tc .vmem S512x128 .f32) (h13 : M13.IsWhole)
    (M14 : Memref sig .tc .vmem S512x512 .f32) (h14 : M14.IsWhole)
    (M15 : Memref sig .tc .vmem S512x512 .f32) (h15 : M15.IsWhole)
    (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M9 × Bf (F := F) c M10 × Bf (F := F) c M11 × Bf (F := F) c M12 × Bf (F := F) c M13 × Bf (F := F) c M14 × Bf (F := F) c M15 × Bf (F := F) c M16 //
      ∀ (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (iprop(pt c M3 f3 ∗ pt c M4 f4 ∗ pt c M5 f5 ∗ pt c M6 f6 ∗ pt c M7 f7 ∗ pt c M8 f8 ∗ pt c M9 (W.1) ∗ pt c M10 (W.2.1) ∗ pt c M11 (W.2.2.1) ∗ pt c M12 (W.2.2.2.1) ∗ pt c M13 (W.2.2.2.2.1) ∗ pt c M14 (W.2.2.2.2.2.1) ∗ pt c M15 (W.2.2.2.2.2.2.1) ∗ pt c M16 (W.2.2.2.2.2.2.2)) -∗ Q ⟨⟩))
        ⊢ wp frame (wpE (defs₀ (F := F)) 𝒱₀ c none) E
            (cc0_attn_bwd i M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_, ?_⟩, fun E Q => ?run⟩
  case run =>
    iintro ⟨H3, H4, H5, H6, H7, H8, H9, H10, H11, H12, H13, H14, H15, H16, Hk⟩
    sl_exec_parts!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof

end
-- ==== Proof.ReadOffLast.lean ====
/-
  What the accumulators and the written blocks hold after a block off the diagonal whose query block is the last.
-/
module

public import proofs.«01_k».proof.Proof.RunOffLast
public import proofs.«01_k».proof.Proof.ReadLib

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic
open Idealize.SL Idealize.SL.Sem

variable {F : FTy → Type} [FloatOps F]

variable (𝒱₀ : Variants) (c : Dev nD) (i : grid0.Coords) (hc1 : k0_cond1 i ≠ 1#1) (hc3 : k0_cond3 i = 1#1) (hc4 : k0_cond4 i ≠ 1#1) (hc5 : k0_cond5 i = 1#1)
    (M3 : Memref sig .tc .vmem S512x1024 .bf16) (h3 : M3.IsWhole) (M4 : Memref sig .tc .vmem S512x1024 .bf16) (h4 : M4.IsWhole)
    (M5 : Memref sig .tc .vmem S512x512 .bf16) (h5 : M5.IsWhole) (M6 : Memref sig .tc .vmem S512x2048 .bf16) (h6 : M6.IsWhole)
    (M7 : Memref sig .tc .vmem S512x2048 .bf16) (h7 : M7.IsWhole) (M8 : Memref sig .tc .vmem S8x128 .f32) (h8 : M8.IsWhole)
    (M9 : Memref sig .tc .vmem S512x8192 .f32) (h9 : M9.IsWhole) (M10 : Memref sig .tc .vmem S8x8192 .f32) (h10 : M10.IsWhole)
    (M11 : Memref sig .tc .vmem S512x512 .bf16) (h11 : M11.IsWhole) (M12 : Memref sig .tc .vmem S512x512 .bf16) (h12 : M12.IsWhole)
    (M13 : Memref sig .tc .vmem S512x128 .f32) (h13 : M13.IsWhole) (M14 : Memref sig .tc .vmem S512x512 .f32) (h14 : M14.IsWhole)
    (M15 : Memref sig .tc .vmem S512x512 .f32) (h15 : M15.IsWhole) (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)

local notation "B" => blkOf c M3 M4 M5 M6 M7 f3 f4 f5 f6 f7

theorem runOffLast_dk : M14.view.read (Elt F) (M14.view.writes (Elt F) M14.view.junk (runOffLast.sl.H14_4 c M3 M4 M6 M7 M14 f3 f4 f6 f7 f14))
      = nextK (dkPair false B) (M14.view.read (Elt F) f14) := by
  rw [runOffLast.sl.H14_4, read_writes_over, runOffLast.sl.H14_3, read_writes_over, runOffLast.sl.H14_2, read_writes_over,
    runOffLast.sl.H14_1, read_writes_over]
  exact lanes_cover _ _ _ _ _ _

theorem runOffLast_dv : M15.view.read (Elt F) (M15.view.writes (Elt F) M15.view.junk (runOffLast.sl.H15_4 c M3 M6 M7 M15 f3 f6 f7 f15))
      = nextK (dvPair false B) (M15.view.read (Elt F) f15) := by
  rw [runOffLast.sl.H15_4, read_writes_over, runOffLast.sl.H15_3, read_writes_over, runOffLast.sl.H15_2, read_writes_over,
    runOffLast.sl.H15_1, read_writes_over]
  exact lanes_cover _ _ _ _ _ _

theorem runOffLast_dck : M16.view.read (Elt F) (M16.view.writes (Elt F) M16.view.junk (runOffLast.sl.H16_1 c M3 M4 M6 M7 M16 f3 f4 f6 f7 f16))
      = (step false (blkOf c M3 M4 M5 M6 M7 f3 f4 f5 f6 f7) (qb i) (qb_lt i) (stOf c M9 M10 M14 M15 M16 f9 f10 f14 f15 f16)).dck := by
  rw [runOffLast.sl.H16_1, read_writes_over]
  refine (over_all (Val := Elt F) (e := .f32) zero2 inb_S512x128_S512x128_0_0 _ _).trans ?_
  refine congrArg (fun z : FVec F S512x128 .f32 => shapeCast S512x128 (addf z (dckAll false B)) shapeCasts_S512x128_S512x128) ?_
  exact cut_all (Val := Elt F) (e := .f32) zero2 inb_S512x128_S512x128_0_0 _

theorem runOffLast_dq : M9.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = (step false (blkOf c M3 M4 M5 M6 M7 f3 f4 f5 f6 f7) (qb i) (qb_lt i) (stOf c M9 M10 M14 M15 M16 f9 f10 f14 f15 f16)).dq := by
  refine (read_writes_over (Val := Elt F) _ _ _ _).trans ?_
  refine (put_tile false B (qb i) (qb_lt i) 3 (off4 i).eq _ (M9.view.read (Elt F) f9) _).trans ?_
  refine congrArg (over (Val := Elt F) (e := .f32) (qtile 3 (qb i) (qb_lt i)) _) ?_
  refine (read_writes_over (Val := Elt F) _ _ _ _).trans ?_
  refine (put_tile false B (qb i) (qb_lt i) 2 (off3 i).eq _ (M9.view.read (Elt F) f9) _).trans ?_
  refine congrArg (over (Val := Elt F) (e := .f32) (qtile 2 (qb i) (qb_lt i)) _) ?_
  refine (read_writes_over (Val := Elt F) _ _ _ _).trans ?_
  refine (put_tile false B (qb i) (qb_lt i) 1 (off2 i).eq _ (M9.view.read (Elt F) f9) _).trans ?_
  refine congrArg (over (Val := Elt F) (e := .f32) (qtile 1 (qb i) (qb_lt i)) _) ?_
  refine (read_writes_over (Val := Elt F) _ _ _ _).trans ?_
  exact put_tile false B (qb i) (qb_lt i) 0 (off1 i).eq _ (M9.view.read (Elt F) f9) _

theorem runOffLast_dc : M10.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = (step false (blkOf c M3 M4 M5 M6 M7 f3 f4 f5 f6 f7) (qb i) (qb_lt i) (stOf c M9 M10 M14 M15 M16 f9 f10 f14 f15 f16)).dc := by
  refine (read_writes_over (Val := Elt F) _ _ _ _).trans ?_
  exact put_cols false B (qb i) (qb_lt i) (off5 i).eq _ (M10.view.read (Elt F) f10)

/-- The accumulators and the written blocks that the run leaves. -/
theorem runOffLast_reads : let s := step false (blkOf c M3 M4 M5 M6 M7 f3 f4 f5 f6 f7) (qb i) (qb_lt i) (stOf c M9 M10 M14 M15 M16 f9 f10 f14 f15 f16)
    M9.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = s.dq
    ∧ M10.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = s.dc
    ∧ M14.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.2.1) = s.dk
    ∧ M15.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.2.2.1) = s.dv
    ∧ M16.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.2.2.2) = s.dck
    ∧ M11.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.1) = truncf .bf16 s.dk bitsLt_bf16_f32
    ∧ M12.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.1) = truncf .bf16 s.dv bitsLt_bf16_f32
    ∧ M13.view.read (Elt F) ((runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.1) = s.dck := by
  intro s
  refine ⟨runOffLast_dq .., runOffLast_dc .., runOffLast_dk .., runOffLast_dv .., runOffLast_dck .., ?_, ?_, ?_⟩
  · refine (read_writes_over (Val := Elt F) _ _ _ _).trans ((over_all (Val := Elt F) zero2 inb_S512x512_S512x512_0_0 _ _).trans ?_)
    refine congrArg (fun z : FVec F S512x512 .f32 => truncf .bf16 z bitsLt_bf16_f32) ?_
    exact (cut_all (Val := Elt F) (e := .f32) zero2 inb_S512x512_S512x512_0_0 _).trans (runOffLast_dk ..)
  · refine (read_writes_over (Val := Elt F) _ _ _ _).trans ((over_all (Val := Elt F) zero2 inb_S512x512_S512x512_0_0 _ _).trans ?_)
    refine congrArg (fun z : FVec F S512x512 .f32 => truncf .bf16 z bitsLt_bf16_f32) ?_
    exact (cut_all (Val := Elt F) (e := .f32) zero2 inb_S512x512_S512x512_0_0 _).trans (runOffLast_dv ..)
  · refine (read_writes_over (Val := Elt F) _ _ _ _).trans ((over_all (Val := Elt F) zero2 inb_S512x128_S512x128_0_0 _ _).trans ?_)
    have e : cut (Val := Elt F) (e := .f32) (Rect.unit ![0, 0] S512x128.size inb_S512x128_S512x128_0_0) (M16.view.read (Elt F) (M16.view.writes (Elt F) M16.view.junk (runOffLast.sl.H16_1 c M3 M4 M6 M7 M16 f3 f4 f6 f7 f16))) = s.dck :=
      (cut_all (Val := Elt F) (e := .f32) (s := S512x128) zero2 inb_S512x128_S512x128_0_0 _).trans (runOffLast_dck ..)
    exact e

end Cert.Proof

end
-- ==== Proof.RunFirst.lean ====
/-
  What the body does at the first grid point: a block on the diagonal, everything set to zero first.
-/
module

public import proofs.«01_k».proof.Proof.Grid

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- What the body does at the first grid point: a block on the diagonal, everything set to zero first.
    The contents left are the ones the run finds. -/
noncomputable def runFirst (𝒱₀ : Variants) (c : Dev nD) (i : grid0.Coords) (hc1 : k0_cond1 i = 1#1) (hc3 : k0_cond3 i ≠ 1#1) (hc4 : k0_cond4 i = 1#1) (hc5 : k0_cond5 i ≠ 1#1)
    (M3 : Memref sig .tc .vmem S512x1024 .bf16) (h3 : M3.IsWhole)
    (M4 : Memref sig .tc .vmem S512x1024 .bf16) (h4 : M4.IsWhole)
    (M5 : Memref sig .tc .vmem S512x512 .bf16) (h5 : M5.IsWhole)
    (M6 : Memref sig .tc .vmem S512x2048 .bf16) (h6 : M6.IsWhole)
    (M7 : Memref sig .tc .vmem S512x2048 .bf16) (h7 : M7.IsWhole)
    (M8 : Memref sig .tc .vmem S8x128 .f32) (h8 : M8.IsWhole)
    (M9 : Memref sig .tc .vmem S512x8192 .f32) (h9 : M9.IsWhole)
    (M10 : Memref sig .tc .vmem S8x8192 .f32) (h10 : M10.IsWhole)
    (M11 : Memref sig .tc .vmem S512x512 .bf16) (h11 : M11.IsWhole)
    (M12 : Memref sig .tc .vmem S512x512 .bf16) (h12 : M12.IsWhole)
    (M13 : Memref sig .tc .vmem S512x128 .f32) (h13 : M13.IsWhole)
    (M14 : Memref sig .tc .vmem S512x512 .f32) (h14 : M14.IsWhole)
    (M15 : Memref sig .tc .vmem S512x512 .f32) (h15 : M15.IsWhole)
    (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M9 × Bf (F := F) c M10 × Bf (F := F) c M14 × Bf (F := F) c M15 × Bf (F := F) c M16 //
      ∀ (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (iprop(pt c M3 f3 ∗ pt c M4 f4 ∗ pt c M5 f5 ∗ pt c M6 f6 ∗ pt c M7 f7 ∗ pt c M8 f8 ∗ pt c M9 (W.1) ∗ pt c M10 (W.2.1) ∗ pt c M11 f11 ∗ pt c M12 f12 ∗ pt c M13 f13 ∗ pt c M14 (W.2.2.1) ∗ pt c M15 (W.2.2.2.1) ∗ pt c M16 (W.2.2.2.2)) -∗ Q ⟨⟩))
        ⊢ wp frame (wpE (defs₀ (F := F)) 𝒱₀ c none) E
            (cc0_attn_bwd i M3 h3 M4 h4 M5 h5 M6 h6 M7 h7 M8 h8 M9 h9 M10 h10 M11 h11 M12 h12 M13 h13 M14 h14 M15 h15 M16 h16) Q } := by
  refine ⟨⟨?_, ?_, ?_, ?_, ?_⟩, fun E Q => ?run⟩
  case run =>
    iintro ⟨H3, H4, H5, H6, H7, H8, H9, H10, H11, H12, H13, H14, H15, H16, Hk⟩
    sl_exec_parts! (disch := first | exact hc4 | assumption)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof

end
-- ==== Proof.ReadFirst.lean ====
/-
  What the accumulators hold after the first grid point.
-/
module

public import proofs.«01_k».proof.Proof.RunFirst
public import proofs.«01_k».proof.Proof.ReadLib

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic
open Idealize.SL Idealize.SL.Sem

variable {F : FTy → Type} [FloatOps F]

variable (𝒱₀ : Variants) (c : Dev nD) (i : grid0.Coords) (hc1 : k0_cond1 i = 1#1) (hc3 : k0_cond3 i ≠ 1#1) (hc4 : k0_cond4 i = 1#1) (hc5 : k0_cond5 i ≠ 1#1)
    (M3 : Memref sig .tc .vmem S512x1024 .bf16) (h3 : M3.IsWhole) (M4 : Memref sig .tc .vmem S512x1024 .bf16) (h4 : M4.IsWhole)
    (M5 : Memref sig .tc .vmem S512x512 .bf16) (h5 : M5.IsWhole) (M6 : Memref sig .tc .vmem S512x2048 .bf16) (h6 : M6.IsWhole)
    (M7 : Memref sig .tc .vmem S512x2048 .bf16) (h7 : M7.IsWhole) (M8 : Memref sig .tc .vmem S8x128 .f32) (h8 : M8.IsWhole)
    (M9 : Memref sig .tc .vmem S512x8192 .f32) (h9 : M9.IsWhole) (M10 : Memref sig .tc .vmem S8x8192 .f32) (h10 : M10.IsWhole)
    (M11 : Memref sig .tc .vmem S512x512 .bf16) (h11 : M11.IsWhole) (M12 : Memref sig .tc .vmem S512x512 .bf16) (h12 : M12.IsWhole)
    (M13 : Memref sig .tc .vmem S512x128 .f32) (h13 : M13.IsWhole) (M14 : Memref sig .tc .vmem S512x512 .f32) (h14 : M14.IsWhole)
    (M15 : Memref sig .tc .vmem S512x512 .f32) (h15 : M15.IsWhole) (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)

local notation "B" => blkOf c M3 M4 M5 M6 M7 f3 f4 f5 f6 f7

theorem runFirst_dk : M14.view.read (Elt F) (M14.view.writes (Elt F) M14.view.junk (runFirst.sl.H14_5 c M3 M4 M6 M7 M14 f3 f4 f6 f7))
      = nextK (dkPair true B) (clearK (stOf c M9 M10 M14 M15 M16 f9 f10 f14 f15 f16)).dk := by
  have e1 : M14.view.read (Elt F) (M14.view.writes (Elt F) M14.view.junk runFirst.sl.H14_1)
      = (clearK (stOf c M9 M10 M14 M15 M16 f9 f10 f14 f15 f16)).dk :=
    (read_writes_over (Val := Elt F) _ _ _ _).trans (over_all (Val := Elt F) (e := .f32) zero2 inb_S512x512_S512x512_0_0 _ _)
  have e2 : (M14.view.read (Elt F) (M14.view.writes (Elt F) M14.view.junk (runFirst.sl.H14_2 c M3 M4 M6 M7 M14 f3 f4 f6 f7))) = over (Val := Elt F) (e := .f32) (lanes 0) (putK (dkPair true B 0) (M14.view.read (Elt F) (M14.view.writes (Elt F) M14.view.junk (runFirst.sl.H14_1 ))) 0) (M14.view.read (Elt F) (M14.view.writes (Elt F) M14.view.junk (runFirst.sl.H14_1 ))) :=
    read_writes_over (Val := Elt F) _ _ _ _
  have e3 : (M14.view.read (Elt F) (M14.view.writes (Elt F) M14.view.junk (runFirst.sl.H14_3 c M3 M4 M6 M7 M14 f3 f4 f6 f7))) = over (Val := Elt F) (e := .f32) (lanes 1) (putK (dkPair true B 1) (M14.view.read (Elt F) (M14.view.writes (Elt F) M14.view.junk (runFirst.sl.H14_2 c M3 M4 M6 M7 M14 f3 f4 f6 f7))) 1) (M14.view.read (Elt F) (M14.view.writes (Elt F) M14.view.junk (runFirst.sl.H14_2 c M3 M4 M6 M7 M14 f3 f4 f6 f7))) :=
    read_writes_over (Val := Elt F) _ _ _ _
  have e4 : (M14.view.read (Elt F) (M14.view.writes (Elt F) M14.view.junk (runFirst.sl.H14_4 c M3 M4 M6 M7 M14 f3 f4 f6 f7))) = over (Val := Elt F) (e := .f32) (lanes 2) (putK (dkPair true B 2) (M14.view.read (Elt F) (M14.view.writes (Elt F) M14.view.junk (runFirst.sl.H14_3 c M3 M4 M6 M7 M14 f3 f4 f6 f7))) 2) (M14.view.read (Elt F) (M14.view.writes (Elt F) M14.view.junk (runFirst.sl.H14_3 c M3 M4 M6 M7 M14 f3 f4 f6 f7))) :=
    read_writes_over (Val := Elt F) _ _ _ _
  have e5 : (M14.view.read (Elt F) (M14.view.writes (Elt F) M14.view.junk (runFirst.sl.H14_5 c M3 M4 M6 M7 M14 f3 f4 f6 f7))) = over (Val := Elt F) (e := .f32) (lanes 3) (putK (dkPair true B 3) (M14.view.read (Elt F) (M14.view.writes (Elt F) M14.view.junk (runFirst.sl.H14_4 c M3 M4 M6 M7 M14 f3 f4 f6 f7))) 3) (M14.view.read (Elt F) (M14.view.writes (Elt F) M14.view.junk (runFirst.sl.H14_4 c M3 M4 M6 M7 M14 f3 f4 f6 f7))) :=
    read_writes_over (Val := Elt F) _ _ _ _
  rw [e5, e4, e3, e2, e1]
  exact seqK_eq _ _

theorem runFirst_dv : M15.view.read (Elt F) (M15.view.writes (Elt F) M15.view.junk (runFirst.sl.H15_5 c M3 M6 M7 M15 f3 f6 f7))
      = nextK (dvPair true B) (clearK (stOf c M9 M10 M14 M15 M16 f9 f10 f14 f15 f16)).dv := by
  have e1 : M15.view.read (Elt F) (M15.view.writes (Elt F) M15.view.junk runFirst.sl.H15_1)
      = (clearK (stOf c M9 M10 M14 M15 M16 f9 f10 f14 f15 f16)).dv :=
    (read_writes_over (Val := Elt F) _ _ _ _).trans (over_all (Val := Elt F) (e := .f32) zero2 inb_S512x512_S512x512_0_0 _ _)
  have e2 : (M15.view.read (Elt F) (M15.view.writes (Elt F) M15.view.junk (runFirst.sl.H15_2 c M3 M6 M7 M15 f3 f6 f7))) = over (Val := Elt F) (e := .f32) (lanes 0) (putK (dvPair true B 0) (M15.view.read (Elt F) (M15.view.writes (Elt F) M15.view.junk (runFirst.sl.H15_1 ))) 0) (M15.view.read (Elt F) (M15.view.writes (Elt F) M15.view.junk (runFirst.sl.H15_1 ))) :=
    read_writes_over (Val := Elt F) _ _ _ _
  have e3 : (M15.view.read (Elt F) (M15.view.writes (Elt F) M15.view.junk (runFirst.sl.H15_3 c M3 M6 M7 M15 f3 f6 f7))) = over (Val := Elt F) (e := .f32) (lanes 1) (putK (dvPair true B 1) (M15.view.read (Elt F) (M15.view.writes (Elt F) M15.view.junk (runFirst.sl.H15_2 c M3 M6 M7 M15 f3 f6 f7))) 1) (M15.view.read (Elt F) (M15.view.writes (Elt F) M15.view.junk (runFirst.sl.H15_2 c M3 M6 M7 M15 f3 f6 f7))) :=
    read_writes_over (Val := Elt F) _ _ _ _
  have e4 : (M15.view.read (Elt F) (M15.view.writes (Elt F) M15.view.junk (runFirst.sl.H15_4 c M3 M6 M7 M15 f3 f6 f7))) = over (Val := Elt F) (e := .f32) (lanes 2) (putK (dvPair true B 2) (M15.view.read (Elt F) (M15.view.writes (Elt F) M15.view.junk (runFirst.sl.H15_3 c M3 M6 M7 M15 f3 f6 f7))) 2) (M15.view.read (Elt F) (M15.view.writes (Elt F) M15.view.junk (runFirst.sl.H15_3 c M3 M6 M7 M15 f3 f6 f7))) :=
    read_writes_over (Val := Elt F) _ _ _ _
  have e5 : (M15.view.read (Elt F) (M15.view.writes (Elt F) M15.view.junk (runFirst.sl.H15_5 c M3 M6 M7 M15 f3 f6 f7))) = over (Val := Elt F) (e := .f32) (lanes 3) (putK (dvPair true B 3) (M15.view.read (Elt F) (M15.view.writes (Elt F) M15.view.junk (runFirst.sl.H15_4 c M3 M6 M7 M15 f3 f6 f7))) 3) (M15.view.read (Elt F) (M15.view.writes (Elt F) M15.view.junk (runFirst.sl.H15_4 c M3 M6 M7 M15 f3 f6 f7))) :=
    read_writes_over (Val := Elt F) _ _ _ _
  rw [e5, e4, e3, e2, e1]
  exact seqK_eq _ _

theorem runFirst_dck : M16.view.read (Elt F) (M16.view.writes (Elt F) M16.view.junk (runFirst.sl.H16_2 c M3 M4 M6 M7 M16 f3 f4 f6 f7))
      = (step true (blkOf c M3 M4 M5 M6 M7 f3 f4 f5 f6 f7) (qb i) (qb_lt i) (clearQ (clearK (stOf c M9 M10 M14 M15 M16 f9 f10 f14 f15 f16)))).dck := by
  rw [runFirst.sl.H16_2, read_writes_over]
  refine (over_all (Val := Elt F) (e := .f32) zero2 inb_S512x128_S512x128_0_0 _ _).trans ?_
  refine congrArg (fun z : FVec F S512x128 .f32 => shapeCast S512x128 (addf z (dckAll true B)) shapeCasts_S512x128_S512x128) ?_
  exact (cut_all (Val := Elt F) (e := .f32) zero2 inb_S512x128_S512x128_0_0 _).trans
    ((read_writes_over (Val := Elt F) _ _ _ _).trans (over_all (Val := Elt F) (e := .f32) zero2 inb_S512x128_S512x128_0_0 _ _))

theorem runFirst_dq : M9.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = (step true (blkOf c M3 M4 M5 M6 M7 f3 f4 f5 f6 f7) (qb i) (qb_lt i) (clearQ (clearK (stOf c M9 M10 M14 M15 M16 f9 f10 f14 f15 f16)))).dq := by
  have e1 : M9.view.read (Elt F) (M9.view.writes (Elt F) M9.view.junk runFirst.sl.H9_1) = (clearQ (clearK (stOf c M9 M10 M14 M15 M16 f9 f10 f14 f15 f16))).dq :=
    (read_writes_over (Val := Elt F) _ _ _ _).trans (over_all (Val := Elt F) (e := .f32) zero2 inb_S512x8192_S512x8192_0_0 _ _)
  have e2 : (M9.view.read (Elt F) (M9.view.writes (Elt F) M9.view.junk (runFirst.sl.H9_2 c i hc4 M3 M4 M5 M6 M7 M9 f3 f4 f5 f6 f7))) = over (Val := Elt F) (e := .f32) (qtile 0 (qb i) (qb_lt i)) (putQ true B (qb i) (qb_lt i) (M9.view.read (Elt F) (M9.view.writes (Elt F) M9.view.junk (runFirst.sl.H9_1 ))) 0) (M9.view.read (Elt F) (M9.view.writes (Elt F) M9.view.junk (runFirst.sl.H9_1 ))) :=
    (read_writes_over (Val := Elt F) _ _ _ _).trans (put_tile true B (qb i) (qb_lt i) 0 (off6 i).eq _ (M9.view.read (Elt F) (M9.view.writes (Elt F) M9.view.junk runFirst.sl.H9_1)) (M9.view.read (Elt F) (M9.view.writes (Elt F) M9.view.junk runFirst.sl.H9_1)))
  have e3 : (M9.view.read (Elt F) (M9.view.writes (Elt F) M9.view.junk (runFirst.sl.H9_3 c i hc4 M3 M4 M5 M6 M7 M9 f3 f4 f5 f6 f7))) = over (Val := Elt F) (e := .f32) (qtile 1 (qb i) (qb_lt i)) (putQ true B (qb i) (qb_lt i) (M9.view.read (Elt F) (M9.view.writes (Elt F) M9.view.junk (runFirst.sl.H9_2 c i hc4 M3 M4 M5 M6 M7 M9 f3 f4 f5 f6 f7))) 1) (M9.view.read (Elt F) (M9.view.writes (Elt F) M9.view.junk (runFirst.sl.H9_2 c i hc4 M3 M4 M5 M6 M7 M9 f3 f4 f5 f6 f7))) :=
    (read_writes_over (Val := Elt F) _ _ _ _).trans (put_tile true B (qb i) (qb_lt i) 1 (off7 i).eq _ (M9.view.read (Elt F) (M9.view.writes (Elt F) M9.view.junk (runFirst.sl.H9_2 c i hc4 M3 M4 M5 M6 M7 M9 f3 f4 f5 f6 f7))) (M9.view.read (Elt F) (M9.view.writes (Elt F) M9.view.junk (runFirst.sl.H9_2 c i hc4 M3 M4 M5 M6 M7 M9 f3 f4 f5 f6 f7))))
  have e4 : (M9.view.read (Elt F) (M9.view.writes (Elt F) M9.view.junk (runFirst.sl.H9_4 c i hc4 M3 M4 M5 M6 M7 M9 f3 f4 f5 f6 f7))) = over (Val := Elt F) (e := .f32) (qtile 2 (qb i) (qb_lt i)) (putQ true B (qb i) (qb_lt i) (M9.view.read (Elt F) (M9.view.writes (Elt F) M9.view.junk (runFirst.sl.H9_3 c i hc4 M3 M4 M5 M6 M7 M9 f3 f4 f5 f6 f7))) 2) (M9.view.read (Elt F) (M9.view.writes (Elt F) M9.view.junk (runFirst.sl.H9_3 c i hc4 M3 M4 M5 M6 M7 M9 f3 f4 f5 f6 f7))) :=
    (read_writes_over (Val := Elt F) _ _ _ _).trans (put_tile true B (qb i) (qb_lt i) 2 (off8 i).eq _ (M9.view.read (Elt F) (M9.view.writes (Elt F) M9.view.junk (runFirst.sl.H9_3 c i hc4 M3 M4 M5 M6 M7 M9 f3 f4 f5 f6 f7))) (M9.view.read (Elt F) (M9.view.writes (Elt F) M9.view.junk (runFirst.sl.H9_3 c i hc4 M3 M4 M5 M6 M7 M9 f3 f4 f5 f6 f7))))
  have e5 : M9.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = over (Val := Elt F) (e := .f32) (qtile 3 (qb i) (qb_lt i)) (putQ true B (qb i) (qb_lt i) (M9.view.read (Elt F) (M9.view.writes (Elt F) M9.view.junk (runFirst.sl.H9_4 c i hc4 M3 M4 M5 M6 M7 M9 f3 f4 f5 f6 f7))) 3) (M9.view.read (Elt F) (M9.view.writes (Elt F) M9.view.junk (runFirst.sl.H9_4 c i hc4 M3 M4 M5 M6 M7 M9 f3 f4 f5 f6 f7))) :=
    (read_writes_over (Val := Elt F) _ _ _ _).trans (put_tile true B (qb i) (qb_lt i) 3 (off9 i).eq _ (M9.view.read (Elt F) (M9.view.writes (Elt F) M9.view.junk (runFirst.sl.H9_4 c i hc4 M3 M4 M5 M6 M7 M9 f3 f4 f5 f6 f7))) (M9.view.read (Elt F) (M9.view.writes (Elt F) M9.view.junk (runFirst.sl.H9_4 c i hc4 M3 M4 M5 M6 M7 M9 f3 f4 f5 f6 f7))))
  rw [e5, e4, e3, e2, e1]
  exact seqQ_eq true B (qb i) (qb_lt i) _

theorem runFirst_dc : M10.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = (step true (blkOf c M3 M4 M5 M6 M7 f3 f4 f5 f6 f7) (qb i) (qb_lt i) (clearQ (clearK (stOf c M9 M10 M14 M15 M16 f9 f10 f14 f15 f16)))).dc := by
  have e1 : M10.view.read (Elt F) (M10.view.writes (Elt F) M10.view.junk runFirst.sl.H10_1) = (clearQ (clearK (stOf c M9 M10 M14 M15 M16 f9 f10 f14 f15 f16))).dc :=
    (read_writes_over (Val := Elt F) _ _ _ _).trans (over_all (Val := Elt F) (e := .f32) zero2 inb_S8x8192_S8x8192_0_0 _ _)
  refine (read_writes_over (Val := Elt F) _ _ _ _).trans ?_
  refine (put_cols true B (qb i) (qb_lt i) (off10 i).eq _ _).trans ?_
  exact congrArg (nextC true B (qb i) (qb_lt i)) e1

/-- The accumulators that the run leaves. -/
theorem runFirst_reads : let s := step true (blkOf c M3 M4 M5 M6 M7 f3 f4 f5 f6 f7) (qb i) (qb_lt i) (clearQ (clearK (stOf c M9 M10 M14 M15 M16 f9 f10 f14 f15 f16)))
    M9.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = s.dq
    ∧ M10.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = s.dc
    ∧ M14.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.1) = s.dk
    ∧ M15.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.1) = s.dv
    ∧ M16.view.read (Elt F) ((runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2) = s.dck := by
  intro s
  refine ⟨runFirst_dq .., runFirst_dc .., runFirst_dk (M9 := M9) (M10 := M10) (M14 := M14) (M15 := M15) (M16 := M16) (f9 := f9) (f10 := f10) (f14 := f14) (f15 := f15) (f16 := f16) .., runFirst_dv (M9 := M9) (M10 := M10) (M14 := M14) (M15 := M15) (M16 := M16) (f9 := f9) (f10 := f10) (f14 := f14) (f15 := f15) (f16 := f16) .., runFirst_dck (M9 := M9) (M10 := M10) (M14 := M14) (M15 := M15) (M16 := M16) (f9 := f9) (f10 := f10) (f14 := f14) (f15 := f15) (f16 := f16) ..⟩

end Cert.Proof

end
-- ==== Proof.RunDiag.lean ====
/-
  What the body does at a block on the diagonal, after the first grid point, whose query block is not the last.
-/
module

public import proofs.«01_k».proof.Proof.Grid

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- What the body does at a block on the diagonal, after the first grid point, whose query block is not the last.
    The contents left are the ones the run finds. -/
noncomputable def runDiag (𝒱₀ : Variants) (c : Dev nD) (i : grid0.Coords) (hc1 : k0_cond1 i ≠ 1#1) (hc3 : k0_cond3 i ≠ 1#1) (hc4 : k0_cond4 i = 1#1) (hc5 : k0_cond5 i ≠ 1#1)
    (M3 : Memref sig .tc .vmem S512x1024 .bf16) (h3 : M3.IsWhole)
    (M4 : Memref sig .tc .vmem S512x1024 .bf16) (h4 : M4.IsWhole)
    (M5 : Memref sig .tc .vmem S512x512 .bf16) (h5 : M5.IsWhole)
    (M6 : Memref sig .tc .vmem S512x2048 .bf16) (h6 : M6.IsWhole)
    (M7 : Memref sig .tc .vmem S512x2048 .bf16) (h7 : M7.IsWhole)
    (M8 : Memref sig .tc .vmem S8x128 .f32) (h8 : M8.IsWhole)
    (M9 : Memref sig .tc .vmem S512x8192 .f32) (h9 : M9.IsWhole)
    (M10 : Memref sig .tc .vmem S8x8192 .f32) (h10 : M10.IsWhole)
    (M11 : Memref sig .tc .vmem S512x512 .bf16) (h11 : M11.IsWhole)
    (M12 : Memref sig .tc .vmem S512x512 .bf16) (h12 : M12.IsWhole)
    (M13 : Memref sig .tc .vmem S512x128 .f32) (h13 : M13.IsWhole)
    (M14 : Memref sig .tc .vmem S512x512 .f32) (h14 : M14.IsWhole)
    (M15 : Memref sig .tc .vmem S512x512 .f32) (h15 : M15.IsWhole)
    (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M9 × Bf (F := F) c M10 × Bf (F := F) c M14 × Bf (F := F) c M15 × Bf (F := F) c M16 //
      ∀ (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (iprop(pt c M3 f3 ∗ pt c M4 f4 ∗ pt c M5 f5 ∗ pt c M6 f6 ∗ pt c M7 f7 ∗ pt c M8 f8 ∗ pt c M9 (W.1) ∗ pt c M10 (W.2.1) ∗ pt c M11 f11 ∗ pt c M12 f12 ∗ pt c M13 f13 ∗ pt c M14 (W.2.2.1) ∗ pt c M15 (W.2.2.2.1) ∗ pt c M16 (W.2.2.2.2)) -∗ Q ⟨⟩))
        ⊢ wp frame (wpE (defs₀ (F := F)) 𝒱₀ c none) E
            (cc0_attn_bwd i M3 h3 M4 h4 M5 h5 M6 h6 M7 h7 M8 h8 M9 h9 M10 h10 M11 h11 M12 h12 M13 h13 M14 h14 M15 h15 M16 h16) Q } := by
  refine ⟨⟨?_, ?_, ?_, ?_, ?_⟩, fun E Q => ?run⟩
  case run =>
    iintro ⟨H3, H4, H5, H6, H7, H8, H9, H10, H11, H12, H13, H14, H15, H16, Hk⟩
    sl_exec_parts! (disch := first | exact hc4 | assumption)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof

end
-- ==== Proof.ReadDiag.lean ====
/-
  What the accumulators hold after a block on the diagonal whose query block is not the last.
-/
module

public import proofs.«01_k».proof.Proof.RunDiag
public import proofs.«01_k».proof.Proof.ReadLib

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic
open Idealize.SL Idealize.SL.Sem

variable {F : FTy → Type} [FloatOps F]

variable (𝒱₀ : Variants) (c : Dev nD) (i : grid0.Coords) (hc1 : k0_cond1 i ≠ 1#1) (hc3 : k0_cond3 i ≠ 1#1) (hc4 : k0_cond4 i = 1#1) (hc5 : k0_cond5 i ≠ 1#1)
    (M3 : Memref sig .tc .vmem S512x1024 .bf16) (h3 : M3.IsWhole) (M4 : Memref sig .tc .vmem S512x1024 .bf16) (h4 : M4.IsWhole)
    (M5 : Memref sig .tc .vmem S512x512 .bf16) (h5 : M5.IsWhole) (M6 : Memref sig .tc .vmem S512x2048 .bf16) (h6 : M6.IsWhole)
    (M7 : Memref sig .tc .vmem S512x2048 .bf16) (h7 : M7.IsWhole) (M8 : Memref sig .tc .vmem S8x128 .f32) (h8 : M8.IsWhole)
    (M9 : Memref sig .tc .vmem S512x8192 .f32) (h9 : M9.IsWhole) (M10 : Memref sig .tc .vmem S8x8192 .f32) (h10 : M10.IsWhole)
    (M11 : Memref sig .tc .vmem S512x512 .bf16) (h11 : M11.IsWhole) (M12 : Memref sig .tc .vmem S512x512 .bf16) (h12 : M12.IsWhole)
    (M13 : Memref sig .tc .vmem S512x128 .f32) (h13 : M13.IsWhole) (M14 : Memref sig .tc .vmem S512x512 .f32) (h14 : M14.IsWhole)
    (M15 : Memref sig .tc .vmem S512x512 .f32) (h15 : M15.IsWhole) (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)

local notation "B" => blkOf c M3 M4 M5 M6 M7 f3 f4 f5 f6 f7

theorem runDiag_dk : M14.view.read (Elt F) (M14.view.writes (Elt F) M14.view.junk (runDiag.sl.H14_5 c M3 M4 M6 M7 M14 f3 f4 f6 f7))
      = nextK (dkPair true B) (clearK (stOf c M9 M10 M14 M15 M16 f9 f10 f14 f15 f16)).dk := by
  have e1 : M14.view.read (Elt F) (M14.view.writes (Elt F) M14.view.junk runDiag.sl.H14_1)
      = (clearK (stOf c M9 M10 M14 M15 M16 f9 f10 f14 f15 f16)).dk :=
    (read_writes_over (Val := Elt F) _ _ _ _).trans (over_all (Val := Elt F) (e := .f32) zero2 inb_S512x512_S512x512_0_0 _ _)
  have e2 : (M14.view.read (Elt F) (M14.view.writes (Elt F) M14.view.junk (runDiag.sl.H14_2 c M3 M4 M6 M7 M14 f3 f4 f6 f7))) = over (Val := Elt F) (e := .f32) (lanes 0) (putK (dkPair true B 0) (M14.view.read (Elt F) (M14.view.writes (Elt F) M14.view.junk (runDiag.sl.H14_1 ))) 0) (M14.view.read (Elt F) (M14.view.writes (Elt F) M14.view.junk (runDiag.sl.H14_1 ))) :=
    read_writes_over (Val := Elt F) _ _ _ _
  have e3 : (M14.view.read (Elt F) (M14.view.writes (Elt F) M14.view.junk (runDiag.sl.H14_3 c M3 M4 M6 M7 M14 f3 f4 f6 f7))) = over (Val := Elt F) (e := .f32) (lanes 1) (putK (dkPair true B 1) (M14.view.read (Elt F) (M14.view.writes (Elt F) M14.view.junk (runDiag.sl.H14_2 c M3 M4 M6 M7 M14 f3 f4 f6 f7))) 1) (M14.view.read (Elt F) (M14.view.writes (Elt F) M14.view.junk (runDiag.sl.H14_2 c M3 M4 M6 M7 M14 f3 f4 f6 f7))) :=
    read_writes_over (Val := Elt F) _ _ _ _
  have e4 : (M14.view.read (Elt F) (M14.view.writes (Elt F) M14.view.junk (runDiag.sl.H14_4 c M3 M4 M6 M7 M14 f3 f4 f6 f7))) = over (Val := Elt F) (e := .f32) (lanes 2) (putK (dkPair true B 2) (M14.view.read (Elt F) (M14.view.writes (Elt F) M14.view.junk (runDiag.sl.H14_3 c M3 M4 M6 M7 M14 f3 f4 f6 f7))) 2) (M14.view.read (Elt F) (M14.view.writes (Elt F) M14.view.junk (runDiag.sl.H14_3 c M3 M4 M6 M7 M14 f3 f4 f6 f7))) :=
    read_writes_over (Val := Elt F) _ _ _ _
  have e5 : (M14.view.read (Elt F) (M14.view.writes (Elt F) M14.view.junk (runDiag.sl.H14_5 c M3 M4 M6 M7 M14 f3 f4 f6 f7))) = over (Val := Elt F) (e := .f32) (lanes 3) (putK (dkPair true B 3) (M14.view.read (Elt F) (M14.view.writes (Elt F) M14.view.junk (runDiag.sl.H14_4 c M3 M4 M6 M7 M14 f3 f4 f6 f7))) 3) (M14.view.read (Elt F) (M14.view.writes (Elt F) M14.view.junk (runDiag.sl.H14_4 c M3 M4 M6 M7 M14 f3 f4 f6 f7))) :=
    read_writes_over (Val := Elt F) _ _ _ _
  rw [e5, e4, e3, e2, e1]
  exact seqK_eq _ _

theorem runDiag_dv : M15.view.read (Elt F) (M15.view.writes (Elt F) M15.view.junk (runDiag.sl.H15_5 c M3 M6 M7 M15 f3 f6 f7))
      = nextK (dvPair true B) (clearK (stOf c M9 M10 M14 M15 M16 f9 f10 f14 f15 f16)).dv := by
  have e1 : M15.view.read (Elt F) (M15.view.writes (Elt F) M15.view.junk runDiag.sl.H15_1)
      = (clearK (stOf c M9 M10 M14 M15 M16 f9 f10 f14 f15 f16)).dv :=
    (read_writes_over (Val := Elt F) _ _ _ _).trans (over_all (Val := Elt F) (e := .f32) zero2 inb_S512x512_S512x512_0_0 _ _)
  have e2 : (M15.view.read (Elt F) (M15.view.writes (Elt F) M15.view.junk (runDiag.sl.H15_2 c M3 M6 M7 M15 f3 f6 f7))) = over (Val := Elt F) (e := .f32) (lanes 0) (putK (dvPair true B 0) (M15.view.read (Elt F) (M15.view.writes (Elt F) M15.view.junk (runDiag.sl.H15_1 ))) 0) (M15.view.read (Elt F) (M15.view.writes (Elt F) M15.view.junk (runDiag.sl.H15_1 ))) :=
    read_writes_over (Val := Elt F) _ _ _ _
  have e3 : (M15.view.read (Elt F) (M15.view.writes (Elt F) M15.view.junk (runDiag.sl.H15_3 c M3 M6 M7 M15 f3 f6 f7))) = over (Val := Elt F) (e := .f32) (lanes 1) (putK (dvPair true B 1) (M15.view.read (Elt F) (M15.view.writes (Elt F) M15.view.junk (runDiag.sl.H15_2 c M3 M6 M7 M15 f3 f6 f7))) 1) (M15.view.read (Elt F) (M15.view.writes (Elt F) M15.view.junk (runDiag.sl.H15_2 c M3 M6 M7 M15 f3 f6 f7))) :=
    read_writes_over (Val := Elt F) _ _ _ _
  have e4 : (M15.view.read (Elt F) (M15.view.writes (Elt F) M15.view.junk (runDiag.sl.H15_4 c M3 M6 M7 M15 f3 f6 f7))) = over (Val := Elt F) (e := .f32) (lanes 2) (putK (dvPair true B 2) (M15.view.read (Elt F) (M15.view.writes (Elt F) M15.view.junk (runDiag.sl.H15_3 c M3 M6 M7 M15 f3 f6 f7))) 2) (M15.view.read (Elt F) (M15.view.writes (Elt F) M15.view.junk (runDiag.sl.H15_3 c M3 M6 M7 M15 f3 f6 f7))) :=
    read_writes_over (Val := Elt F) _ _ _ _
  have e5 : (M15.view.read (Elt F) (M15.view.writes (Elt F) M15.view.junk (runDiag.sl.H15_5 c M3 M6 M7 M15 f3 f6 f7))) = over (Val := Elt F) (e := .f32) (lanes 3) (putK (dvPair true B 3) (M15.view.read (Elt F) (M15.view.writes (Elt F) M15.view.junk (runDiag.sl.H15_4 c M3 M6 M7 M15 f3 f6 f7))) 3) (M15.view.read (Elt F) (M15.view.writes (Elt F) M15.view.junk (runDiag.sl.H15_4 c M3 M6 M7 M15 f3 f6 f7))) :=
    read_writes_over (Val := Elt F) _ _ _ _
  rw [e5, e4, e3, e2, e1]
  exact seqK_eq _ _

theorem runDiag_dck : M16.view.read (Elt F) (M16.view.writes (Elt F) M16.view.junk (runDiag.sl.H16_2 c M3 M4 M6 M7 M16 f3 f4 f6 f7))
      = (step true (blkOf c M3 M4 M5 M6 M7 f3 f4 f5 f6 f7) (qb i) (qb_lt i) (clearK (stOf c M9 M10 M14 M15 M16 f9 f10 f14 f15 f16))).dck := by
  rw [runDiag.sl.H16_2, read_writes_over]
  refine (over_all (Val := Elt F) (e := .f32) zero2 inb_S512x128_S512x128_0_0 _ _).trans ?_
  refine congrArg (fun z : FVec F S512x128 .f32 => shapeCast S512x128 (addf z (dckAll true B)) shapeCasts_S512x128_S512x128) ?_
  exact (cut_all (Val := Elt F) (e := .f32) zero2 inb_S512x128_S512x128_0_0 _).trans
    ((read_writes_over (Val := Elt F) _ _ _ _).trans (over_all (Val := Elt F) (e := .f32) zero2 inb_S512x128_S512x128_0_0 _ _))

theorem runDiag_dq : M9.view.read (Elt F) ((runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = (step true (blkOf c M3 M4 M5 M6 M7 f3 f4 f5 f6 f7) (qb i) (qb_lt i) (clearK (stOf c M9 M10 M14 M15 M16 f9 f10 f14 f15 f16))).dq := by
  refine (read_writes_over (Val := Elt F) _ _ _ _).trans ?_
  refine (put_tile true B (qb i) (qb_lt i) 3 (off9 i).eq _ (M9.view.read (Elt F) f9) _).trans ?_
  refine congrArg (over (Val := Elt F) (e := .f32) (qtile 3 (qb i) (qb_lt i)) _) ?_
  refine (read_writes_over (Val := Elt F) _ _ _ _).trans ?_
  refine (put_tile true B (qb i) (qb_lt i) 2 (off8 i).eq _ (M9.view.read (Elt F) f9) _).trans ?_
  refine congrArg (over (Val := Elt F) (e := .f32) (qtile 2 (qb i) (qb_lt i)) _) ?_
  refine (read_writes_over (Val := Elt F) _ _ _ _).trans ?_
  refine (put_tile true B (qb i) (qb_lt i) 1 (off7 i).eq _ (M9.view.read (Elt F) f9) _).trans ?_
  refine congrArg (over (Val := Elt F) (e := .f32) (qtile 1 (qb i) (qb_lt i)) _) ?_
  refine (read_writes_over (Val := Elt F) _ _ _ _).trans ?_
  exact put_tile true B (qb i) (qb_lt i) 0 (off6 i).eq _ (M9.view.read (Elt F) f9) _

theorem runDiag_dc : M10.view.read (Elt F) ((runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = (step true (blkOf c M3 M4 M5 M6 M7 f3 f4 f5 f6 f7) (qb i) (qb_lt i) (clearK (stOf c M9 M10 M14 M15 M16 f9 f10 f14 f15 f16))).dc := by
  refine (read_writes_over (Val := Elt F) _ _ _ _).trans ?_
  exact put_cols true B (qb i) (qb_lt i) (off10 i).eq _ (M10.view.read (Elt F) f10)

/-- The accumulators that the run leaves. -/
theorem runDiag_reads : let s := step true (blkOf c M3 M4 M5 M6 M7 f3 f4 f5 f6 f7) (qb i) (qb_lt i) (clearK (stOf c M9 M10 M14 M15 M16 f9 f10 f14 f15 f16))
    M9.view.read (Elt F) ((runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = s.dq
    ∧ M10.view.read (Elt F) ((runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = s.dc
    ∧ M14.view.read (Elt F) ((runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.1) = s.dk
    ∧ M15.view.read (Elt F) ((runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.1) = s.dv
    ∧ M16.view.read (Elt F) ((runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2) = s.dck := by
  intro s
  refine ⟨runDiag_dq .., runDiag_dc .., runDiag_dk .., runDiag_dv .., runDiag_dck ..⟩

end Cert.Proof

end
-- ==== Proof.RunDiagLast.lean ====
/-
  What the body does at the last block on the diagonal.
-/
module

public import proofs.«01_k».proof.Proof.Grid

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- What the body does at the last block on the diagonal.
    The contents left are the ones the run finds. -/
noncomputable def runDiagLast (𝒱₀ : Variants) (c : Dev nD) (i : grid0.Coords) (hc1 : k0_cond1 i ≠ 1#1) (hc3 : k0_cond3 i ≠ 1#1) (hc4 : k0_cond4 i = 1#1) (hc5 : k0_cond5 i = 1#1)
    (M3 : Memref sig .tc .vmem S512x1024 .bf16) (h3 : M3.IsWhole)
    (M4 : Memref sig .tc .vmem S512x1024 .bf16) (h4 : M4.IsWhole)
    (M5 : Memref sig .tc .vmem S512x512 .bf16) (h5 : M5.IsWhole)
    (M6 : Memref sig .tc .vmem S512x2048 .bf16) (h6 : M6.IsWhole)
    (M7 : Memref sig .tc .vmem S512x2048 .bf16) (h7 : M7.IsWhole)
    (M8 : Memref sig .tc .vmem S8x128 .f32) (h8 : M8.IsWhole)
    (M9 : Memref sig .tc .vmem S512x8192 .f32) (h9 : M9.IsWhole)
    (M10 : Memref sig .tc .vmem S8x8192 .f32) (h10 : M10.IsWhole)
    (M11 : Memref sig .tc .vmem S512x512 .bf16) (h11 : M11.IsWhole)
    (M12 : Memref sig .tc .vmem S512x512 .bf16) (h12 : M12.IsWhole)
    (M13 : Memref sig .tc .vmem S512x128 .f32) (h13 : M13.IsWhole)
    (M14 : Memref sig .tc .vmem S512x512 .f32) (h14 : M14.IsWhole)
    (M15 : Memref sig .tc .vmem S512x512 .f32) (h15 : M15.IsWhole)
    (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M9 × Bf (F := F) c M10 × Bf (F := F) c M11 × Bf (F := F) c M12 × Bf (F := F) c M13 × Bf (F := F) c M14 × Bf (F := F) c M15 × Bf (F := F) c M16 //
      ∀ (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (iprop(pt c M3 f3 ∗ pt c M4 f4 ∗ pt c M5 f5 ∗ pt c M6 f6 ∗ pt c M7 f7 ∗ pt c M8 f8 ∗ pt c M9 (W.1) ∗ pt c M10 (W.2.1) ∗ pt c M11 (W.2.2.1) ∗ pt c M12 (W.2.2.2.1) ∗ pt c M13 (W.2.2.2.2.1) ∗ pt c M14 (W.2.2.2.2.2.1) ∗ pt c M15 (W.2.2.2.2.2.2.1) ∗ pt c M16 (W.2.2.2.2.2.2.2)) -∗ Q ⟨⟩))
        ⊢ wp frame (wpE (defs₀ (F := F)) 𝒱₀ c none) E
            (cc0_attn_bwd i M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_, ?_⟩, fun E Q => ?run⟩
  case run =>
    iintro ⟨H3, H4, H5, H6, H7, H8, H9, H10, H11, H12, H13, H14, H15, H16, Hk⟩
    sl_exec_parts! (disch := first | exact hc4 | assumption)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof

end
-- ==== Proof.ReadDiagLast.lean ====
/-
  What the accumulators and the written blocks hold after the last block on the diagonal.
-/
module

public import proofs.«01_k».proof.Proof.RunDiagLast
public import proofs.«01_k».proof.Proof.ReadLib

@[expose] public section

set_option maxRecDepth 65536
set_option maxHeartbeats 4000000

noncomputable section

namespace Cert.Proof

open Cert.KernelIdeal Cert.KernelIdeal.Gen
open Idealize.ShloMosaic Idealize.ShloMosaic.TcCoe Idealize.ShloMosaic.Tactic
open Idealize.SL Idealize.SL.Sem

variable {F : FTy → Type} [FloatOps F]

variable (𝒱₀ : Variants) (c : Dev nD) (i : grid0.Coords) (hc1 : k0_cond1 i ≠ 1#1) (hc3 : k0_cond3 i ≠ 1#1) (hc4 : k0_cond4 i = 1#1) (hc5 : k0_cond5 i = 1#1)
    (M3 : Memref sig .tc .vmem S512x1024 .bf16) (h3 : M3.IsWhole) (M4 : Memref sig .tc .vmem S512x1024 .bf16) (h4 : M4.IsWhole)
    (M5 : Memref sig .tc .vmem S512x512 .bf16) (h5 : M5.IsWhole) (M6 : Memref sig .tc .vmem S512x2048 .bf16) (h6 : M6.IsWhole)
    (M7 : Memref sig .tc .vmem S512x2048 .bf16) (h7 : M7.IsWhole) (M8 : Memref sig .tc .vmem S8x128 .f32) (h8 : M8.IsWhole)
    (M9 : Memref sig .tc .vmem S512x8192 .f32) (h9 : M9.IsWhole) (M10 : Memref sig .tc .vmem S8x8192 .f32) (h10 : M10.IsWhole)
    (M11 : Memref sig .tc .vmem S512x512 .bf16) (h11 : M11.IsWhole) (M12 : Memref sig .tc .vmem S512x512 .bf16) (h12 : M12.IsWhole)
    (M13 : Memref sig .tc .vmem S512x128 .f32) (h13 : M13.IsWhole) (M14 : Memref sig .tc .vmem S512x512 .f32) (h14 : M14.IsWhole)
    (M15 : Memref sig .tc .vmem S512x512 .f32) (h15 : M15.IsWhole) (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)

local notation "B" => blkOf c M3 M4 M5 M6 M7 f3 f4 f5 f6 f7

theorem runDiagLast_dk : M14.view.read (Elt F) (M14.view.writes (Elt F) M14.view.junk (runDiagLast.sl.H14_5 c M3 M4 M6 M7 M14 f3 f4 f6 f7))
      = nextK (dkPair true B) (clearK (stOf c M9 M10 M14 M15 M16 f9 f10 f14 f15 f16)).dk := by
  have e1 : M14.view.read (Elt F) (M14.view.writes (Elt F) M14.view.junk runDiagLast.sl.H14_1)
      = (clearK (stOf c M9 M10 M14 M15 M16 f9 f10 f14 f15 f16)).dk :=
    (read_writes_over (Val := Elt F) _ _ _ _).trans (over_all (Val := Elt F) (e := .f32) zero2 inb_S512x512_S512x512_0_0 _ _)
  have e2 : (M14.view.read (Elt F) (M14.view.writes (Elt F) M14.view.junk (runDiagLast.sl.H14_2 c M3 M4 M6 M7 M14 f3 f4 f6 f7))) = over (Val := Elt F) (e := .f32) (lanes 0) (putK (dkPair true B 0) (M14.view.read (Elt F) (M14.view.writes (Elt F) M14.view.junk (runDiagLast.sl.H14_1 ))) 0) (M14.view.read (Elt F) (M14.view.writes (Elt F) M14.view.junk (runDiagLast.sl.H14_1 ))) :=
    read_writes_over (Val := Elt F) _ _ _ _
  have e3 : (M14.view.read (Elt F) (M14.view.writes (Elt F) M14.view.junk (runDiagLast.sl.H14_3 c M3 M4 M6 M7 M14 f3 f4 f6 f7))) = over (Val := Elt F) (e := .f32) (lanes 1) (putK (dkPair true B 1) (M14.view.read (Elt F) (M14.view.writes (Elt F) M14.view.junk (runDiagLast.sl.H14_2 c M3 M4 M6 M7 M14 f3 f4 f6 f7))) 1) (M14.view.read (Elt F) (M14.view.writes (Elt F) M14.view.junk (runDiagLast.sl.H14_2 c M3 M4 M6 M7 M14 f3 f4 f6 f7))) :=
    read_writes_over (Val := Elt F) _ _ _ _
  have e4 : (M14.view.read (Elt F) (M14.view.writes (Elt F) M14.view.junk (runDiagLast.sl.H14_4 c M3 M4 M6 M7 M14 f3 f4 f6 f7))) = over (Val := Elt F) (e := .f32) (lanes 2) (putK (dkPair true B 2) (M14.view.read (Elt F) (M14.view.writes (Elt F) M14.view.junk (runDiagLast.sl.H14_3 c M3 M4 M6 M7 M14 f3 f4 f6 f7))) 2) (M14.view.read (Elt F) (M14.view.writes (Elt F) M14.view.junk (runDiagLast.sl.H14_3 c M3 M4 M6 M7 M14 f3 f4 f6 f7))) :=
    read_writes_over (Val := Elt F) _ _ _ _
  have e5 : (M14.view.read (Elt F) (M14.view.writes (Elt F) M14.view.junk (runDiagLast.sl.H14_5 c M3 M4 M6 M7 M14 f3 f4 f6 f7))) = over (Val := Elt F) (e := .f32) (lanes 3) (putK (dkPair true B 3) (M14.view.read (Elt F) (M14.view.writes (Elt F) M14.view.junk (runDiagLast.sl.H14_4 c M3 M4 M6 M7 M14 f3 f4 f6 f7))) 3) (M14.view.read (Elt F) (M14.view.writes (Elt F) M14.view.junk (runDiagLast.sl.H14_4 c M3 M4 M6 M7 M14 f3 f4 f6 f7))) :=
    read_writes_over (Val := Elt F) _ _ _ _
  rw [e5, e4, e3, e2, e1]
  exact seqK_eq _ _

theorem runDiagLast_dv : M15.view.read (Elt F) (M15.view.writes (Elt F) M15.view.junk (runDiagLast.sl.H15_5 c M3 M6 M7 M15 f3 f6 f7))
      = nextK (dvPair true B) (clearK (stOf c M9 M10 M14 M15 M16 f9 f10 f14 f15 f16)).dv := by
  have e1 : M15.view.read (Elt F) (M15.view.writes (Elt F) M15.view.junk runDiagLast.sl.H15_1)
      = (clearK (stOf c M9 M10 M14 M15 M16 f9 f10 f14 f15 f16)).dv :=
    (read_writes_over (Val := Elt F) _ _ _ _).trans (over_all (Val := Elt F) (e := .f32) zero2 inb_S512x512_S512x512_0_0 _ _)
  have e2 : (M15.view.read (Elt F) (M15.view.writes (Elt F) M15.view.junk (runDiagLast.sl.H15_2 c M3 M6 M7 M15 f3 f6 f7))) = over (Val := Elt F) (e := .f32) (lanes 0) (putK (dvPair true B 0) (M15.view.read (Elt F) (M15.view.writes (Elt F) M15.view.junk (runDiagLast.sl.H15_1 ))) 0) (M15.view.read (Elt F) (M15.view.writes (Elt F) M15.view.junk (runDiagLast.sl.H15_1 ))) :=
    read_writes_over (Val := Elt F) _ _ _ _
  have e3 : (M15.view.read (Elt F) (M15.view.writes (Elt F) M15.view.junk (runDiagLast.sl.H15_3 c M3 M6 M7 M15 f3 f6 f7))) = over (Val := Elt F) (e := .f32) (lanes 1) (putK (dvPair true B 1) (M15.view.read (Elt F) (M15.view.writes (Elt F) M15.view.junk (runDiagLast.sl.H15_2 c M3 M6 M7 M15 f3 f6 f7))) 1) (M15.view.read (Elt F) (M15.view.writes (Elt F) M15.view.junk (runDiagLast.sl.H15_2 c M3 M6 M7 M15 f3 f6 f7))) :=
    read_writes_over (Val := Elt F) _ _ _ _
  have e4 : (M15.view.read (Elt F) (M15.view.writes (Elt F) M15.view.junk (runDiagLast.sl.H15_4 c M3 M6 M7 M15 f3 f6 f7))) = over (Val := Elt F) (e := .f32) (lanes 2) (putK (dvPair true B 2) (M15.view.read (Elt F) (M15.view.writes (Elt F) M15.view.junk (runDiagLast.sl.H15_3 c M3 M6 M7 M15 f3 f6 f7))) 2) (M15.view.read (Elt F) (M15.view.writes (Elt F) M15.view.junk (runDiagLast.sl.H15_3 c M3 M6 M7 M15 f3 f6 f7))) :=
    read_writes_over (Val := Elt F) _ _ _ _
  have e5 : (M15.view.read (Elt F) (M15.view.writes (Elt F) M15.view.junk (runDiagLast.sl.H15_5 c M3 M6 M7 M15 f3 f6 f7))) = over (Val := Elt F) (e := .f32) (lanes 3) (putK (dvPair true B 3) (M15.view.read (Elt F) (M15.view.writes (Elt F) M15.view.junk (runDiagLast.sl.H15_4 c M3 M6 M7 M15 f3 f6 f7))) 3) (M15.view.read (Elt F) (M15.view.writes (Elt F) M15.view.junk (runDiagLast.sl.H15_4 c M3 M6 M7 M15 f3 f6 f7))) :=
    read_writes_over (Val := Elt F) _ _ _ _
  rw [e5, e4, e3, e2, e1]
  exact seqK_eq _ _

theorem runDiagLast_dck : M16.view.read (Elt F) (M16.view.writes (Elt F) M16.view.junk (runDiagLast.sl.H16_2 c M3 M4 M6 M7 M16 f3 f4 f6 f7))
      = (step true (blkOf c M3 M4 M5 M6 M7 f3 f4 f5 f6 f7) (qb i) (qb_lt i) (clearK (stOf c M9 M10 M14 M15 M16 f9 f10 f14 f15 f16))).dck := by
  rw [runDiagLast.sl.H16_2, read_writes_over]
  refine (over_all (Val := Elt F) (e := .f32) zero2 inb_S512x128_S512x128_0_0 _ _).trans ?_
  refine congrArg (fun z : FVec F S512x128 .f32 => shapeCast S512x128 (addf z (dckAll true B)) shapeCasts_S512x128_S512x128) ?_
  exact (cut_all (Val := Elt F) (e := .f32) zero2 inb_S512x128_S512x128_0_0 _).trans
    ((read_writes_over (Val := Elt F) _ _ _ _).trans (over_all (Val := Elt F) (e := .f32) zero2 inb_S512x128_S512x128_0_0 _ _))

theorem runDiagLast_dq : M9.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = (step true (blkOf c M3 M4 M5 M6 M7 f3 f4 f5 f6 f7) (qb i) (qb_lt i) (clearK (stOf c M9 M10 M14 M15 M16 f9 f10 f14 f15 f16))).dq := by
  refine (read_writes_over (Val := Elt F) _ _ _ _).trans ?_
  refine (put_tile true B (qb i) (qb_lt i) 3 (off9 i).eq _ (M9.view.read (Elt F) f9) _).trans ?_
  refine congrArg (over (Val := Elt F) (e := .f32) (qtile 3 (qb i) (qb_lt i)) _) ?_
  refine (read_writes_over (Val := Elt F) _ _ _ _).trans ?_
  refine (put_tile true B (qb i) (qb_lt i) 2 (off8 i).eq _ (M9.view.read (Elt F) f9) _).trans ?_
  refine congrArg (over (Val := Elt F) (e := .f32) (qtile 2 (qb i) (qb_lt i)) _) ?_
  refine (read_writes_over (Val := Elt F) _ _ _ _).trans ?_
  refine (put_tile true B (qb i) (qb_lt i) 1 (off7 i).eq _ (M9.view.read (Elt F) f9) _).trans ?_
  refine congrArg (over (Val := Elt F) (e := .f32) (qtile 1 (qb i) (qb_lt i)) _) ?_
  refine (read_writes_over (Val := Elt F) _ _ _ _).trans ?_
  exact put_tile true B (qb i) (qb_lt i) 0 (off6 i).eq _ (M9.view.read (Elt F) f9) _

theorem runDiagLast_dc : M10.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = (step true (blkOf c M3 M4 M5 M6 M7 f3 f4 f5 f6 f7) (qb i) (qb_lt i) (clearK (stOf c M9 M10 M14 M15 M16 f9 f10 f14 f15 f16))).dc := by
  refine (read_writes_over (Val := Elt F) _ _ _ _).trans ?_
  exact put_cols true B (qb i) (qb_lt i) (off10 i).eq _ (M10.view.read (Elt F) f10)

/-- The accumulators and the written blocks that the run leaves. -/
theorem runDiagLast_reads : let s := step true (blkOf c M3 M4 M5 M6 M7 f3 f4 f5 f6 f7) (qb i) (qb_lt i) (clearK (stOf c M9 M10 M14 M15 M16 f9 f10 f14 f15 f16))
    M9.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.1) = s.dq
    ∧ M10.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.1) = s.dc
    ∧ M14.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.2.1) = s.dk
    ∧ M15.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.2.2.1) = s.dv
    ∧ M16.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.2.2.2) = s.dck
    ∧ M11.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.1) = truncf .bf16 s.dk bitsLt_bf16_f32
    ∧ M12.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.1) = truncf .bf16 s.dv bitsLt_bf16_f32
    ∧ M13.view.read (Elt F) ((runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16).val.2.2.2.2.1) = s.dck := by
  intro s
  refine ⟨runDiagLast_dq .., runDiagLast_dc .., runDiagLast_dk .., runDiagLast_dv .., runDiagLast_dck .., ?_, ?_, ?_⟩
  · refine (read_writes_over (Val := Elt F) _ _ _ _).trans ((over_all (Val := Elt F) zero2 inb_S512x512_S512x512_0_0 _ _).trans ?_)
    refine congrArg (fun z : FVec F S512x512 .f32 => truncf .bf16 z bitsLt_bf16_f32) ?_
    exact (cut_all (Val := Elt F) (e := .f32) zero2 inb_S512x512_S512x512_0_0 _).trans (runDiagLast_dk ..)
  · refine (read_writes_over (Val := Elt F) _ _ _ _).trans ((over_all (Val := Elt F) zero2 inb_S512x512_S512x512_0_0 _ _).trans ?_)
    refine congrArg (fun z : FVec F S512x512 .f32 => truncf .bf16 z bitsLt_bf16_f32) ?_
    exact (cut_all (Val := Elt F) (e := .f32) zero2 inb_S512x512_S512x512_0_0 _).trans (runDiagLast_dv ..)
  · refine (read_writes_over (Val := Elt F) _ _ _ _).trans ((over_all (Val := Elt F) zero2 inb_S512x128_S512x128_0_0 _ _).trans ?_)
    have e : cut (Val := Elt F) (e := .f32) (Rect.unit ![0, 0] S512x128.size inb_S512x128_S512x128_0_0) (M16.view.read (Elt F) (M16.view.writes (Elt F) M16.view.junk (runDiagLast.sl.H16_2 c M3 M4 M6 M7 M16 f3 f4 f6 f7))) = s.dck :=
      (cut_all (Val := Elt F) (e := .f32) (s := S512x128) zero2 inb_S512x128_S512x128_0_0 _).trans (runDiagLast_dck ..)
    exact e

end Cert.Proof

end
-- ==== Proof.Body.lean ====
/-
  The body at any grid point, as one step of the accumulators.
-/
module

public import proofs.«01_k».proof.Proof.ReadOff
public import proofs.«01_k».proof.Proof.ReadOffLast
public import proofs.«01_k».proof.Proof.ReadFirst
public import proofs.«01_k».proof.Proof.ReadDiag
public import proofs.«01_k».proof.Proof.ReadDiagLast

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a grid point does to the accumulators. -/
def pointStep (i : grid0.Coords) (B : Blk F) (s : St F) : St F :=
  if k0_cond1 i = 1#1 then step true B (qb i) (qb_lt i) (clearK (clearQ s))
  else if k0_cond4 i = 1#1 then step true B (qb i) (qb_lt i) (clearK s)
  else step false B (qb i) (qb_lt i) s

/-- At the first point nothing of the accumulators is left. -/
theorem pointStep_first (i : grid0.Coords) (h : k0_cond1 i = 1#1) (B : Blk F) (s s' : St F) : pointStep i B s = pointStep i B s' := by
  simp only [pointStep, if_pos h]; rfl

variable (𝒱₀ : Variants) (c : Dev nD) (i : grid0.Coords)
    (M3 : Memref sig .tc .vmem S512x1024 .bf16) (h3 : M3.IsWhole) (M4 : Memref sig .tc .vmem S512x1024 .bf16) (h4 : M4.IsWhole)
    (M5 : Memref sig .tc .vmem S512x512 .bf16) (h5 : M5.IsWhole) (M6 : Memref sig .tc .vmem S512x2048 .bf16) (h6 : M6.IsWhole)
    (M7 : Memref sig .tc .vmem S512x2048 .bf16) (h7 : M7.IsWhole) (M8 : Memref sig .tc .vmem S8x128 .f32) (h8 : M8.IsWhole)
    (M9 : Memref sig .tc .vmem S512x8192 .f32) (h9 : M9.IsWhole) (M10 : Memref sig .tc .vmem S8x8192 .f32) (h10 : M10.IsWhole)
    (M11 : Memref sig .tc .vmem S512x512 .bf16) (h11 : M11.IsWhole) (M12 : Memref sig .tc .vmem S512x512 .bf16) (h12 : M12.IsWhole)
    (M13 : Memref sig .tc .vmem S512x128 .f32) (h13 : M13.IsWhole) (M14 : Memref sig .tc .vmem S512x512 .f32) (h14 : M14.IsWhole)
    (M15 : Memref sig .tc .vmem S512x512 .f32) (h15 : M15.IsWhole) (M16 : Memref sig .tc .vmem S512x128 .f32) (h16 : M16.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)

/-- What the buffers hold after the body: the accumulators one step on; the three written blocks at the last query block the
    keys' accumulators, before it what they held. -/
def After (g9 : Bf (F := F) c M9) (g10 : Bf (F := F) c M10) (g11 : Bf (F := F) c M11) (g12 : Bf (F := F) c M12)
    (g13 : Bf (F := F) c M13) (g14 : Bf (F := F) c M14) (g15 : Bf (F := F) c M15) (g16 : Bf (F := F) c M16) : Prop :=
  let s := pointStep i (blkOf c M3 M4 M5 M6 M7 f3 f4 f5 f6 f7) (stOf c M9 M10 M14 M15 M16 f9 f10 f14 f15 f16)
  stOf c M9 M10 M14 M15 M16 g9 g10 g14 g15 g16 = s
    ∧ (k0_cond5 i = 1#1 → M11.view.read (Elt F) g11 = truncf .bf16 s.dk bitsLt_bf16_f32
        ∧ M12.view.read (Elt F) g12 = truncf .bf16 s.dv bitsLt_bf16_f32 ∧ M13.view.read (Elt F) g13 = s.dck)
    ∧ (k0_cond5 i ≠ 1#1 → g11 = f11 ∧ g12 = f12 ∧ g13 = f13)

theorem body_Off (hc1 : k0_cond1 i ≠ 1#1) (hc3 : k0_cond3 i = 1#1) (hc4 : k0_cond4 i ≠ 1#1) (hc5 : k0_cond5 i ≠ 1#1) (E : Set ℕ) (Q : PUnit → sProp 𝕄) :
    iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
      ∗ (iprop(∃ (g9 : Bf (F := F) c M9) (g10 : Bf (F := F) c M10) (g11 : Bf (F := F) c M11) (g12 : Bf (F := F) c M12)
            (g13 : Bf (F := F) c M13) (g14 : Bf (F := F) c M14) (g15 : Bf (F := F) c M15) (g16 : Bf (F := F) c M16),
          ⌜After c i M3 M4 M5 M6 M7 M9 M10 M11 M12 M13 M14 M15 M16 f3 f4 f5 f6 f7 f9 f10 f11 f12 f13 f14 f15 f16 g9 g10 g11 g12 g13 g14 g15 g16⌝
          ∗ pt c M3 f3 ∗ pt c M4 f4 ∗ pt c M5 f5 ∗ pt c M6 f6 ∗ pt c M7 f7 ∗ pt c M8 f8 ∗ pt c M9 g9 ∗ pt c M10 g10 ∗ pt c M11 g11 ∗ pt c M12 g12 ∗ pt c M13 g13 ∗ pt c M14 g14 ∗ pt c M15 g15 ∗ pt c M16 g16) -∗ Q ⟨⟩))
    ⊢ wp frame (wpE (defs₀ (F := F)) 𝒱₀ c none) E (cc0_attn_bwd i M3 h3 M4 h4 M5 h5 M6 h6 M7 h7 M8 h8 M9 h9 M10 h10 M11 h11 M12 h12 M13 h13 M14 h14 M15 h15 M16 h16) Q := by
  have hs : ∀ s : St F, pointStep i (blkOf c M3 M4 M5 M6 M7 f3 f4 f5 f6 f7) s
      = step false (blkOf c M3 M4 M5 M6 M7 f3 f4 f5 f6 f7) (qb i) (qb_lt i) s := fun s => by
    simp only [pointStep, if_neg hc1, if_neg hc4]
  have hr := runOff_reads 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  let r := runOff 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  obtain ⟨e9, e10, e14, e15, e16⟩ := hr
  iintro ⟨H3, H4, H5, H6, H7, H8, H9, H10, H11, H12, H13, H14, H15, H16, Hk⟩
  iapply (r.2 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H5, H6, H7, H8, H9, H10, H11, H12, H13, H14, H15, H16⟩
  iapply Hk
  iexists (r.1.1), (r.1.2.1), f11, f12, f13, (r.1.2.2.1), (r.1.2.2.2.1), (r.1.2.2.2.2)
  isplitr
  · ipureintro
    exact by
        unfold After; simp only [hs]
        exact ⟨St.ext e9 e10 e14 e15 e16, fun h => absurd h hc5, fun _ => ⟨by trivial, by trivial, by trivial⟩⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_OffLast (hc1 : k0_cond1 i ≠ 1#1) (hc3 : k0_cond3 i = 1#1) (hc4 : k0_cond4 i ≠ 1#1) (hc5 : k0_cond5 i = 1#1) (E : Set ℕ) (Q : PUnit → sProp 𝕄) :
    iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
      ∗ (iprop(∃ (g9 : Bf (F := F) c M9) (g10 : Bf (F := F) c M10) (g11 : Bf (F := F) c M11) (g12 : Bf (F := F) c M12)
            (g13 : Bf (F := F) c M13) (g14 : Bf (F := F) c M14) (g15 : Bf (F := F) c M15) (g16 : Bf (F := F) c M16),
          ⌜After c i M3 M4 M5 M6 M7 M9 M10 M11 M12 M13 M14 M15 M16 f3 f4 f5 f6 f7 f9 f10 f11 f12 f13 f14 f15 f16 g9 g10 g11 g12 g13 g14 g15 g16⌝
          ∗ pt c M3 f3 ∗ pt c M4 f4 ∗ pt c M5 f5 ∗ pt c M6 f6 ∗ pt c M7 f7 ∗ pt c M8 f8 ∗ pt c M9 g9 ∗ pt c M10 g10 ∗ pt c M11 g11 ∗ pt c M12 g12 ∗ pt c M13 g13 ∗ pt c M14 g14 ∗ pt c M15 g15 ∗ pt c M16 g16) -∗ Q ⟨⟩))
    ⊢ wp frame (wpE (defs₀ (F := F)) 𝒱₀ c none) E (cc0_attn_bwd i M3 h3 M4 h4 M5 h5 M6 h6 M7 h7 M8 h8 M9 h9 M10 h10 M11 h11 M12 h12 M13 h13 M14 h14 M15 h15 M16 h16) Q := by
  have hs : ∀ s : St F, pointStep i (blkOf c M3 M4 M5 M6 M7 f3 f4 f5 f6 f7) s
      = step false (blkOf c M3 M4 M5 M6 M7 f3 f4 f5 f6 f7) (qb i) (qb_lt i) s := fun s => by
    simp only [pointStep, if_neg hc1, if_neg hc4]
  have hr := runOffLast_reads 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  let r := runOffLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  obtain ⟨e9, e10, e14, e15, e16, e11, e12, e13⟩ := hr
  iintro ⟨H3, H4, H5, H6, H7, H8, H9, H10, H11, H12, H13, H14, H15, H16, Hk⟩
  iapply (r.2 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H5, H6, H7, H8, H9, H10, H11, H12, H13, H14, H15, H16⟩
  iapply Hk
  iexists (r.1.1), (r.1.2.1), (r.1.2.2.1), (r.1.2.2.2.1), (r.1.2.2.2.2.1), (r.1.2.2.2.2.2.1), (r.1.2.2.2.2.2.2.1), (r.1.2.2.2.2.2.2.2)
  isplitr
  · ipureintro
    exact by
        unfold After; simp only [hs]
        exact ⟨St.ext e9 e10 e14 e15 e16, fun _ => ⟨e11, e12, e13⟩, fun h => absurd hc5 h⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_First (hc1 : k0_cond1 i = 1#1) (hc3 : k0_cond3 i ≠ 1#1) (hc4 : k0_cond4 i = 1#1) (hc5 : k0_cond5 i ≠ 1#1) (E : Set ℕ) (Q : PUnit → sProp 𝕄) :
    iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
      ∗ (iprop(∃ (g9 : Bf (F := F) c M9) (g10 : Bf (F := F) c M10) (g11 : Bf (F := F) c M11) (g12 : Bf (F := F) c M12)
            (g13 : Bf (F := F) c M13) (g14 : Bf (F := F) c M14) (g15 : Bf (F := F) c M15) (g16 : Bf (F := F) c M16),
          ⌜After c i M3 M4 M5 M6 M7 M9 M10 M11 M12 M13 M14 M15 M16 f3 f4 f5 f6 f7 f9 f10 f11 f12 f13 f14 f15 f16 g9 g10 g11 g12 g13 g14 g15 g16⌝
          ∗ pt c M3 f3 ∗ pt c M4 f4 ∗ pt c M5 f5 ∗ pt c M6 f6 ∗ pt c M7 f7 ∗ pt c M8 f8 ∗ pt c M9 g9 ∗ pt c M10 g10 ∗ pt c M11 g11 ∗ pt c M12 g12 ∗ pt c M13 g13 ∗ pt c M14 g14 ∗ pt c M15 g15 ∗ pt c M16 g16) -∗ Q ⟨⟩))
    ⊢ wp frame (wpE (defs₀ (F := F)) 𝒱₀ c none) E (cc0_attn_bwd i M3 h3 M4 h4 M5 h5 M6 h6 M7 h7 M8 h8 M9 h9 M10 h10 M11 h11 M12 h12 M13 h13 M14 h14 M15 h15 M16 h16) Q := by
  have hs : ∀ s : St F, pointStep i (blkOf c M3 M4 M5 M6 M7 f3 f4 f5 f6 f7) s
      = step true (blkOf c M3 M4 M5 M6 M7 f3 f4 f5 f6 f7) (qb i) (qb_lt i) (clearK (clearQ s)) := fun s => by
    simp only [pointStep, if_pos hc1]
  have hr := runFirst_reads 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  let r := runFirst 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  obtain ⟨e9, e10, e14, e15, e16⟩ := hr
  iintro ⟨H3, H4, H5, H6, H7, H8, H9, H10, H11, H12, H13, H14, H15, H16, Hk⟩
  iapply (r.2 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H5, H6, H7, H8, H9, H10, H11, H12, H13, H14, H15, H16⟩
  iapply Hk
  iexists (r.1.1), (r.1.2.1), f11, f12, f13, (r.1.2.2.1), (r.1.2.2.2.1), (r.1.2.2.2.2)
  isplitr
  · ipureintro
    exact by
        unfold After; simp only [hs]
        exact ⟨St.ext e9 e10 e14 e15 e16, fun h => absurd h hc5, fun _ => ⟨by trivial, by trivial, by trivial⟩⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_Diag (hc1 : k0_cond1 i ≠ 1#1) (hc3 : k0_cond3 i ≠ 1#1) (hc4 : k0_cond4 i = 1#1) (hc5 : k0_cond5 i ≠ 1#1) (E : Set ℕ) (Q : PUnit → sProp 𝕄) :
    iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
      ∗ (iprop(∃ (g9 : Bf (F := F) c M9) (g10 : Bf (F := F) c M10) (g11 : Bf (F := F) c M11) (g12 : Bf (F := F) c M12)
            (g13 : Bf (F := F) c M13) (g14 : Bf (F := F) c M14) (g15 : Bf (F := F) c M15) (g16 : Bf (F := F) c M16),
          ⌜After c i M3 M4 M5 M6 M7 M9 M10 M11 M12 M13 M14 M15 M16 f3 f4 f5 f6 f7 f9 f10 f11 f12 f13 f14 f15 f16 g9 g10 g11 g12 g13 g14 g15 g16⌝
          ∗ pt c M3 f3 ∗ pt c M4 f4 ∗ pt c M5 f5 ∗ pt c M6 f6 ∗ pt c M7 f7 ∗ pt c M8 f8 ∗ pt c M9 g9 ∗ pt c M10 g10 ∗ pt c M11 g11 ∗ pt c M12 g12 ∗ pt c M13 g13 ∗ pt c M14 g14 ∗ pt c M15 g15 ∗ pt c M16 g16) -∗ Q ⟨⟩))
    ⊢ wp frame (wpE (defs₀ (F := F)) 𝒱₀ c none) E (cc0_attn_bwd i M3 h3 M4 h4 M5 h5 M6 h6 M7 h7 M8 h8 M9 h9 M10 h10 M11 h11 M12 h12 M13 h13 M14 h14 M15 h15 M16 h16) Q := by
  have hs : ∀ s : St F, pointStep i (blkOf c M3 M4 M5 M6 M7 f3 f4 f5 f6 f7) s
      = step true (blkOf c M3 M4 M5 M6 M7 f3 f4 f5 f6 f7) (qb i) (qb_lt i) (clearK s) := fun s => by
    simp only [pointStep, if_neg hc1, if_pos hc4]
  have hr := runDiag_reads 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  let r := runDiag 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  obtain ⟨e9, e10, e14, e15, e16⟩ := hr
  iintro ⟨H3, H4, H5, H6, H7, H8, H9, H10, H11, H12, H13, H14, H15, H16, Hk⟩
  iapply (r.2 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H5, H6, H7, H8, H9, H10, H11, H12, H13, H14, H15, H16⟩
  iapply Hk
  iexists (r.1.1), (r.1.2.1), f11, f12, f13, (r.1.2.2.1), (r.1.2.2.2.1), (r.1.2.2.2.2)
  isplitr
  · ipureintro
    exact by
        unfold After; simp only [hs]
        exact ⟨St.ext e9 e10 e14 e15 e16, fun h => absurd h hc5, fun _ => ⟨by trivial, by trivial, by trivial⟩⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_DiagLast (hc1 : k0_cond1 i ≠ 1#1) (hc3 : k0_cond3 i ≠ 1#1) (hc4 : k0_cond4 i = 1#1) (hc5 : k0_cond5 i = 1#1) (E : Set ℕ) (Q : PUnit → sProp 𝕄) :
    iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
      ∗ (iprop(∃ (g9 : Bf (F := F) c M9) (g10 : Bf (F := F) c M10) (g11 : Bf (F := F) c M11) (g12 : Bf (F := F) c M12)
            (g13 : Bf (F := F) c M13) (g14 : Bf (F := F) c M14) (g15 : Bf (F := F) c M15) (g16 : Bf (F := F) c M16),
          ⌜After c i M3 M4 M5 M6 M7 M9 M10 M11 M12 M13 M14 M15 M16 f3 f4 f5 f6 f7 f9 f10 f11 f12 f13 f14 f15 f16 g9 g10 g11 g12 g13 g14 g15 g16⌝
          ∗ pt c M3 f3 ∗ pt c M4 f4 ∗ pt c M5 f5 ∗ pt c M6 f6 ∗ pt c M7 f7 ∗ pt c M8 f8 ∗ pt c M9 g9 ∗ pt c M10 g10 ∗ pt c M11 g11 ∗ pt c M12 g12 ∗ pt c M13 g13 ∗ pt c M14 g14 ∗ pt c M15 g15 ∗ pt c M16 g16) -∗ Q ⟨⟩))
    ⊢ wp frame (wpE (defs₀ (F := F)) 𝒱₀ c none) E (cc0_attn_bwd i M3 h3 M4 h4 M5 h5 M6 h6 M7 h7 M8 h8 M9 h9 M10 h10 M11 h11 M12 h12 M13 h13 M14 h14 M15 h15 M16 h16) Q := by
  have hs : ∀ s : St F, pointStep i (blkOf c M3 M4 M5 M6 M7 f3 f4 f5 f6 f7) s
      = step true (blkOf c M3 M4 M5 M6 M7 f3 f4 f5 f6 f7) (qb i) (qb_lt i) (clearK s) := fun s => by
    simp only [pointStep, if_neg hc1, if_pos hc4]
  have hr := runDiagLast_reads 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  let r := runDiagLast 𝒱₀ c i hc1 hc3 hc4 hc5 M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16
  obtain ⟨e9, e10, e14, e15, e16, e11, e12, e13⟩ := hr
  iintro ⟨H3, H4, H5, H6, H7, H8, H9, H10, H11, H12, H13, H14, H15, H16, Hk⟩
  iapply (r.2 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H5, H6, H7, H8, H9, H10, H11, H12, H13, H14, H15, H16⟩
  iapply Hk
  iexists (r.1.1), (r.1.2.1), (r.1.2.2.1), (r.1.2.2.2.1), (r.1.2.2.2.2.1), (r.1.2.2.2.2.2.1), (r.1.2.2.2.2.2.2.1), (r.1.2.2.2.2.2.2.2)
  isplitr
  · ipureintro
    exact by
        unfold After; simp only [hs]
        exact ⟨St.ext e9 e10 e14 e15 e16, fun _ => ⟨e11, e12, e13⟩, fun h => absurd hc5 h⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body at any grid point. -/
theorem sound_body (E : Set ℕ) (Q : PUnit → sProp 𝕄) :
    iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
      ∗ (iprop(∃ (g9 : Bf (F := F) c M9) (g10 : Bf (F := F) c M10) (g11 : Bf (F := F) c M11) (g12 : Bf (F := F) c M12)
            (g13 : Bf (F := F) c M13) (g14 : Bf (F := F) c M14) (g15 : Bf (F := F) c M15) (g16 : Bf (F := F) c M16),
          ⌜After c i M3 M4 M5 M6 M7 M9 M10 M11 M12 M13 M14 M15 M16 f3 f4 f5 f6 f7 f9 f10 f11 f12 f13 f14 f15 f16 g9 g10 g11 g12 g13 g14 g15 g16⌝
          ∗ pt c M3 f3 ∗ pt c M4 f4 ∗ pt c M5 f5 ∗ pt c M6 f6 ∗ pt c M7 f7 ∗ pt c M8 f8 ∗ pt c M9 g9 ∗ pt c M10 g10 ∗ pt c M11 g11 ∗ pt c M12 g12 ∗ pt c M13 g13 ∗ pt c M14 g14 ∗ pt c M15 g15 ∗ pt c M16 g16) -∗ Q ⟨⟩))
    ⊢ wp frame (wpE (defs₀ (F := F)) 𝒱₀ c none) E (cc0_attn_bwd i M3 h3 M4 h4 M5 h5 M6 h6 M7 h7 M8 h8 M9 h9 M10 h10 M11 h11 M12 h12 M13 h13 M14 h14 M15 h15 M16 h16) Q := by
  by_cases hc1 : k0_cond1 i = 1#1
  · have hb : qb i = 0 ∧ kb i = 0 := by
      obtain ⟨ha, hb⟩ := (cond1_iff i).mp hc1
      constructor <;> simp [qb, kb, ha, hb]
    have hc4 : k0_cond4 i = 1#1 := (cond4_iff i).mpr (hb.1.trans hb.2.symm)
    have hc3 : k0_cond3 i ≠ 1#1 := fun h => by have := (cond3_iff i).mp h; omega
    have hc5 : k0_cond5 i ≠ 1#1 := fun h => by have := (cond5_iff i).mp h; omega
    exact body_First 𝒱₀ c i M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16 hc1 hc3 hc4 hc5 E Q
  · by_cases hc4 : k0_cond4 i = 1#1
    · have hc3 : k0_cond3 i ≠ 1#1 := fun h => by have := (cond3_iff i).mp h; have := (cond4_iff i).mp hc4; omega
      by_cases hc5 : k0_cond5 i = 1#1
      · exact body_DiagLast 𝒱₀ c i M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16 hc1 hc3 hc4 hc5 E Q
      · exact body_Diag 𝒱₀ c i M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16 hc1 hc3 hc4 hc5 E Q
    · have hc3 : k0_cond3 i = 1#1 := (cond3_iff i).mpr (by
        have := kb_le_qb i; have : ¬ qb i = kb i := fun h => hc4 ((cond4_iff i).mpr h); omega)
      by_cases hc5 : k0_cond5 i = 1#1
      · exact body_OffLast 𝒱₀ c i M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16 hc1 hc3 hc4 hc5 E Q
      · exact body_Off 𝒱₀ c i M3 h3 M4 h4 M5 h5 M6 h6 M7 h7 M8 h8 M9 h9 M10 h10 M11 h11 M12 h12 M13 h13 M14 h14 M15 h15 M16 h16 f3 f4 f5 f6 f7 f8 f9 f10 f11 f12 f13 f14 f15 f16 hc1 hc3 hc4 hc5 E Q

end Cert.Proof

end
-- ==== Proof.Data.lean ====
/-
  What the grid's run carries from point to point, and what it leaves in the windows: the pipeline's proof data.
-/
module

public import proofs.«01_k».proof.Proof.Body

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A whole buffer owned at what it reads. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, rfl, rfl, rfl, hm⟩ := h
  cases hm
  unfold owns
  simp only [Memref.view_whole, View.set_whole]

variable (m : (ℓ : Loc nD τ sig) → Buf (Elt F) ℓ) (ρ : Dev nD → PrngReg)

/-- The blocks fetched at point `t`. -/
def blkAt (c : Dev nD) (t : Fin cfg0.N) : Blk F :=
  ⟨iblk m c 0 t, iblk m c 1 t, iblk m c 2 t, iblk m c 3 t, iblk m c 4 t⟩

/-- Accumulators at zero. -/
def noSt : St F :=
  ⟨broadcast S512x8192 (Scalar.ofBits .f32 0x00000000#32 : F .f32), broadcast S8x8192 (Scalar.ofBits .f32 0x00000000#32 : F .f32),
   broadcast S512x512 (Scalar.ofBits .f32 0x00000000#32 : F .f32), broadcast S512x512 (Scalar.ofBits .f32 0x00000000#32 : F .f32),
   broadcast S512x128 (Scalar.ofBits .f32 0x00000000#32 : F .f32)⟩

/-- The accumulators after `n` grid points. -/
def stAt (c : Dev nD) : Nat → St F
  | 0 => noSt
  | n + 1 => if h : n < cfg0.N then pointStep (grid0.coords ⟨n, h⟩) (blkAt m c ⟨n, h⟩) (stAt c n) else stAt c n

theorem stAt_succ (c : Dev nD) (t : Fin cfg0.N) :
    stAt m c (t.val + 1) = pointStep (grid0.coords t) (blkAt m c t) (stAt m c t.val) := by
  simp only [stAt, dif_pos t.isLt]

/-- The scratch buffers at the keys' accumulators (at anything before the first point), the generator register at
    something. -/
def Φc (c : Dev nD) (n : Nat) : sProp 𝕄 :=
  iprop((∃ (f14 : Bf (F := F) c (Memref.whole cc0_scratch0)) (f15 : Bf (F := F) c (Memref.whole cc0_scratch1))
      (f16 : Bf (F := F) c (Memref.whole cc0_scratch2)),
    ⌜n ≠ 0 → (Memref.whole cc0_scratch0).view.read (Elt F) f14 = (stAt m c n).dk
      ∧ (Memref.whole cc0_scratch1).view.read (Elt F) f15 = (stAt m c n).dv
      ∧ (Memref.whole cc0_scratch2).view.read (Elt F) f16 = (stAt m c n).dck⌝
    ∗ pt c (Memref.whole cc0_scratch0) f14 ∗ pt c (Memref.whole cc0_scratch1) f15 ∗ pt c (Memref.whole cc0_scratch2) f16)
    ∗ ∃ r, prngReg c r)

/-- The proof data on core `c`: inputs keep their blocks; the queries' accumulators are their windows; the keys' blocks are
    written from the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c (t.val + 1)).dq
    | ⟨7, _⟩ => (stAt m c (t.val + 1)).dc
    | ⟨8, _⟩ => truncf .bf16 (stAt m c (t.val + 1)).dk bitsLt_bf16_f32
    | ⟨9, _⟩ => truncf .bf16 (stAt m c (t.val + 1)).dv bitsLt_bf16_f32
    | ⟨10, _⟩ => (stAt m c (t.val + 1)).dck
  Φ t := Φc m c t.val
  q _ := fullShare
  owed _ := 0

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d
theorem before_5 (c : Dev nD) (t : Fin cfg0.N) (d) : (dats m 0 c).before 5 t d = iblk m c 5 t := before0_5_of m (dats m 0 c) rfl (fun _ => rfl) t d

theorem idle_q (i : grid0.Coords) : idle0 6 i = false ∧ idle0 7 i = false := by
  have h : k0_cond3 i = 1#1 ∨ k0_cond4 i = 1#1 := by
    rw [cond3_iff, cond4_iff]; have := kb_le_qb i; omega
  rcases h with h | h <;> simp [idle0, h]

theorem before_6 (c : Dev nD) (t : Fin cfg0.N) (h : t.val ≠ 0) (d) : (dats m 0 c).before 6 t d = (stAt m c t.val).dq := by
  have hl : t.val < 136 := lt_of_lt_of_eq t.isLt N_0
  refine ((dats m 0 c).before_out_kept 6 rfl t h ?_ (fun i => (idle_q i).1) (fun _ _ => rfl) d).trans ?_
  · refine Bool.eq_false_iff.mpr fun hf => ?_
    have := (flush0_6 _).mp hf
    dsimp only at this; omega
  · show (stAt m c (t.val - 1 + 1)).dq = _
    rw [Nat.sub_add_cancel (Nat.pos_of_ne_zero h)]

theorem before_7 (c : Dev nD) (t : Fin cfg0.N) (h : t.val ≠ 0) (d) : (dats m 0 c).before 7 t d = (stAt m c t.val).dc := by
  have hl : t.val < 136 := lt_of_lt_of_eq t.isLt N_0
  refine ((dats m 0 c).before_out_kept 7 rfl t h ?_ (fun i => (idle_q i).2) (fun _ _ => rfl) d).trans ?_
  · refine Bool.eq_false_iff.mpr fun hf => ?_
    have := (flush0_7 _).mp hf
    dsimp only at this; omega
  · show (stAt m c (t.val - 1 + 1)).dc = _
    rw [Nat.sub_add_cancel (Nat.pos_of_ne_zero h)]

/-- The first grid point is where everything is cleared. -/
theorem first_iff : ∀ t : Fin grid0.N, ((grid0.coords t) 1).val = 0 ∧ ((grid0.coords t) 2).val = 0 ↔ t.val = 0 := by decide +kernel

/-- The keys' blocks are written back only where the query block is the last. -/
theorem flush_8 : ∀ t : Fin grid0.N, win0_8.flush t = true → qb (grid0.coords t) = 15 := by decide +kernel
theorem flush_9 : ∀ t : Fin grid0.N, win0_9.flush t = true → qb (grid0.coords t) = 15 := by decide +kernel
theorem flush_10 : ∀ t : Fin grid0.N, win0_10.flush t = true → qb (grid0.coords t) = 15 := by decide +kernel

end Cert.Proof

end
-- ==== Proof.Launch.lean ====
/-
  The body's obligation at every grid point, the run of the whole program, and its frame.
-/
module

public import proofs.«01_k».proof.Proof.Data

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A live window's buffer is left at `after`. -/
theorem leaves_live (c : Dev nD) (w : Fin cfg0.W) (t : Fin cfg0.N) (h : cfg0.idle w (cfg0.grid.coords t) = false) :
    (dats m 0 c).leavesExact w t = (owns (c : Thread nD τ) ((cfg0.win w).stage (cfg0.slots t w)) fullShare ((dats m 0 c).after w t) : sProp 𝕄) := by
  unfold Dat.leavesExact; rw [h]

theorem idle_cfg (w : Fin cfg0.W) (i : cfg0.grid.Coords) : cfg0.idle w i = idle0 w i := rfl

theorem idle_k (i : grid0.Coords) (w : Fin cfg0.W) (hw : w = 8 ∨ w = 9 ∨ w = 10) : cfg0.idle w i = !(k0_cond5 i == 1#1) := by
  rw [idle_cfg]
  rcases hw with rfl | rfl | rfl
  · unfold idle0; rfl
  · unfold idle0; rfl
  · unfold idle0; rfl

theorem stAt_dk (c : Dev nD) (t : Fin cfg0.N) : (dats m 0 c).after 8 t = truncf .bf16 (stAt m c (t.val + 1)).dk bitsLt_bf16_f32 := rfl

theorem leave_8 (c : Dev nD) (t : Fin cfg0.N) (X d : S512x512.Idx → Elt F .bf16)
    (h1 : k0_cond5 (grid0.coords t) = 1#1 → X = (dats m 0 c).after 8 t) (h2 : k0_cond5 (grid0.coords t) ≠ 1#1 → X = (dats m 0 c).before 8 t d) :
    (owns (c : Thread nD τ) (st0_8 t) fullShare X : sProp 𝕄) ⊢ (dats m 0 c).leavesExact 8 t := by
  by_cases hc : k0_cond5 (grid0.coords t) = 1#1
  · have hi : cfg0.idle 8 (grid0.coords t) = false := (idle_k (grid0.coords t) 8 (.inl rfl)).trans (by rw [hc]; rfl)
    rw [leaves_live m c 8 t hi, ← h1 hc]
  · have hi : cfg0.idle 8 (grid0.coords t) = true := (idle_k (grid0.coords t) 8 (.inl rfl)).trans (by simpa using hc)
    have hf : win0_8.flush t = false := Bool.eq_false_iff.mpr fun hf => hc ((cond5_iff _).mpr (flush_8 t hf))
    rw [(dats m 0 c).leavesExact_idle 8 t hi hf, h2 hc]
    iintro H; iexists d; iexact H

theorem leave_9 (c : Dev nD) (t : Fin cfg0.N) (X d : S512x512.Idx → Elt F .bf16)
    (h1 : k0_cond5 (grid0.coords t) = 1#1 → X = (dats m 0 c).after 9 t) (h2 : k0_cond5 (grid0.coords t) ≠ 1#1 → X = (dats m 0 c).before 9 t d) :
    (owns (c : Thread nD τ) (st0_9 t) fullShare X : sProp 𝕄) ⊢ (dats m 0 c).leavesExact 9 t := by
  by_cases hc : k0_cond5 (grid0.coords t) = 1#1
  · have hi : cfg0.idle 9 (grid0.coords t) = false := (idle_k (grid0.coords t) 9 (.inr (.inl rfl))).trans (by rw [hc]; rfl)
    rw [leaves_live m c 9 t hi, ← h1 hc]
  · have hi : cfg0.idle 9 (grid0.coords t) = true := (idle_k (grid0.coords t) 9 (.inr (.inl rfl))).trans (by simpa using hc)
    have hf : win0_9.flush t = false := Bool.eq_false_iff.mpr fun hf => hc ((cond5_iff _).mpr (flush_9 t hf))
    rw [(dats m 0 c).leavesExact_idle 9 t hi hf, h2 hc]
    iintro H; iexists d; iexact H

theorem leave_10 (c : Dev nD) (t : Fin cfg0.N) (X d : S512x128.Idx → Elt F .f32)
    (h1 : k0_cond5 (grid0.coords t) = 1#1 → X = (dats m 0 c).after 10 t) (h2 : k0_cond5 (grid0.coords t) ≠ 1#1 → X = (dats m 0 c).before 10 t d) :
    (owns (c : Thread nD τ) (st0_10 t) fullShare X : sProp 𝕄) ⊢ (dats m 0 c).leavesExact 10 t := by
  by_cases hc : k0_cond5 (grid0.coords t) = 1#1
  · have hi : cfg0.idle 10 (grid0.coords t) = false := (idle_k (grid0.coords t) 10 (.inr (.inr rfl))).trans (by rw [hc]; rfl)
    rw [leaves_live m c 10 t hi, ← h1 hc]
  · have hi : cfg0.idle 10 (grid0.coords t) = true := (idle_k (grid0.coords t) 10 (.inr (.inr rfl))).trans (by simpa using hc)
    have hf : win0_10.flush t = false := Bool.eq_false_iff.mpr fun hf => hc ((cond5_iff _).mpr (flush_10 t hf))
    rw [(dats m 0 c).leavesExact_idle 10 t hi hf, h2 hc]
    iintro H; iexists d; iexact H

set_option maxHeartbeats 2000000 in
/-- The body at point `t`. -/
theorem sound_point (c : Dev nD) (t : Fin cfg0.N) :
    iprop(Φc m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
    ⊢ wp frame (wpE (defs₀ (F := F)) Variants.none c none) Set.univ (bodyAt0 t) fun _ =>
      iprop(Φc m c (t.val + 1) ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t) := by
  unfold Φc
  iintro ⟨⟨⟨%f14, %f15, %f16, %hΦ, H14, H15, H16⟩, Hg⟩, Howes, ⟨%d0, O0⟩, ⟨%d1, O1⟩, ⟨%d2, O2⟩, ⟨%d3, O3⟩, ⟨%d4, O4⟩, ⟨%d5, O5⟩, ⟨%d6, O6⟩, ⟨%d7, O7⟩, ⟨%d8, O8⟩, ⟨%d9, O9⟩, ⟨%d10, O10⟩⟩
  ihave O0 := (show owns (c : Thread nD τ) (st0_0 t) fullShare _ ⊢ (iprop(∃ f : Bf (F := F) c (st0_0 t), ⌜((st0_0 t)).view.read (Elt F) f = _⌝ ∗ pt c (st0_0 t) f) : sProp 𝕄) from by rw [owns_pt c (M := (st0_0 t)) (hstage0_0 ((cfg0.slots t 0).cast nbuf0_0))]) $$ O0
  icases O0 with ⟨%f3, %r3, H3⟩
  ihave O1 := (show owns (c : Thread nD τ) (st0_1 t) fullShare _ ⊢ (iprop(∃ f : Bf (F := F) c (st0_1 t), ⌜((st0_1 t)).view.read (Elt F) f = _⌝ ∗ pt c (st0_1 t) f) : sProp 𝕄) from by rw [owns_pt c (M := (st0_1 t)) (hstage0_1 ((cfg0.slots t 1).cast nbuf0_1))]) $$ O1
  icases O1 with ⟨%f4, %r4, H4⟩
  ihave O2 := (show owns (c : Thread nD τ) (st0_2 t) fullShare _ ⊢ (iprop(∃ f : Bf (F := F) c (st0_2 t), ⌜((st0_2 t)).view.read (Elt F) f = _⌝ ∗ pt c (st0_2 t) f) : sProp 𝕄) from by rw [owns_pt c (M := (st0_2 t)) (hstage0_2 ((cfg0.slots t 2).cast nbuf0_2))]) $$ O2
  icases O2 with ⟨%f5, %r5, H5⟩
  ihave O3 := (show owns (c : Thread nD τ) (st0_3 t) fullShare _ ⊢ (iprop(∃ f : Bf (F := F) c (st0_3 t), ⌜((st0_3 t)).view.read (Elt F) f = _⌝ ∗ pt c (st0_3 t) f) : sProp 𝕄) from by rw [owns_pt c (M := (st0_3 t)) (hstage0_3 ((cfg0.slots t 3).cast nbuf0_3))]) $$ O3
  icases O3 with ⟨%f6, %r6, H6⟩
  ihave O4 := (show owns (c : Thread nD τ) (st0_4 t) fullShare _ ⊢ (iprop(∃ f : Bf (F := F) c (st0_4 t), ⌜((st0_4 t)).view.read (Elt F) f = _⌝ ∗ pt c (st0_4 t) f) : sProp 𝕄) from by rw [owns_pt c (M := (st0_4 t)) (hstage0_4 ((cfg0.slots t 4).cast nbuf0_4))]) $$ O4
  icases O4 with ⟨%f7, %r7, H7⟩
  ihave O5 := (show owns (c : Thread nD τ) (st0_5 t) fullShare _ ⊢ (iprop(∃ f : Bf (F := F) c (st0_5 t), ⌜((st0_5 t)).view.read (Elt F) f = _⌝ ∗ pt c (st0_5 t) f) : sProp 𝕄) from by rw [owns_pt c (M := (st0_5 t)) (hstage0_5 ((cfg0.slots t 5).cast nbuf0_5))]) $$ O5
  icases O5 with ⟨%f8, %r8, H8⟩
  ihave O6 := (show owns (c : Thread nD τ) (st0_6 t) fullShare _ ⊢ (iprop(∃ f : Bf (F := F) c (st0_6 t), ⌜((st0_6 t)).view.read (Elt F) f = _⌝ ∗ pt c (st0_6 t) f) : sProp 𝕄) from by rw [owns_pt c (M := (st0_6 t)) (hstage0_6 ((cfg0.slots t 6).cast nbuf0_6))]) $$ O6
  icases O6 with ⟨%f9, %r9, H9⟩
  ihave O7 := (show owns (c : Thread nD τ) (st0_7 t) fullShare _ ⊢ (iprop(∃ f : Bf (F := F) c (st0_7 t), ⌜((st0_7 t)).view.read (Elt F) f = _⌝ ∗ pt c (st0_7 t) f) : sProp 𝕄) from by rw [owns_pt c (M := (st0_7 t)) (hstage0_7 ((cfg0.slots t 7).cast nbuf0_7))]) $$ O7
  icases O7 with ⟨%f10, %r10, H10⟩
  ihave O8 := (show owns (c : Thread nD τ) (st0_8 t) fullShare _ ⊢ (iprop(∃ f : Bf (F := F) c (st0_8 t), ⌜((st0_8 t)).view.read (Elt F) f = _⌝ ∗ pt c (st0_8 t) f) : sProp 𝕄) from by rw [owns_pt c (M := (st0_8 t)) (hstage0_8 ((cfg0.slots t 8).cast nbuf0_8))]) $$ O8
  icases O8 with ⟨%f11, %r11, H11⟩
  ihave O9 := (show owns (c : Thread nD τ) (st0_9 t) fullShare _ ⊢ (iprop(∃ f : Bf (F := F) c (st0_9 t), ⌜((st0_9 t)).view.read (Elt F) f = _⌝ ∗ pt c (st0_9 t) f) : sProp 𝕄) from by rw [owns_pt c (M := (st0_9 t)) (hstage0_9 ((cfg0.slots t 9).cast nbuf0_9))]) $$ O9
  icases O9 with ⟨%f12, %r12, H12⟩
  ihave O10 := (show owns (c : Thread nD τ) (st0_10 t) fullShare _ ⊢ (iprop(∃ f : Bf (F := F) c (st0_10 t), ⌜((st0_10 t)).view.read (Elt F) f = _⌝ ∗ pt c (st0_10 t) f) : sProp 𝕄) from by rw [owns_pt c (M := (st0_10 t)) (hstage0_10 ((cfg0.slots t 10).cast nbuf0_10))]) $$ O10
  icases O10 with ⟨%f13, %r13, H13⟩
  rw [before_0] at r3; rw [before_1] at r4; rw [before_2] at r5; rw [before_3] at r6; rw [before_4] at r7; rw [before_5] at r8
  have hB : blkOf c (st0_0 t) (st0_1 t) (st0_2 t) (st0_3 t) (st0_4 t) f3 f4 f5 f6 f7 = blkAt m c t := by
    unfold blkOf blkAt; rw [r3, r4, r5, r6, r7]
  have hS : pointStep (grid0.coords t) (blkAt m c t) (stOf c (st0_6 t) (st0_7 t) (Memref.whole cc0_scratch0) (Memref.whole cc0_scratch1) (Memref.whole cc0_scratch2) f9 f10 f14 f15 f16)
      = stAt m c (t.val + 1) := by
    rw [stAt_succ]
    by_cases h0 : t.val = 0
    · exact pointStep_first _ ((cond1_iff _).mpr ((first_iff t).mpr h0)) _ _ _
    · obtain ⟨k1, k2, k3⟩ := hΦ h0
      rw [before_6 m c t h0] at r9; rw [before_7 m c t h0] at r10
      exact congrArg _ (St.ext r9 r10 k1 k2 k3)
  iapply (sound_body Variants.none c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _)
    f3 f4 f5 f6 f7 f8 f9 f10 f11 f12 f13 f14 f15 f16 Set.univ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨%g9, %g10, %g11, %g12, %g13, %g14, %g15, %g16, %hA, H3, H4, H5, H6, H7, H8, H9, H10, H11, H12, H13, H14, H15, H16⟩
  unfold After at hA
  simp only [hB, hS] at hA
  obtain ⟨hs, hlast, hkeep⟩ := hA
  isplitl [H14 H15 H16 Hg]
  · isplitr [Hg]
    · iexists g14, g15, g16
      isplitr
      · ipureintro
        exact fun _ => ⟨congrArg St.dk hs, congrArg St.dv hs, congrArg St.dck hs⟩
      isplitl [H14]; · iexact H14
      isplitl [H15]; · iexact H15
      iexact H16
    · iexact Hg
  isplitl [Howes]; · iexact Howes
  isplitl [H3]
  · iapply (show pt c (st0_0 t) f3 ⊢ (dats m 0 c).leavesExact 0 t from by
      rw [leaves_live m c 0 t rfl, owns_pt c (M := (st0_0 t)) (hstage0_0 ((cfg0.slots t 0).cast nbuf0_0))]; iintro H; iexists f3; isplitr; · ipureintro; exact r3
      iexact H)
    iexact H3
  isplitl [H4]
  · iapply (show pt c (st0_1 t) f4 ⊢ (dats m 0 c).leavesExact 1 t from by
      rw [leaves_live m c 1 t rfl, owns_pt c (M := (st0_1 t)) (hstage0_1 ((cfg0.slots t 1).cast nbuf0_1))]; iintro H; iexists f4; isplitr; · ipureintro; exact r4
      iexact H)
    iexact H4
  isplitl [H5]
  · iapply (show pt c (st0_2 t) f5 ⊢ (dats m 0 c).leavesExact 2 t from by
      rw [leaves_live m c 2 t rfl, owns_pt c (M := (st0_2 t)) (hstage0_2 ((cfg0.slots t 2).cast nbuf0_2))]; iintro H; iexists f5; isplitr; · ipureintro; exact r5
      iexact H)
    iexact H5
  isplitl [H6]
  · iapply (show pt c (st0_3 t) f6 ⊢ (dats m 0 c).leavesExact 3 t from by
      rw [leaves_live m c 3 t rfl, owns_pt c (M := (st0_3 t)) (hstage0_3 ((cfg0.slots t 3).cast nbuf0_3))]; iintro H; iexists f6; isplitr; · ipureintro; exact r6
      iexact H)
    iexact H6
  isplitl [H7]
  · iapply (show pt c (st0_4 t) f7 ⊢ (dats m 0 c).leavesExact 4 t from by
      rw [leaves_live m c 4 t rfl, owns_pt c (M := (st0_4 t)) (hstage0_4 ((cfg0.slots t 4).cast nbuf0_4))]; iintro H; iexists f7; isplitr; · ipureintro; exact r7
      iexact H)
    iexact H7
  isplitl [H8]
  · iapply (show pt c (st0_5 t) f8 ⊢ (dats m 0 c).leavesExact 5 t from by
      rw [leaves_live m c 5 t rfl, owns_pt c (M := (st0_5 t)) (hstage0_5 ((cfg0.slots t 5).cast nbuf0_5))]; iintro H; iexists f8; isplitr; · ipureintro; exact r8
      iexact H)
    iexact H8
  isplitl [H9]
  · iapply (show pt c (st0_6 t) g9 ⊢ (dats m 0 c).leavesExact 6 t from by
      rw [leaves_live m c 6 t (idle_q (grid0.coords t)).1, owns_pt c (M := (st0_6 t)) (hstage0_6 ((cfg0.slots t 6).cast nbuf0_6))]; iintro H; iexists g9; isplitr; · ipureintro; exact congrArg St.dq hs
      iexact H)
    iexact H9
  isplitl [H10]
  · iapply (show pt c (st0_7 t) g10 ⊢ (dats m 0 c).leavesExact 7 t from by
      rw [leaves_live m c 7 t (idle_q (grid0.coords t)).2, owns_pt c (M := (st0_7 t)) (hstage0_7 ((cfg0.slots t 7).cast nbuf0_7))]; iintro H; iexists g10; isplitr; · ipureintro; exact congrArg St.dc hs
      iexact H)
    iexact H10
  isplitl [H11]
  · iapply (show pt c (st0_8 t) g11 ⊢ (dats m 0 c).leavesExact 8 t from
      (show _ ⊢ owns (c : Thread nD τ) (st0_8 t) fullShare (((st0_8 t)).view.read (Elt F) g11) from by
        rw [owns_pt c (M := (st0_8 t)) (hstage0_8 ((cfg0.slots t 8).cast nbuf0_8))]; iintro H; iexists g11; isplitr; · ipureintro; rfl
        iexact H).trans
        (leave_8 m c t _ d8 (fun h => (hlast h).1) (fun h => by rw [(hkeep h).1]; exact r11)))
    iexact H11
  isplitl [H12]
  · iapply (show pt c (st0_9 t) g12 ⊢ (dats m 0 c).leavesExact 9 t from
      (show _ ⊢ owns (c : Thread nD τ) (st0_9 t) fullShare (((st0_9 t)).view.read (Elt F) g12) from by
        rw [owns_pt c (M := (st0_9 t)) (hstage0_9 ((cfg0.slots t 9).cast nbuf0_9))]; iintro H; iexists g12; isplitr; · ipureintro; rfl
        iexact H).trans
        (leave_9 m c t _ d9 (fun h => (hlast h).2.1) (fun h => by rw [(hkeep h).2.1]; exact r12)))
    iexact H12
  iapply (show pt c (st0_10 t) g13 ⊢ (dats m 0 c).leavesExact 10 t from
      (show _ ⊢ owns (c : Thread nD τ) (st0_10 t) fullShare (((st0_10 t)).view.read (Elt F) g13) from by
        rw [owns_pt c (M := (st0_10 t)) (hstage0_10 ((cfg0.slots t 10).cast nbuf0_10))]; iintro H; iexists g13; isplitr; · ipureintro; rfl
        iexact H).trans
        (leave_10 m c t _ d10 (fun h => (hlast h).2.2) (fun h => by rw [(hkeep h).2.2]; exact r13)))
  iexact H13

theorem defs₀_row (t : Fin cfg0.N) : defs₀ (F := F) .tc cfg0.body (cfg0.bodyArgs t (cfg0.slots t)) = bodyAt0 t := by
  unfold defs₀; rw [Defs.onTc_tc]

theorem phi_succ (c : Dev nD) (t : Fin cfg0.N) : (dats m 0 c).Φ t.succ = Φc m c (t.val + 1) := rfl

theorem obligation_of (c : Dev nD) (h : ∀ t : Fin cfg0.N,
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
        iprop((dats m 0 c).Φ t.succ ∗ (dats m 0 c).owesAt () t.succ ∗ bigSep Finset.univ fun w : Fin cfg0.W => (dats m 0 c).leavesExact w t)) :
    BodyObligation (dats m 0 c) (defs₀ (F := F)) Variants.none () Set.univ := h

theorem body_obligation (c : Dev nD) : BodyObligation (dats m 0 c) (defs₀ (F := F)) Variants.none () Set.univ :=
  obligation_of m c fun t => by
    rw [bigSep_W0, bigSep_W0, defs₀_row]
    rw [phi_succ]
    refine triple_restated (sound_point m c t) rfl .rfl fun _ => ?_
    iintro ⟨HΦ, Ho, H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- Every run of the program ends, with the arrays as the proof data says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := fun c => by
      show Pipeline.ΦA spec0 c ⊢ Φc m c 0
      unfold Pipeline.ΦA Φc; rw [scopedRest0_eq]
      iintro ⟨⟨⟨%f14, H14⟩, ⟨%f15, H15⟩, ⟨%f16, H16⟩⟩, Hg⟩
      isplitr [Hg]
      · iexists f14, f15, f16
        isplitr
        · ipureintro; exact fun h => absurd rfl h
        isplitl [H14]; · iexact H14
        isplitl [H15]; · iexact H15
        iexact H16
      · iexact Hg)
    (hout := fun c => by
      show Φc m c (Fin.last cfg0.N).val ⊢ Pipeline.ΦA spec0 c
      unfold Pipeline.ΦA Φc; rw [scopedRest0_eq]
      iintro ⟨⟨%f14, %f15, %f16, -, H14, H15, H16⟩, Hg⟩
      isplitr [Hg]
      · isplitl [H14]; · iexists f14; iexact H14
        isplitl [H15]; · iexists f15; iexact H15
        iexists f16; iexact H16
      · iexact Hg)
    (hQ' := fun _ h => h)

/-- The program's frame: it ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run_main m ρ)

end Cert.Proof

end
-- ==== Proof.Model.lean ====
/-
  Forgetting attention and its gradients over the real numbers, on arrays indexed by numbers: `q`, `k`, `v`, `g` by row and
  lane (head `n`'s lane `d` is lane `64 n + d`), the logit biases `c` by head and row.
-/
module

public import Idealize.ShloMosaic.Lib.Pointwise
public import Mathlib.Analysis.SpecialFunctions.Log.Basic
public import Mathlib.Tactic.FieldSimp
public import Mathlib.Tactic.Ring

@[expose] public section

noncomputable section

namespace Cert.Proof

open Finset

/-- The five arguments over the reals. -/
structure Args where
  q : ℕ → ℕ → ℝ
  k : ℕ → ℕ → ℝ
  v : ℕ → ℕ → ℝ
  c : ℕ → ℕ → ℝ
  g : ℕ → ℕ → ℝ

namespace Args

variable (A : Args)

/-- Head `n`'s logit of the query `t` and the key `s`. -/
def lgt (n t s : ℕ) : ℝ := (∑ d : Fin 64, A.q t (n * 64 + d) * (1 / 8) * A.k s (n * 64 + d)) + A.c n t - A.c n s
/-- Its weight: none for a later key. -/
def wgt (n t s : ℕ) : ℝ := if s ≤ t then Real.exp (A.lgt n t s) else 0
/-- The weights' sum over the keys. -/
def den (n t : ℕ) : ℝ := ∑ s : Fin 8192, A.wgt n t s
/-- The probability. -/
def prb (n t s : ℕ) : ℝ := A.wgt n t s / A.den n t
/-- The output's gradient against the values. -/
def gv (n t s : ℕ) : ℝ := ∑ d : Fin 64, A.g t (n * 64 + d) * A.v s (n * 64 + d)
/-- Its mean over the keys. -/
def avg (n t : ℕ) : ℝ := ∑ s : Fin 8192, A.prb n t s * A.gv n t s
/-- The logit's gradient. -/
def ds (n t s : ℕ) : ℝ := A.prb n t s * (A.gv n t s - A.avg n t)
/-- The attention's output. -/
def out (t l : ℕ) : ℝ := ∑ s : Fin 8192, A.prb (l / 64) t s * A.v s l

/-- The queries' gradient. -/
def dq (t l : ℕ) : ℝ := (∑ s : Fin 8192, A.ds (l / 64) t s * A.k s l) * (1 / 8)
/-- The queries' biases' gradient. -/
def dcq (n t : ℕ) : ℝ := ∑ s : Fin 8192, A.ds n t s
/-- The keys' gradient. -/
def dk (s l : ℕ) : ℝ := ∑ t : Fin 8192, A.ds (l / 64) t s * (A.q t l * (1 / 8))
/-- The values' gradient. -/
def dv (s l : ℕ) : ℝ := ∑ t : Fin 8192, A.prb (l / 64) t s * A.g t l
/-- The keys' biases' gradient. -/
def dck (s n : ℕ) : ℝ := if n < 8 then - ∑ t : Fin 8192, A.ds n t s else 0

theorem wgt_nonneg (n t s : ℕ) : 0 ≤ A.wgt n t s := by
  unfold wgt; split
  · exact (Real.exp_pos _).le
  · exact le_rfl

theorem den_pos (n : ℕ) {t : ℕ} (ht : t < 8192) : 0 < A.den n t := by
  refine Finset.sum_pos' (fun s _ => A.wgt_nonneg n t s) ⟨⟨t, ht⟩, Finset.mem_univ _, ?_⟩
  simp [wgt, Real.exp_pos]

theorem den_ne (n : ℕ) {t : ℕ} (ht : t < 8192) : A.den n t ≠ 0 := (A.den_pos n ht).ne'

/-- A later key has no probability. -/
theorem prb_later {n t s : ℕ} (h : t < s) : A.prb n t s = 0 := by simp [prb, wgt, Nat.not_le.mpr h]
theorem ds_later {n t s : ℕ} (h : t < s) : A.ds n t s = 0 := by simp [ds, prb_later A h]

/-- The weights with `μ` taken off every logit of the row. -/
def wgtOff (μ : ℝ) (n t s : ℕ) : ℝ := if s ≤ t then Real.exp (A.lgt n t s - μ) else 0
def denOff (μ : ℝ) (n t : ℕ) : ℝ := ∑ s : Fin 8192, A.wgtOff μ n t s

theorem wgtOff_eq (μ : ℝ) (n t s : ℕ) : A.wgtOff μ n t s = A.wgt n t s * Real.exp (-μ) := by
  unfold wgtOff wgt; split
  · rw [← Real.exp_add, sub_eq_add_neg]
  · simp

theorem denOff_eq (μ : ℝ) (n t : ℕ) : A.denOff μ n t = A.den n t * Real.exp (-μ) := by
  simp only [denOff, den, wgtOff_eq, Finset.sum_mul]

theorem denOff_pos (μ : ℝ) (n : ℕ) {t : ℕ} (ht : t < 8192) : 0 < A.denOff μ n t := by
  rw [denOff_eq]; exact mul_pos (A.den_pos n ht) (Real.exp_pos _)

theorem prb_off (μ : ℝ) (n t s : ℕ) : A.wgtOff μ n t s / A.denOff μ n t = A.prb n t s := by
  rw [wgtOff_eq, denOff_eq, prb, mul_div_mul_right _ _ (Real.exp_pos _).ne']

/-- A probability is the exponential of its logit less the logarithm of the denominator. -/
theorem prb_exp (μ : ℝ) (n : ℕ) {t s : ℕ} (ht : t < 8192) (h : s ≤ t) :
    Real.exp (A.lgt n t s - (μ + Real.log (A.denOff μ n t))) = A.prb n t s := by
  rw [← prb_off A μ, wgtOff, if_pos h, ← sub_sub, Real.exp_sub, Real.exp_log (A.denOff_pos μ n ht)]

/-- The mean, from the attention's output. -/
theorem avg_out {n t : ℕ} : (∑ d : Fin 64, A.g t (n * 64 + d) * A.out t (n * 64 + d)) = A.avg n t := by
  have h : ∀ d : Fin 64, (n * 64 + d.val) / 64 = n := fun d => by have := d.isLt; omega
  simp only [out, avg, gv, h, Finset.mul_sum]
  rw [Finset.sum_comm]
  exact Finset.sum_congr rfl fun s _ => Finset.sum_congr rfl fun d _ => by ring

/-- The logit's gradient as the derivative of the quotient reads it. -/
theorem ds_off (μ : ℝ) (n : ℕ) {t : ℕ} (s : ℕ) (ht : t < 8192) :
    (A.gv n t s / A.denOff μ n t
        - ∑ u : Fin 8192, A.gv n t u * (1 / (A.denOff μ n t * A.denOff μ n t)) * A.wgtOff μ n t u) * A.wgtOff μ n t s
      = A.ds n t s := by
  have hp := (A.denOff_pos μ n ht).ne'
  have e : (∑ u : Fin 8192, A.gv n t u * (1 / (A.denOff μ n t * A.denOff μ n t)) * A.wgtOff μ n t u)
      = A.avg n t / A.denOff μ n t := by
    rw [avg, Finset.sum_div]
    refine Finset.sum_congr rfl fun u _ => ?_
    rw [← prb_off A μ]; field_simp
  rw [e, ds, ← prb_off A μ]; field_simp

end Args

end Cert.Proof

end
-- ==== Proof.Mat.lean ====
/-
  Arrays of real numbers as arrays of the extended reals, and the few laws the value proof reads them by.
-/
module

public import proofs.«01_k».proof.Proof.Model
public import Idealize.ShloMosaic.Lib.IdealHost
public import Idealize.ShloMosaic.Lib.WordArith

@[expose] public section

noncomputable section

namespace Cert.Proof

open Idealize.ShloMosaic

/-- A matrix of reals. -/
def mat (n m : ℕ) (f : ℕ → ℕ → ℝ) : (⟨2, ![n, m]⟩ : Shape).Idx → EReal := fun i => ((f (i 0).val (i 1).val : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

theorem div_real {x y : ℝ} (h : y ≠ 0) : Ideal.div (x : EReal) (y : EReal) = ((x / y : ℝ) : EReal) := by
  rw [Ideal.div_coe h, ← EReal.coe_mul, mul_one_div]

theorem ofBits_eighth_f32 : Ideal.ofBits .f32 0x3E000000#32 = ((1 / 8 : ℝ) : EReal) := by
  simp [Ideal.ofBits, Ideal.ieee, -EReal.coe_mul]; norm_num
theorem ofBits_eighth_bf16 : Ideal.ofBits .bf16 0x3E00#16 = ((1 / 8 : ℝ) : EReal) := by
  simp [Ideal.ofBits, Ideal.ieee, -EReal.coe_mul]; norm_num
theorem ofBits_bot_f32 : Ideal.ofBits .f32 0xFF800000#32 = ⊥ := by
  simp [Ideal.ofBits, Ideal.ieee]

theorem sle_at {a b : ℕ} (ha : a < 2 ^ 31) (hb : b < 2 ^ 31) :
    IntOp.cmpi .sle (BitVec.ofNat 32 a) (BitVec.ofNat 32 b) = if a ≤ b then 1#1 else 0#1 := by
  simp only [IntOp.cmpi, BitVec.sle_eq_decide, WordArith.toInt_ofNat_small _ ha, WordArith.toInt_ofNat_small _ hb, Int.ofNat_le]
  by_cases h : a ≤ b <;> simp [h]

theorem slt_at {a b : ℕ} (ha : a < 2 ^ 31) (hb : b < 2 ^ 31) :
    IntOp.cmpi .slt (BitVec.ofNat 32 a) (BitVec.ofNat 32 b) = if a < b then 1#1 else 0#1 := by
  simp only [IntOp.cmpi, BitVec.slt_eq_decide, WordArith.toInt_ofNat_small _ ha, WordArith.toInt_ofNat_small _ hb, Int.ofNat_lt]
  by_cases h : a < b <;> simp [h]
theorem eq_at {a b : ℕ} (ha : a < 2 ^ 31) (hb : b < 2 ^ 31) :
    IntOp.cmpi .eq (BitVec.ofNat 32 a) (BitVec.ofNat 32 b) = if a = b then 1#1 else 0#1 := by
  have e : (BitVec.ofNat 32 a == BitVec.ofNat 32 b) = decide (a = b) := by
    rw [Bool.eq_iff_iff, beq_iff_eq, decide_eq_true_iff, BitVec.toNat_eq, BitVec.toNat_ofNat, BitVec.toNat_ofNat,
      Nat.mod_eq_of_lt (by omega), Nat.mod_eq_of_lt (by omega)]
  simp only [IntOp.cmpi, e]
  by_cases h : a = b <;> simp [h]

/-- A fold of `max` over numbers none of which is infinite above, from such a number, is none. -/
theorem fold_ne_top {ι : Type} (l : List ι) (f : ι → EReal) (h : ∀ i, f i ≠ ⊤) (a : EReal) (ha : a ≠ ⊤) :
    l.foldl (fun r i => max r (f i)) a ≠ ⊤ := by
  induction l generalizing a with
  | nil => exact ha
  | cons i l ih => exact ih _ (lt_top_iff_ne_top.mp (max_lt (lt_top_iff_ne_top.mpr ha) (lt_top_iff_ne_top.mpr (h i))))

/-- It is at least where it starts. -/
theorem fold_ge {ι : Type} (l : List ι) (f : ι → EReal) (a : EReal) : a ≤ l.foldl (fun r i => max r (f i)) a := by
  induction l generalizing a with
  | nil => exact le_rfl
  | cons i l ih => exact (le_max_left a (f i)).trans (ih _)

/-- It is at least each number met. -/
theorem fold_ge_mem {ι : Type} (l : List ι) (f : ι → EReal) (a : EReal) (i : ι) (hi : i ∈ l) :
    f i ≤ l.foldl (fun r i => max r (f i)) a := by
  induction l generalizing a with
  | nil => exact absurd hi (by simp)
  | cons b l ih =>
    rcases List.mem_cons.mp hi with rfl | hi
    · exact (le_max_right a (f i)).trans (fold_ge _ _ _)
    · exact ih _ hi

/-- The largest along an axis of numbers none of which is infinite above, one of them real, is real. -/
theorem reduce_real {s t u : Shape} {axes : List (Fin s.rank)} (x : s.Idx → EReal) (init : u.Idx → EReal) (h : s.ReducesTo axes t)
    (hu : 0 < u.numel) (j : t.Idx) (hx : ∀ i, x i ≠ ⊤) (hi : init (Shape.Idx.first hu) ≠ ⊤) (i : s.Idx) (hj : h.drop i = j) (hb : x i ≠ ⊥) :
    ∃ r : ℝ, Host.reduce (FloatOps.maximumf (F := Ideal) (φ := .f32)) x init h hu j = ((r : ℝ) : EReal) := by
  let l := (List.finRange s.numel).filter fun n => h.drop (s.rowMajor.symm n) = j
  have ht := fold_ne_top l (fun n => x (s.rowMajor.symm n)) (fun n => hx _) _ hi
  have hm := fold_ge_mem l (fun n => x (s.rowMajor.symm n)) (init (Shape.Idx.first hu)) (s.rowMajor i)
    (List.mem_filter.mpr ⟨List.mem_finRange _, by simp [hj]⟩)
  simp only [Equiv.symm_apply_apply] at hm
  exact ⟨_, (EReal.coe_toReal ht (ne_bot_of_le_ne_bot hb hm)).symm⟩

end Cert.Proof

end
-- ==== Proof.Operands.lean ====
/-
  The arrays the host lines build for the kernel, as functions of the arguments, at the extended reals.
-/
module

public import proofs.«01_k».proof.Proof.Base
public import proofs.«01_k».proof.Proof.Mat

@[expose] public section

set_option maxRecDepth 16384

noncomputable section

namespace Cert.Proof.Ker

open Cert.KernelIdeal Cert.KernelIdeal.Gen Idealize.ShloMosaic

/-- The logits. -/
def logits (q k : FVec Ideal S8192x512 .bf16) (c : FVec Ideal S8x8192 .f32) : FVec Ideal S8x8192x8192 .f32 :=
  subf (addf (Host.dotGeneral dot_S8x8192x64_S8x8192x64_S8x8192x8192_2_2_1_1_0_0 none (mulf (extf .f32 (transpose S8x8192x64
    [1, 0, 2] (shapeCast S8192x8x64 q shapeCasts_S8192x512_S8192x8x64) transposes_S8192x8x64_S8x8192x64_1_0_2) bitsLt_bf16_f32)
    (broadcastInDim S8x8192x64 ![] bcast_S_S8x8192x64 (constant S_ .f32 0x3E000000#32))) (extf .f32 (transpose S8x8192x64 [1, 0,
    2] (shapeCast S8192x8x64 k shapeCasts_S8192x512_S8192x8x64) transposes_S8192x8x64_S8x8192x64_1_0_2) bitsLt_bf16_f32))
    (broadcastInDim S8x8192x8192 ![0, 1, 2] bcast_S8x8192x1_S8x8192x8192_0_1_2 (broadcastInDim S8x8192x1 ![0, 1]
    bcast_S8x8192_S8x8192x1_0_1 c))) (broadcastInDim S8x8192x8192 ![0, 1, 2] bcast_S8x1x8192_S8x8192x8192_0_1_2 (broadcastInDim
    S8x1x8192 ![0, 2] bcast_S8x8192_S8x1x8192_0_2 c))

/-- The logits without the later keys'. -/
def masked (x : FVec Ideal S8x8192x8192 .f32) : FVec Ideal S8x8192x8192 .f32 :=
  select (cmpi .sle (iotaInDim S8x8192x8192 32 2) (iotaInDim S8x8192x8192 32 1)) x (broadcastInDim S8x8192x8192 ![]
    bcast_S_S8x8192x8192 (constant S_ .f32 0xFF800000#32))

/-- Each row's greatest. -/
def top (x : FVec Ideal S8x8192x8192 .f32) : FVec Ideal S8x8192 .f32 :=
  Host.reduce FloatOps.maximumf x (constant S_ .f32 0xFF800000#32) reducesTo_S8x8192x8192_S8x8192_d2 h_S_

/-- The exponentials of what is below it. -/
def weights (x : FVec Ideal S8x8192x8192 .f32) (t : FVec Ideal S8x8192 .f32) : FVec Ideal S8x8192x8192 .f32 :=
  Host.exp (subf x (broadcastInDim S8x8192x8192 ![0, 1, 2] bcast_S8x8192x1_S8x8192x8192_0_1_2 (broadcastInDim S8x8192x1 ![0, 1]
    bcast_S8x8192_S8x8192x1_0_1 t)))

/-- Their sums. -/
def total (e : FVec Ideal S8x8192x8192 .f32) : FVec Ideal S8x8192 .f32 :=
  Host.reduceAdd e (constant S_ .f32 0x00000000#32) reducesTo_S8x8192x8192_S8x8192_d2 h_S_

/-- The attention's output. -/
def attn (e : FVec Ideal S8x8192x8192 .f32) (d : FVec Ideal S8x8192 .f32) (v : FVec Ideal S8192x512 .bf16) : FVec Ideal S8192x512 .f32 :=
  shapeCast S8192x512 (transpose S8192x8x64 [1, 0, 2] (Host.dotGeneral dot_S8x8192x8192_S8x8192x64_S8x8192x64_2_1_1_2_0_0 none
    (Host.divf e (broadcastInDim S8x8192x8192 ![0, 1, 2] bcast_S8x8192x1_S8x8192x8192_0_1_2 (broadcastInDim S8x8192x1 ![0, 1]
    bcast_S8x8192_S8x8192x1_0_1 d))) (extf .f32 (transpose S8x8192x64 [1, 0, 2] (shapeCast S8192x8x64 v
    shapeCasts_S8192x512_S8192x8x64) transposes_S8192x8x64_S8x8192x64_1_0_2) bitsLt_bf16_f32))
    transposes_S8x8192x64_S8192x8x64_1_0_2) shapeCasts_S8192x8x64_S8192x512

/-- The logarithms of the denominators less the biases, by row. -/
def shift (t d c : FVec Ideal S8x8192 .f32) : FVec Ideal S8192x8 .f32 :=
  transpose S8192x8 [1, 0] (subf (addf t (Host.log d)) c) transposes_S8x8192_S8192x8_1_0

/-- The output against its gradient, by row and head. -/
def delta (g o : FVec Ideal S8192x512 .f32) : FVec Ideal S8192x8 .f32 :=
  Host.reduceAdd (shapeCast S8192x8x64 (mulf g o) shapeCasts_S8192x512_S8192x8x64) (constant S_ .f32 0x00000000#32)
    reducesTo_S8192x8x64_S8192x8_d2 h_S_

/-- The keys' biases by row. -/
def biases (c : FVec Ideal S8x8192 .f32) : FVec Ideal S8192x8 .f32 :=
  transpose S8192x8 [1, 0] (Host.negf c) transposes_S8x8192_S8192x8_1_0

/-- A number in three pieces. -/
def pieces (x : FVec Ideal S8192x8 .f32) : FVec Ideal S8192x8x3 .bf16 :=
  concatenate S8192x8x3 2 [⟨S8192x8x1, (broadcastInDim S8192x8x1 ![0, 1] bcast_S8192x8_S8192x8x1_0_1 (truncf .bf16 x
    bitsLt_bf16_f32))⟩, ⟨S8192x8x1, (broadcastInDim S8192x8x1 ![0, 1] bcast_S8192x8_S8192x8x1_0_1 (truncf .bf16 (subf x (extf
    .f32 (truncf .bf16 x bitsLt_bf16_f32) bitsLt_bf16_f32)) bitsLt_bf16_f32))⟩, ⟨S8192x8x1, (broadcastInDim S8192x8x1 ![0, 1]
    bcast_S8192x8_S8192x8x1_0_1 (truncf .bf16 (subf (subf x (extf .f32 (truncf .bf16 x bitsLt_bf16_f32) bitsLt_bf16_f32)) (extf
    .f32 (truncf .bf16 (subf x (extf .f32 (truncf .bf16 x bitsLt_bf16_f32) bitsLt_bf16_f32)) bitsLt_bf16_f32) bitsLt_bf16_f32))
    bitsLt_bf16_f32))⟩] concatenates_S8192x8x1_S8192x8x1_S8192x8x1_S8192x8x3_d2

/-- The keys' operand: lanes, pieces, ones. -/
def keyOp (x : FVec Ideal S8192x512 .bf16) (p : FVec Ideal S8192x8x3 .bf16) : FVec Ideal S8192x1024 .bf16 :=
  shapeCast S8192x1024 (concatenate S8192x4x256 2 [⟨S8192x4x128, (shapeCast S8192x4x128 x shapeCasts_S8192x512_S8192x4x128)⟩,
    ⟨S8192x4x6, (shapeCast S8192x4x6 p shapeCasts_S8192x8x3_S8192x4x6)⟩, ⟨S8192x4x3, (broadcastInDim S8192x4x3 ![]
    bcast_S_S8192x4x3 (constant S_ .bf16 0x3F80#16))⟩, ⟨S8192x4x119, (broadcastInDim S8192x4x119 ![] bcast_S_S8192x4x119
    (constant S_ .bf16 0x0000#16))⟩] concatenates_S8192x4x128_S8192x4x6_S8192x4x3_S8192x4x119_S8192x4x256_d2)
    shapeCasts_S8192x4x256_S8192x1024

/-- The keys transposed. -/
def keyT (k : FVec Ideal S8192x512 .bf16) : FVec Ideal S512x8192 .bf16 :=
  transpose S512x8192 [1, 0] k transposes_S8192x512_S512x8192_1_0

/-- The lanes that pick a head's pieces. -/
def pick  : FVec Ideal S8192x4x2x6 .bf16 :=
  select (cmpi .eq (Host.divsi (iotaInDim S8192x4x2x6 32 3) (broadcastInDim S8192x4x2x6 ![] bcast_S_S8192x4x2x6 (constantI S_
    32 3#32))) (iotaInDim S8192x4x2x6 32 2)) (broadcastInDim S8192x4x2x6 ![] bcast_S_S8192x4x2x6 (constant S_ .bf16 0x3F80#16))
    (broadcastInDim S8192x4x2x6 ![] bcast_S_S8192x4x2x6 (constant S_ .bf16 0x0000#16))

/-- A head's own lanes of its pair, scaled. -/
def ownQ (q : FVec Ideal S8192x512 .bf16) : FVec Ideal S8192x4x2x128 .bf16 :=
  mulf (select (cmpi .eq (Host.divsi (iotaInDim S8192x4x2x128 32 3) (broadcastInDim S8192x4x2x128 ![] bcast_S_S8192x4x2x128
    (constantI S_ 32 64#32))) (iotaInDim S8192x4x2x128 32 2)) (broadcastInDim S8192x4x2x128 ![0, 1, 2, 3]
    bcast_S8192x4x1x128_S8192x4x2x128_0_1_2_3 (shapeCast S8192x4x1x128 q shapeCasts_S8192x512_S8192x4x1x128)) (broadcastInDim
    S8192x4x2x128 ![] bcast_S_S8192x4x2x128 (constant S_ .bf16 0x0000#16))) (broadcastInDim S8192x4x2x128 ![]
    bcast_S_S8192x4x2x128 (constant S_ .bf16 0x3E00#16))

/-- The queries' operand: lanes, picking lanes, pieces. -/
def queryOp (r : FVec Ideal S8192x4x2x128 .bf16) (s : FVec Ideal S8192x4x2x6 .bf16) (p : FVec Ideal S8192x8x3 .bf16) :
    FVec Ideal S8192x2048 .bf16 :=
  shapeCast S8192x2048 (concatenate S8192x4x2x256 3 [⟨S8192x4x2x128, r⟩, ⟨S8192x4x2x6, s⟩, ⟨S8192x4x2x3, (shapeCast S8192x4x2x3
    p shapeCasts_S8192x8x3_S8192x4x2x3)⟩, ⟨S8192x4x2x119, (broadcastInDim S8192x4x2x119 ![] bcast_S_S8192x4x2x119 (constant S_
    .bf16 0x0000#16))⟩] concatenates_S8192x4x2x128_S8192x4x2x6_S8192x4x2x3_S8192x4x2x119_S8192x4x2x256_d3)
    shapeCasts_S8192x4x2x256_S8192x2048

/-- A head's own lanes of its pair. -/
def ownG (g : FVec Ideal S8192x512 .f32) : FVec Ideal S8192x4x2x128 .bf16 :=
  truncf .bf16 (select (cmpi .eq (Host.divsi (iotaInDim S8192x4x2x128 32 3) (broadcastInDim S8192x4x2x128 ![]
    bcast_S_S8192x4x2x128 (constantI S_ 32 64#32))) (iotaInDim S8192x4x2x128 32 2)) (broadcastInDim S8192x4x2x128 ![0, 1, 2, 3]
    bcast_S8192x4x1x128_S8192x4x2x128_0_1_2_3 (shapeCast S8192x4x1x128 g shapeCasts_S8192x512_S8192x4x1x128)) (broadcastInDim
    S8192x4x2x128 ![] bcast_S_S8192x4x2x128 (constant S_ .f32 0x00000000#32))) bitsLt_bf16_f32

/-- Lanes that pick nothing. -/
def unpick : FVec Ideal S8192x4x2x6 .bf16 :=
  broadcastInDim S8192x4x2x6 ![] bcast_S_S8192x4x2x6 (constant S_ .bf16 0x0000#16)

/-! The arrays of the program, on arguments `q`, `k`, `v`, `c`, `g`. -/

variable (q k v : FVec Ideal S8192x512 .bf16) (c : FVec Ideal S8x8192 .f32) (g : FVec Ideal S8192x512 .f32)

abbrev aMasked := masked (logits q k c)
abbrev aTop := top (aMasked q k c)
abbrev aWeights := weights (aMasked q k c) (aTop q k c)
abbrev aTotal := total (aWeights q k c)
abbrev aAttn := attn (aWeights q k c) (aTotal q k c) v
abbrev aShift := shift (aTop q k c) (aTotal q k c) c
abbrev aDelta := delta g (aAttn q k v c)
abbrev aKeys := keyOp k (pieces (biases c))
abbrev aValues := keyOp v (pieces (biases c))
abbrev aQueries := queryOp (ownQ q) pick (pieces (Host.negf (aShift q k c)))
abbrev aGrads := queryOp (ownG g) unpick (pieces (Host.negf (aDelta q k v c g)))

end Cert.Proof.Ker

end
-- ==== Proof.Entry.lean ====
/-
  What the kernel's operand buffers hold when it starts.
-/
module

public import proofs.«01_k».proof.Proof.Operands
public import proofs.«01_k».proof.Proof.Gen.KernelIdeal.Frame
public import Idealize.ShloMosaic.Lib.StableHlo.RunRead

@[expose] public section

set_option maxRecDepth 16384
set_option maxHeartbeats 8000000

noncomputable section

namespace Cert.Proof.Ker

open Cert.KernelIdeal Cert.KernelIdeal.Gen Idealize.ShloMosaic Idealize.ShloMosaic.TcCoe

variable (m : (ℓ : Loc nD τ sig) → Buf (Elt Ideal) ℓ) (c : Dev nD)

theorem V_keysT : V m c main_v66 = keyT (m (c.tc.loc main_arg1)) := by
  unfold V
  after_reads_simp
  rfl

theorem V_keys : V m c main_v60 = aKeys (m (c.tc.loc main_arg1)) (m (c.tc.loc main_arg3)) := by
  unfold V
  after_reads_simp
  rfl

theorem V_values : V m c main_v65 = aValues (m (c.tc.loc main_arg2)) (m (c.tc.loc main_arg3)) := by
  unfold V
  after_reads_simp
  rfl

/-- The queries' pieces. -/
theorem upto_shift : StableHlo.upto hostOps0 (fun b => m (c, b)) 116 (Proc.tc.devRef main_v98)
    = shapeCast S8192x4x2x3 (pieces (Host.negf (aShift (m (c.tc.loc main_arg0)) (m (c.tc.loc main_arg1)) (m (c.tc.loc main_arg3))))) shapeCasts_S8192x8x3_S8192x4x2x3 := by
  after_reads_simp
  dsimp only [Matrix.cons_val_zero, Matrix.cons_val_one, Matrix.cons_val]
  have h0 : StableHlo.upto hostOps0 (fun b => m (c, b)) 112 (Proc.tc.devRef main_v94) =
      broadcastInDim S8192x8x1 ![0, 1] bcast_S8192x8_S8192x8x1_0_1 (truncf .bf16 (Host.negf (aShift (m (c.tc.loc main_arg0)) (m (c.tc.loc main_arg1)) (m (c.tc.loc main_arg3)))) bitsLt_bf16_f32) := by
    after_reads_simp
    rfl
  have h1 : StableHlo.upto hostOps0 (fun b => m (c, b)) 112 (Proc.tc.devRef main_v95) =
      broadcastInDim S8192x8x1 ![0, 1] bcast_S8192x8_S8192x8x1_0_1 (truncf .bf16 (subf (Host.negf (aShift (m (c.tc.loc main_arg0)) (m (c.tc.loc main_arg1)) (m (c.tc.loc main_arg3)))) (extf .f32 (truncf .bf16 (Host.negf (aShift (m (c.tc.loc main_arg0)) (m (c.tc.loc main_arg1)) (m (c.tc.loc main_arg3)))) bitsLt_bf16_f32) bitsLt_bf16_f32)) bitsLt_bf16_f32) := by
    after_reads_simp
    rfl
  have h2 : StableHlo.upto hostOps0 (fun b => m (c, b)) 112 (Proc.tc.devRef main_v96) =
      broadcastInDim S8192x8x1 ![0, 1] bcast_S8192x8_S8192x8x1_0_1 (truncf .bf16 (subf (subf (Host.negf (aShift (m (c.tc.loc main_arg0)) (m (c.tc.loc main_arg1)) (m (c.tc.loc main_arg3)))) (extf .f32 (truncf .bf16 (Host.negf (aShift (m (c.tc.loc main_arg0)) (m (c.tc.loc main_arg1)) (m (c.tc.loc main_arg3)))) bitsLt_bf16_f32) bitsLt_bf16_f32)) (extf .f32 (truncf .bf16 (subf (Host.negf (aShift (m (c.tc.loc main_arg0)) (m (c.tc.loc main_arg1)) (m (c.tc.loc main_arg3)))) (extf .f32 (truncf .bf16 (Host.negf (aShift (m (c.tc.loc main_arg0)) (m (c.tc.loc main_arg1)) (m (c.tc.loc main_arg3)))) bitsLt_bf16_f32) bitsLt_bf16_f32)) bitsLt_bf16_f32) bitsLt_bf16_f32)) bitsLt_bf16_f32) := by
    after_reads_simp
    rfl
  rw [h0, h1, h2]
  rfl

theorem V_queries : V m c main_v101
    = aQueries (m (c.tc.loc main_arg0)) (m (c.tc.loc main_arg1)) (m (c.tc.loc main_arg3)) := by
  unfold V
  after_reads_simp
  dsimp only [Matrix.cons_val_zero, Matrix.cons_val_one, Matrix.cons_val]
  have h0 : StableHlo.upto hostOps0 (fun b => m (c, b)) 116 (Proc.tc.devRef main_v82) = ownQ (m (c.tc.loc main_arg0)) := by
    after_reads_simp
    rfl
  have h1 : StableHlo.upto hostOps0 (fun b => m (c, b)) 116 (Proc.tc.devRef main_v85) = pick := by
    after_reads_simp
    rfl
  have h3 : StableHlo.upto hostOps0 (fun b => m (c, b)) 116 (Proc.tc.devRef main_v99) =
      broadcastInDim S8192x4x2x119 ![] bcast_S_S8192x4x2x119 (constant (F := Ideal) S_ .bf16 0x0000#16) := by
    after_reads_simp
  rw [h0, h1, upto_shift, h3]
  rfl

/-- The gradients' pieces. -/
theorem upto_delta : StableHlo.upto hostOps0 (fun b => m (c, b)) 147 (Proc.tc.devRef main_v125)
    = shapeCast S8192x4x2x3 (pieces (Host.negf (aDelta (m (c.tc.loc main_arg0)) (m (c.tc.loc main_arg1)) (m (c.tc.loc main_arg2))
      (m (c.tc.loc main_arg3)) (m (c.tc.loc main_arg4))))) shapeCasts_S8192x8x3_S8192x4x2x3 := by
  after_reads_simp
  dsimp only [Matrix.cons_val_zero, Matrix.cons_val_one, Matrix.cons_val]
  have h0 : StableHlo.upto hostOps0 (fun b => m (c, b)) 143 (Proc.tc.devRef main_v121) =
      broadcastInDim S8192x8x1 ![0, 1] bcast_S8192x8_S8192x8x1_0_1 (truncf .bf16 (Host.negf (aDelta (m (c.tc.loc main_arg0)) (m (c.tc.loc main_arg1)) (m (c.tc.loc main_arg2))
      (m (c.tc.loc main_arg3)) (m (c.tc.loc main_arg4)))) bitsLt_bf16_f32) := by
    after_reads_simp
    rfl
  have h1 : StableHlo.upto hostOps0 (fun b => m (c, b)) 143 (Proc.tc.devRef main_v122) =
      broadcastInDim S8192x8x1 ![0, 1] bcast_S8192x8_S8192x8x1_0_1 (truncf .bf16 (subf (Host.negf (aDelta (m (c.tc.loc main_arg0)) (m (c.tc.loc main_arg1)) (m (c.tc.loc main_arg2))
      (m (c.tc.loc main_arg3)) (m (c.tc.loc main_arg4)))) (extf .f32 (truncf .bf16 (Host.negf (aDelta (m (c.tc.loc main_arg0)) (m (c.tc.loc main_arg1)) (m (c.tc.loc main_arg2))
      (m (c.tc.loc main_arg3)) (m (c.tc.loc main_arg4)))) bitsLt_bf16_f32) bitsLt_bf16_f32)) bitsLt_bf16_f32) := by
    after_reads_simp
    rfl
  have h2 : StableHlo.upto hostOps0 (fun b => m (c, b)) 143 (Proc.tc.devRef main_v123) =
      broadcastInDim S8192x8x1 ![0, 1] bcast_S8192x8_S8192x8x1_0_1 (truncf .bf16 (subf (subf (Host.negf (aDelta (m (c.tc.loc main_arg0)) (m (c.tc.loc main_arg1)) (m (c.tc.loc main_arg2))
      (m (c.tc.loc main_arg3)) (m (c.tc.loc main_arg4)))) (extf .f32 (truncf .bf16 (Host.negf (aDelta (m (c.tc.loc main_arg0)) (m (c.tc.loc main_arg1)) (m (c.tc.loc main_arg2))
      (m (c.tc.loc main_arg3)) (m (c.tc.loc main_arg4)))) bitsLt_bf16_f32) bitsLt_bf16_f32)) (extf .f32 (truncf .bf16 (subf (Host.negf (aDelta (m (c.tc.loc main_arg0)) (m (c.tc.loc main_arg1)) (m (c.tc.loc main_arg2))
      (m (c.tc.loc main_arg3)) (m (c.tc.loc main_arg4)))) (extf .f32 (truncf .bf16 (Host.negf (aDelta (m (c.tc.loc main_arg0)) (m (c.tc.loc main_arg1)) (m (c.tc.loc main_arg2))
      (m (c.tc.loc main_arg3)) (m (c.tc.loc main_arg4)))) bitsLt_bf16_f32) bitsLt_bf16_f32)) bitsLt_bf16_f32) bitsLt_bf16_f32)) bitsLt_bf16_f32) := by
    after_reads_simp
    rfl
  rw [h0, h1, h2]
  rfl

theorem V_grads : V m c main_v128 = aGrads (m (c.tc.loc main_arg0)) (m (c.tc.loc main_arg1)) (m (c.tc.loc main_arg2))
    (m (c.tc.loc main_arg3)) (m (c.tc.loc main_arg4)) := by
  unfold V
  after_reads_simp
  dsimp only [Matrix.cons_val_zero, Matrix.cons_val_one, Matrix.cons_val]
  have h0 : StableHlo.upto hostOps0 (fun b => m (c, b)) 147 (Proc.tc.devRef main_v111) = ownG (m (c.tc.loc main_arg4)) := by
    after_reads_simp
    rfl
  have h1 : StableHlo.upto hostOps0 (fun b => m (c, b)) 147 (Proc.tc.devRef main_v112) = unpick := by
    after_reads_simp
    rfl
  have h3 : StableHlo.upto hostOps0 (fun b => m (c, b)) 147 (Proc.tc.devRef main_v126) =
      broadcastInDim S8192x4x2x119 ![] bcast_S_S8192x4x2x119 (constant (F := Ideal) S_ .bf16 0x0000#16) := by
    after_reads_simp
  rw [h0, h1, upto_delta, h3]
  rfl

end Cert.Proof.Ker

end
-- ==== Proof.Rows.lean ====
/-
  The rows the kernel multiplies, over the real numbers: a key's row carries, beside the lanes of its pair of heads, the two
  heads' biases and ones; a query's row of a head its own lanes, what picks its head's bias, and a number to add.  Their
  product is the logit, or the output gradient against the values, less that number.
-/
module

public import proofs.«01_k».proof.Proof.Model

@[expose] public section

noncomputable section

namespace Cert.Proof

namespace Args

variable (A : Args)

/-- Lane `l` of pair `p` in the key row `s`. -/
def keyRow (x : ℕ → ℕ → ℝ) (s p l : ℕ) : ℝ :=
  if l < 128 then x s (p * 128 + l)
  else if l < 134 then (if (l - 128) % 3 = 0 then -A.c (p * 2 + (l - 128) / 3) s else 0)
  else if l < 137 then 1 else 0

/-- Lane `l` of head `n` in the query row `t`. -/
def queryRow (y : ℕ → ℕ → ℝ) (pick : ℝ) (b : ℕ → ℕ → ℝ) (t n l : ℕ) : ℝ :=
  if l < 128 then (if l / 64 = n % 2 then y t (n / 2 * 128 + l) else 0)
  else if l < 134 then (if (l - 128) / 3 = n % 2 then pick else 0)
  else if l = 134 then b n t else 0

theorem row_dot (x y : ℕ → ℕ → ℝ) (pick : ℝ) (b : ℕ → ℕ → ℝ) (s t n : ℕ) :
    (∑ l : Fin 256, A.keyRow x s (n / 2) l.val * queryRow y pick b t n l.val)
      = (∑ d : Fin 64, y t (n * 64 + d.val) * x s (n * 64 + d.val)) - pick * A.c n s + b n t := by
  rw [Fin.sum_univ_eq_sum_range (fun l => A.keyRow x s (n / 2) l * queryRow y pick b t n l),
    Fin.sum_univ_eq_sum_range (fun d => y t (n * 64 + d) * x s (n * 64 + d)),
    show 256 = 64 + 64 + 7 + 121 from rfl, Finset.sum_range_add, Finset.sum_range_add, Finset.sum_range_add]
  have tail : (∑ l ∈ Finset.range 121, A.keyRow x s (n / 2) (64 + 64 + 7 + l) * queryRow y pick b t n (64 + 64 + 7 + l)) = 0 := by
    refine Finset.sum_eq_zero fun l _ => ?_
    have : queryRow y pick b t n (64 + 64 + 7 + l) = 0 := by
      unfold queryRow; rw [if_neg (by omega), if_neg (by omega), if_neg (by omega)]
    rw [this, mul_zero]
  have own : ∀ h d, n % 2 = h → d < 64 → h < 2 →
      A.keyRow x s (n / 2) (64 * h + d) * queryRow y pick b t n (64 * h + d) = y t (n * 64 + d) * x s (n * 64 + d) := by
    intro h d hn hd hh
    unfold keyRow queryRow
    rw [if_pos (by omega), if_pos (by omega), if_pos (by omega), show n / 2 * 128 + (64 * h + d) = n * 64 + d by omega, mul_comm]
  have other : ∀ h d, n % 2 ≠ h → d < 64 → h < 2 →
      A.keyRow x s (n / 2) (64 * h + d) * queryRow y pick b t n (64 * h + d) = 0 := by
    intro h d hn hd hh
    have : queryRow y pick b t n (64 * h + d) = 0 := by
      unfold queryRow; rw [if_pos (by omega), if_neg (by omega)]
    rw [this, mul_zero]
  have mid : (∑ l ∈ Finset.range 7, A.keyRow x s (n / 2) (64 + 64 + l) * queryRow y pick b t n (64 + 64 + l))
      = - (pick * A.c n s) + b n t := by
    rcases Nat.mod_two_eq_zero_or_one n with h | h
    · have e : n / 2 * 2 = n := by omega
      simp [Finset.sum_range_succ, keyRow, queryRow, h, e]; ring
    · have e : n / 2 * 2 + 1 = n := by omega
      simp [Finset.sum_range_succ, keyRow, queryRow, h, e]; ring
  rw [tail, mid]
  rcases Nat.mod_two_eq_zero_or_one n with h | h
  · rw [Finset.sum_congr rfl (fun d hd => by
        have := own 0 d h (Finset.mem_range.mp hd) (by omega); simpa using this),
      Finset.sum_eq_zero (s := Finset.range 64) (f := fun d => A.keyRow x s (n / 2) (64 + d) * queryRow y pick b t n (64 + d))
        (fun d hd => by have := other 1 d (by omega) (Finset.mem_range.mp hd) (by omega); simpa using this)]
    ring
  · rw [Finset.sum_eq_zero (s := Finset.range 64) (f := fun d => A.keyRow x s (n / 2) d * queryRow y pick b t n d)
        (fun d hd => by have := other 0 d (by omega) (Finset.mem_range.mp hd) (by omega); simpa using this),
      Finset.sum_congr (s₁ := Finset.range 64) (f := fun d => A.keyRow x s (n / 2) (64 + d) * queryRow y pick b t n (64 + d)) rfl (fun d hd => by
        have := own 1 d h (Finset.mem_range.mp hd) (by omega); simpa using this)]
    ring

/-- The logarithm of the denominators, from whatever `μ` was taken off the logits. -/
def lse (μ : ℕ → ℕ → ℝ) (n t : ℕ) : ℝ := μ n t + Real.log (A.denOff (μ n t) n t)

/-- A query's row, scaled. -/
abbrev q8 (t l : ℕ) : ℝ := A.q t l * (1 / 8)
/-- What its logits get added. -/
abbrev addLogit (μ : ℕ → ℕ → ℝ) (n t : ℕ) : ℝ := -(A.lse μ n t - A.c n t)
/-- What its output gradients get added. -/
abbrev addGrad (n t : ℕ) : ℝ := -A.avg n t

theorem row_logit (μ : ℕ → ℕ → ℝ) (s t n : ℕ) :
    (∑ l : Fin 256, A.keyRow A.k s (n / 2) l.val * queryRow A.q8 1 (A.addLogit μ) t n l.val) = A.lgt n t s - A.lse μ n t := by
  rw [row_dot, lgt]; ring
theorem row_grad (s t n : ℕ) :
    (∑ l : Fin 256, A.keyRow A.v s (n / 2) l.val * queryRow A.g 0 A.addGrad t n l.val) = A.gv n t s - A.avg n t := by
  rw [row_dot, gv]; ring

/-! What one block of keys or queries adds to each result. -/

/-- Keys' block `a` to the queries' gradient. -/
def addQ (t l a : ℕ) : ℝ := ∑ s : Fin 512, A.k (512 * a + s.val) l * (1 / 8) * A.ds (l / 64) t (512 * a + s.val)
/-- Keys' block `a` to the queries' biases' gradient. -/
def addC (n t a : ℕ) : ℝ := ∑ s : Fin 512, A.ds n t (512 * a + s.val)
/-- Queries' block `b` to the keys' gradient. -/
def addK (s l b : ℕ) : ℝ := ∑ t : Fin 512, A.ds (l / 64) (512 * b + t.val) s * A.q8 (512 * b + t.val) l
/-- Queries' block `b` to the values' gradient. -/
def addV (s l b : ℕ) : ℝ := ∑ t : Fin 512, A.prb (l / 64) (512 * b + t.val) s * A.g (512 * b + t.val) l
/-- Queries' block `b` to the keys' biases' gradient. -/
def addB (s n b : ℕ) : ℝ := if n < 8 then -∑ t : Fin 512, A.ds n (512 * b + t.val) s else 0

/-- A sum over the rows is a sum over the blocks of rows. -/
theorem sum_blocks (f : ℕ → ℝ) : (∑ b ∈ Finset.range 16, ∑ t : Fin 512, f (512 * b + t.val)) = ∑ t : Fin 8192, f t.val := by
  simp only [Fin.sum_univ_eq_sum_range (fun t => f (512 * _ + t)), Fin.sum_univ_eq_sum_range f]
  have h : ∀ n, (∑ b ∈ Finset.range n, ∑ t ∈ Finset.range 512, f (512 * b + t)) = ∑ t ∈ Finset.range (512 * n), f t := by
    intro n
    induction n with
    | zero => simp
    | succ n ih => rw [Finset.sum_range_succ, ih, Nat.mul_succ, Finset.sum_range_add]
  exact h 16

theorem dq_blocks (t l : ℕ) : (∑ a ∈ Finset.range 16, A.addQ t l a) = A.dq t l := by
  unfold addQ
  rw [sum_blocks (fun s => A.k s l * (1 / 8) * A.ds (l / 64) t s), dq, Finset.sum_mul]
  exact Finset.sum_congr rfl fun s _ => by ring
theorem dcq_blocks (n t : ℕ) : (∑ a ∈ Finset.range 16, A.addC n t a) = A.dcq n t := sum_blocks (fun s => A.ds n t s)
theorem dk_blocks (s l : ℕ) : (∑ b ∈ Finset.range 16, A.addK s l b) = A.dk s l :=
  sum_blocks (fun t => A.ds (l / 64) t s * A.q8 t l)
theorem dv_blocks (s l : ℕ) : (∑ b ∈ Finset.range 16, A.addV s l b) = A.dv s l :=
  sum_blocks (fun t => A.prb (l / 64) t s * A.g t l)
theorem dck_blocks (s n : ℕ) : (∑ b ∈ Finset.range 16, A.addB s n b) = A.dck s n := by
  unfold addB dck
  split
  · rw [Finset.sum_neg_distrib, sum_blocks (fun t => A.ds n t s)]
  · exact Finset.sum_const_zero

/-! Blocks beyond the diagonal add nothing. -/

theorem addQ_later {t l a : ℕ} (h : t / 512 < a) : A.addQ t l a = 0 :=
  Finset.sum_eq_zero fun s _ => by rw [A.ds_later (by omega), mul_zero]
theorem addC_later {n t a : ℕ} (h : t / 512 < a) : A.addC n t a = 0 :=
  Finset.sum_eq_zero fun s _ => A.ds_later (by omega)
theorem addK_later {s l b : ℕ} (h : b < s / 512) : A.addK s l b = 0 :=
  Finset.sum_eq_zero fun t _ => by rw [A.ds_later (by omega), zero_mul]
theorem addV_later {s l b : ℕ} (h : b < s / 512) : A.addV s l b = 0 :=
  Finset.sum_eq_zero fun t _ => by rw [A.prb_later (by omega), zero_mul]
theorem addB_later {s n b : ℕ} (h : b < s / 512) : A.addB s n b = 0 := by
  unfold addB
  rw [Finset.sum_eq_zero fun t _ => A.ds_later (by omega), neg_zero, ite_self]

end Args

end Cert.Proof

end
-- ==== Proof.Values.lean ====
/-
  The kernel's operands at the extended reals, on real arguments: rows of `Rows`.
-/
module

public import proofs.«01_k».proof.Proof.Operands
public import proofs.«01_k».proof.Proof.Rows

@[expose] public section

set_option maxRecDepth 16384

noncomputable section

namespace Cert.Proof.Ker

open Cert.KernelIdeal Cert.KernelIdeal.Gen Idealize.ShloMosaic

variable (A : Args)

/-- The arguments as the program's arrays. -/
abbrev q : FVec Ideal S8192x512 .bf16 := mat 8192 512 A.q
abbrev k : FVec Ideal S8192x512 .bf16 := mat 8192 512 A.k
abbrev v : FVec Ideal S8192x512 .bf16 := mat 8192 512 A.v
abbrev c : FVec Ideal S8x8192 .f32 := mat 8 8192 A.c
abbrev g : FVec Ideal S8192x512 .f32 := mat 8192 512 A.g

theorem drop_last (n : Fin 8) (t s : Fin 8192) (i : S8x8192.Idx) (h0 : i 0 = n) (h1 : i 1 = t) :
    reducesTo_S8x8192x8192_S8x8192_d2.drop (ix3 n t s) = i := by
  subst h0 h1
  funext a
  fin_cases a <;> rfl

theorem logits_at (i : S8x8192x8192.Idx) :
    logits (q A) (k A) (c A) i = ((A.lgt (i 0).val (i 1).val (i 2).val : ℝ) : EReal) := by
  idx_vars i
  pointwise [logits, mat]
  rw [ofBits_eighth_f32]
  simp only [Args.lgt, EReal.coe_sub, EReal.coe_add, coe_sum, EReal.coe_mul]

theorem masked_at (i : S8x8192x8192.Idx) :
    aMasked (q A) (k A) (c A) i
      = if (i 2).val ≤ (i 1).val then ((A.lgt (i 0).val (i 1).val (i 2).val : ℝ) : EReal) else ⊥ := by
  idx_vars i
  pointwise [masked, logits_at]
  rw [sle_at (by have := i2.isLt; omega) (by have := i1.isLt; omega), ofBits_bot_f32]
  show Scalar.select (if i2.val ≤ i1.val then 1#1 else 0#1) _ _ = _
  by_cases h : i2.val ≤ i1.val
  · rw [if_pos h, if_pos h]; rfl
  · rw [if_neg h, if_neg h]; rfl

theorem top_real (i : S8x8192.Idx) : ∃ r : ℝ, aTop (q A) (k A) (c A) i = (r : EReal) := by
  obtain ⟨r, h⟩ := reduce_real (aMasked (q A) (k A) (c A)) (constant (F := Ideal) S_ .f32 0xFF800000#32)
    reducesTo_S8x8192x8192_S8x8192_d2 h_S_ i (fun y => by rw [masked_at]; split <;> simp)
    (by show Ideal.ofBits .f32 0xFF800000#32 ≠ ⊤; rw [ofBits_bot_f32]; simp) (ix3 (i 0) (i 1) (i 1))
    (drop_last (i 0) (i 1) (i 1) i rfl rfl) (by rw [masked_at]; simp [ix3])
  exact ⟨r, h⟩

/-- The real number the host lines take off the logits of a row. -/
def offset (n t : ℕ) : ℝ := (aTop (q A) (k A) (c A) (ix2 (Fin.ofNat 8 n) (Fin.ofNat 8192 t))).toReal

theorem top_at (i : S8x8192.Idx) : aTop (q A) (k A) (c A) i = ((offset A (i 0).val (i 1).val : ℝ) : EReal) := by
  idx_vars i
  obtain ⟨r, h⟩ := top_real A (ix2 i0 i1)
  show _ = ((offset A i0.val i1.val : ℝ) : EReal)
  simp only [offset, Fin.ofNat_val_eq_self, h, EReal.toReal_coe]

theorem weights_at (i : S8x8192x8192.Idx) : aWeights (q A) (k A) (c A) i
    = ((A.wgtOff (offset A (i 0).val (i 1).val) (i 0).val (i 1).val (i 2).val : ℝ) : EReal) := by
  idx_vars i
  pointwise [weights, top_at, masked_at]
  simp only [Args.wgtOff]
  by_cases h : i2.val ≤ i1.val
  · rw [if_pos h, if_pos h, ← EReal.coe_sub, Ideal.exp_coe]
  · rw [if_neg h, if_neg h, EReal.bot_sub, Ideal.exp_bot]; rfl

theorem total_at (i : S8x8192.Idx) : aTotal (q A) (k A) (c A) i
    = ((A.denOff (offset A (i 0).val (i 1).val) (i 0).val (i 1).val : ℝ) : EReal) := by
  idx_vars i
  pointwise [total, weights_at]
  simp only [Args.denOff, coe_sum]

theorem attn_at (i : S8192x512.Idx) : aAttn (q A) (k A) (v A) (c A) i = ((A.out (i 0).val (i 1).val : ℝ) : EReal) := by
  idx_vars i
  pointwise [attn, weights_at, total_at, mat]
  simp only [div_real (A.denOff_pos _ _ (Fin.isLt _)).ne', A.prb_off, Nat.div_add_mod']
  simp only [Args.out, coe_sum, EReal.coe_mul]

theorem shift_of (t d : FVec Ideal S8x8192 .f32) (i : S8192x8.Idx) :
    shift t d (c A) i = t (ix2 (i 1) (i 0)) + Ideal.log (d (ix2 (i 1) (i 0))) - ((A.c (i 1).val (i 0).val : ℝ) : EReal) := by
  idx_vars i
  pointwise [shift, mat]

theorem shift_at (i : S8192x8.Idx) : aShift (q A) (k A) (c A) i
    = ((A.lse (offset A) (i 1).val (i 0).val - A.c (i 1).val (i 0).val : ℝ) : EReal) := by
  show shift (aTop (q A) (k A) (c A)) (aTotal (q A) (k A) (c A)) (c A) i = _
  rw [shift_of, top_at, total_at]
  show ((offset A (i 1).val (i 0).val : ℝ) : EReal) + Ideal.log ((A.denOff (offset A (i 1).val (i 0).val) (i 1).val (i 0).val : ℝ) : EReal) - _ = _
  rw [Ideal.log_coe, if_neg (not_le.mpr (A.denOff_pos _ _ (i 0).isLt))]
  simp only [Args.lse, EReal.coe_sub, EReal.coe_add]

theorem delta_at (i : S8192x8.Idx) : aDelta (q A) (k A) (v A) (c A) (g A) i = ((A.avg (i 1).val (i 0).val : ℝ) : EReal) := by
  idx_vars i
  pointwise [delta, attn_at, mat]
  simp only [← EReal.coe_mul, ← coe_sum, A.avg_out]

theorem biases_at (i : S8192x8.Idx) : biases (c A) i = ((-A.c (i 1).val (i 0).val : ℝ) : EReal) := by
  idx_vars i
  pointwise [biases, mat]
  rw [EReal.coe_neg]

theorem negf_at (x : FVec Ideal S8192x8 .f32) (f : ℕ → ℕ → ℝ) (hx : ∀ i, x i = ((f (i 1).val (i 0).val : ℝ) : EReal))
    (i : S8192x8.Idx) : Host.negf x i = ((-f (i 1).val (i 0).val : ℝ) : EReal) := by
  idx_vars i
  pointwise [hx]
  rw [EReal.coe_neg]

theorem pieces_at (x : FVec Ideal S8192x8 .f32) (f : ℕ → ℕ → ℝ) (hx : ∀ i, x i = ((f (i 1).val (i 0).val : ℝ) : EReal))
    (i : S8192x8x3.Idx) : pieces x i = ((if (i 2).val = 0 then f (i 1).val (i 0).val else 0 : ℝ) : EReal) := by
  idx_vars i
  pointwise [pieces, hx]
  simp only [← EReal.coe_sub, sub_self, ite_self, dite_eq_ite, Nat.lt_one_iff]
  split <;> rfl

theorem keyOp_at (x : FVec Ideal S8192x512 .bf16) (p : FVec Ideal S8192x8x3 .bf16) (y : ℕ → ℕ → ℝ)
    (hx : ∀ i, x i = ((y (i 0).val (i 1).val : ℝ) : EReal))
    (hp : ∀ i, p i = ((if (i 2).val = 0 then -A.c (i 1).val (i 0).val else 0 : ℝ) : EReal)) (i : S8192x1024.Idx) :
    keyOp x p i = ((A.keyRow y (i 0).val ((i 1).val / 256) ((i 1).val % 256) : ℝ) : EReal) := by
  idx_vars i
  pointwise [keyOp, hx, hp]
  unfold Args.keyRow
  by_cases h0 : i1.val % 256 < 128
  · rw [dif_pos h0, if_pos h0]
  rw [dif_neg h0, if_neg h0]
  by_cases h1 : i1.val % 256 < 134
  · rw [dif_pos (by omega), if_pos h1]
  rw [dif_neg (by omega), if_neg h1]
  by_cases h2 : i1.val % 256 < 137
  · rw [dif_pos (by omega), if_pos h2]; rfl
  · rw [dif_neg (by omega), if_neg h2]; rfl

theorem keyT_at (i : S512x8192.Idx) : keyT (k A) i = ((A.k (i 1).val (i 0).val : ℝ) : EReal) := by
  idx_vars i
  pointwise [keyT, mat]

theorem div_at {a b : ℕ} (ha : a < 2 ^ 31) (hb : b < 2 ^ 31) (h : 0 < b) :
    IntOp.divsi .host (BitVec.ofNat 32 a) (BitVec.ofNat 32 b) = BitVec.ofNat 32 (a / b) := by
  have e : ∀ n, n < 2 ^ 31 → (BitVec.ofNat 32 n).toNat = n := fun n hn => by
    rw [BitVec.toNat_ofNat, Nat.mod_eq_of_lt (by omega)]
  have m : ∀ n, n < 2 ^ 31 → (BitVec.ofNat 32 n).msb = false := fun n hn => by
    rw [BitVec.msb_eq_decide, e n hn]; simp; omega
  have nc : ¬IntOp.SDivCorner (BitVec.ofNat 32 a) (BitVec.ofNat 32 b) := by
    rintro (h0 | ⟨h1, -⟩)
    · have := congrArg BitVec.toNat h0
      rw [e b hb] at this; simp at this; omega
    · have := congrArg BitVec.msb h1
      rw [m a ha] at this; revert this; decide
  unfold IntOp.divsi
  rw [if_neg nc, BitVec.sdiv_eq, m a ha, m b hb]
  apply BitVec.eq_of_toNat_eq
  have : a / b ≤ a := Nat.div_le_self a b
  show (BitVec.ofNat 32 a / BitVec.ofNat 32 b).toNat = _
  rw [BitVec.toNat_udiv, e a ha, e b hb, e _ (by omega)]

theorem pick_at (i : S8192x4x2x6.Idx) : pick i = ((if (i 3).val / 3 = (i 2).val then 1 else 0 : ℝ) : EReal) := by
  idx_vars i
  pointwise [pick]
  rw [div_at (by omega) (by decide) (by decide), eq_at (by omega) (by omega)]
  show Scalar.select (if i3.val / 3 = i2.val then 1#1 else 0#1) _ _ = (((if i3.val / 3 = i2.val then 1 else 0 : ℝ)) : EReal)
  by_cases h : i3.val / 3 = i2.val
  · rw [if_pos h, if_pos h]; rfl
  · rw [if_neg h, if_neg h]; rfl

theorem unpick_at (i : S8192x4x2x6.Idx) : unpick i = 0 := by
  idx_vars i
  pointwise [unpick]

theorem ownQ_at (i : S8192x4x2x128.Idx) :
    ownQ (q A) i = ((if (i 3).val / 64 = (i 2).val then A.q8 (i 0).val ((i 1).val * 128 + (i 3).val) else 0 : ℝ) : EReal) := by
  idx_vars i
  pointwise [ownQ, mat]
  rw [div_at (by omega) (by decide) (by decide), eq_at (by omega) (by omega), ofBits_eighth_bf16]
  show Scalar.select (if i3.val / 64 = i2.val then 1#1 else 0#1) _ _ = _
  split <;> simp [Scalar.select]

theorem ownG_at (i : S8192x4x2x128.Idx) :
    ownG (g A) i = ((if (i 3).val / 64 = (i 2).val then A.g (i 0).val ((i 1).val * 128 + (i 3).val) else 0 : ℝ) : EReal) := by
  idx_vars i
  pointwise [ownG, mat]
  rw [div_at (by omega) (by decide) (by decide), eq_at (by omega) (by omega)]
  show Scalar.select (if i3.val / 64 = i2.val then 1#1 else 0#1) _ _ = _
  split <;> rfl

theorem queryOp_at (r : FVec Ideal S8192x4x2x128 .bf16) (s : FVec Ideal S8192x4x2x6 .bf16) (p : FVec Ideal S8192x8x3 .bf16)
    (y : ℕ → ℕ → ℝ) (a : ℝ) (b : ℕ → ℕ → ℝ)
    (hr : ∀ i, r i = ((if (i 3).val / 64 = (i 2).val then y (i 0).val ((i 1).val * 128 + (i 3).val) else 0 : ℝ) : EReal))
    (hs : ∀ i, s i = ((if (i 3).val / 3 = (i 2).val then a else 0 : ℝ) : EReal))
    (hp : ∀ i, p i = ((if (i 2).val = 0 then b (i 1).val (i 0).val else 0 : ℝ) : EReal)) (i : S8192x2048.Idx) :
    queryOp r s p i = ((Args.queryRow y a b (i 0).val ((i 1).val / 256) ((i 1).val % 256) : ℝ) : EReal) := by
  idx_vars i
  pointwise [queryOp, hr, hs, hp]
  unfold Args.queryRow
  by_cases h0 : i1.val % 256 < 128
  · rw [dif_pos h0, if_pos h0, show i1.val / 512 = i1.val / 256 / 2 by omega]
  rw [dif_neg h0, if_neg h0]
  by_cases h1 : i1.val % 256 < 134
  · rw [dif_pos (by omega), if_pos h1]
    exact congrArg _ (if_congr Iff.rfl rfl rfl)
  rw [dif_neg (by omega), if_neg h1]
  by_cases h2 : i1.val % 256 < 137
  · rw [dif_pos (by omega), show i1.val / 512 * 2 + i1.val / 256 % 2 = i1.val / 256 by omega]
    exact congrArg _ (if_congr (by omega) rfl rfl)
  · rw [dif_neg (by omega), if_neg (by omega)]; rfl

end Cert.Proof.Ker

end
-- ==== Proof.Point.lean ====
/-
  What one grid point adds to the accumulators, at the extended reals: on blocks of rows of real numbers each accumulator
  gets the block's share of its gradient.
-/
module

public import proofs.«01_k».proof.Proof.Mat
public import proofs.«01_k».proof.Proof.Rows
public import proofs.«01_k».proof.Proof.Step

@[expose] public section

set_option maxRecDepth 16384

noncomputable section

namespace Cert.Proof

open Cert.KernelIdeal Cert.KernelIdeal.Gen Idealize.ShloMosaic

variable (A : Args) (μ : ℕ → ℕ → ℝ)

/-- The blocks hold the rows of the keys' block `a` and of the queries' block `b`. -/
structure Reads (B : Blk Ideal) (a b : ℕ) : Prop where
  K : ∀ i, B.K i = ((A.keyRow A.k (512 * a + (i 0).val) ((i 1).val / 256) ((i 1).val % 256) : ℝ) : EReal)
  V : ∀ i, B.V i = ((A.keyRow A.v (512 * a + (i 0).val) ((i 1).val / 256) ((i 1).val % 256) : ℝ) : EReal)
  Kt : ∀ i, B.Kt i = ((A.k (512 * a + (i 1).val) (i 0).val : ℝ) : EReal)
  Q : ∀ i, B.Q i = ((Args.queryRow A.q8 1 (A.addLogit μ) (512 * b + (i 0).val) ((i 1).val / 256) ((i 1).val % 256) : ℝ) : EReal)
  W : ∀ i, B.W i = ((Args.queryRow A.g 0 A.addGrad (512 * b + (i 0).val) ((i 1).val / 256) ((i 1).val % 256) : ℝ) : EReal)

theorem row_even (y : ℕ → ℕ → ℝ) (pick : ℝ) (f : ℕ → ℕ → ℝ) (t p : ℕ) {l : ℕ} (hl : l < 128) :
    Args.queryRow y pick f t (2 * p) l = if l < 64 then y t (128 * p + l) else 0 := by
  rw [Args.queryRow, if_pos hl, show 2 * p / 2 * 128 + l = 128 * p + l by omega]
  exact if_congr (by omega) rfl rfl
theorem row_odd (y : ℕ → ℕ → ℝ) (pick : ℝ) (f : ℕ → ℕ → ℝ) (t p : ℕ) {l : ℕ} (hl : l < 128) :
    Args.queryRow y pick f t (2 * p + 1) l = if l < 64 then 0 else y t (128 * p + l) := by
  rw [Args.queryRow, if_pos hl, show (2 * p + 1) / 2 * 128 + l = 128 * p + l by omega]
  by_cases h : l < 64
  · rw [if_pos h, if_neg (by omega)]
  · rw [if_neg h, if_pos (by omega)]

variable {A μ} {B : Blk Ideal} {a b : ℕ} (h : Reads A μ B a b)
include h

theorem K_at (p : Fin 4) (j : S512x256.Idx) :
    cut (Val := Elt Ideal) (e := .bf16) (kcol p) B.K j = ((A.keyRow A.k (512 * a + (j 0).val) p.val (j 1).val : ℝ) : EReal) := by
  refine (h.K _).trans ?_
  have e0 : (((kcol p).toLoadRect.idx j) 0).val = 0 + 1 * (j 0).val := rfl
  have e1 : (((kcol p).toLoadRect.idx j) 1).val = 256 * p.val + 1 * (j 1).val := rfl
  have l1 : (j 1).val < 256 := (j 1).isLt
  rw [e0, e1, show (256 * p.val + 1 * (j 1).val) / 256 = p.val by omega, show (256 * p.val + 1 * (j 1).val) % 256 = (j 1).val by omega,
    Nat.zero_add, Nat.one_mul]
theorem V_at (p : Fin 4) (j : S512x256.Idx) :
    cut (Val := Elt Ideal) (e := .bf16) (kcol p) B.V j = ((A.keyRow A.v (512 * a + (j 0).val) p.val (j 1).val : ℝ) : EReal) := by
  refine (h.V _).trans ?_
  have e0 : (((kcol p).toLoadRect.idx j) 0).val = 0 + 1 * (j 0).val := rfl
  have e1 : (((kcol p).toLoadRect.idx j) 1).val = 256 * p.val + 1 * (j 1).val := rfl
  have l1 : (j 1).val < 256 := (j 1).isLt
  rw [e0, e1, show (256 * p.val + 1 * (j 1).val) / 256 = p.val by omega, show (256 * p.val + 1 * (j 1).val) % 256 = (j 1).val by omega,
    Nat.zero_add, Nat.one_mul]
theorem Q_at (n : Fin 8) (j : S512x256.Idx) :
    cut (Val := Elt Ideal) (e := .bf16) (qcol n) B.Q j
      = ((Args.queryRow A.q8 1 (A.addLogit μ) (512 * b + (j 0).val) n.val (j 1).val : ℝ) : EReal) := by
  refine (h.Q _).trans ?_
  have e0 : (((qcol n).toLoadRect.idx j) 0).val = 0 + 1 * (j 0).val := rfl
  have e1 : (((qcol n).toLoadRect.idx j) 1).val = 256 * n.val + 1 * (j 1).val := rfl
  have l1 : (j 1).val < 256 := (j 1).isLt
  rw [e0, e1, show (256 * n.val + 1 * (j 1).val) / 256 = n.val by omega, show (256 * n.val + 1 * (j 1).val) % 256 = (j 1).val by omega,
    Nat.zero_add, Nat.one_mul]
theorem W_at (n : Fin 8) (j : S512x256.Idx) :
    cut (Val := Elt Ideal) (e := .bf16) (qcol n) B.W j
      = ((Args.queryRow A.g 0 A.addGrad (512 * b + (j 0).val) n.val (j 1).val : ℝ) : EReal) := by
  refine (h.W _).trans ?_
  have e0 : (((qcol n).toLoadRect.idx j) 0).val = 0 + 1 * (j 0).val := rfl
  have e1 : (((qcol n).toLoadRect.idx j) 1).val = 256 * n.val + 1 * (j 1).val := rfl
  have l1 : (j 1).val < 256 := (j 1).isLt
  rw [e0, e1, show (256 * n.val + 1 * (j 1).val) / 256 = n.val by omega, show (256 * n.val + 1 * (j 1).val) % 256 = (j 1).val by omega,
    Nat.zero_add, Nat.one_mul]
theorem Kt_at (p : Fin 4) (j : S128x512.Idx) :
    cut (Val := Elt Ideal) (e := .bf16) (krow p) B.Kt j = ((A.k (512 * a + (j 1).val) (128 * p.val + (j 0).val) : ℝ) : EReal) := by
  refine (h.Kt _).trans ?_
  have e0 : (((krow p).toLoadRect.idx j) 0).val = 128 * p.val + 1 * (j 0).val := rfl
  have e1 : (((krow p).toLoadRect.idx j) 1).val = 0 + 1 * (j 1).val := rfl
  rw [e0, e1, Nat.zero_add, Nat.one_mul, Nat.one_mul]

theorem logp_at (n : Fin 8) (j : S512x512.Idx) :
    logp B n j = ((A.lgt n.val (512 * b + (j 1).val) (512 * a + (j 0).val) - A.lse μ n.val (512 * b + (j 1).val) : ℝ) : EReal) := by
  idx_vars j
  pointwise [logp, nt, ld, K_at h, Q_at h]
  simp only [← EReal.coe_mul, ← coe_sum, Args.row_logit]

theorem dpv_at (n : Fin 8) (j : S512x512.Idx) :
    dpv B n j = ((A.gv n.val (512 * b + (j 1).val) (512 * a + (j 0).val) - A.avg n.val (512 * b + (j 1).val) : ℝ) : EReal) := by
  idx_vars j
  pointwise [dpv, nt, ld, V_at h, W_at h]
  simp only [← EReal.coe_mul, ← coe_sum, Args.row_grad]

/-- On the diagonal the mask is on, below it off. -/
abbrev Fits (mk : Bool) (a b : ℕ) : Prop := b < 16 ∧ ((mk = true ∧ a = b) ∨ (mk = false ∧ a < b))

theorem prob_at {mk : Bool} (hm : Fits mk a b) (n : Fin 8) (j : S512x512.Idx) :
    prob mk (logp B n) j = ((A.prb n.val (512 * b + (j 1).val) (512 * a + (j 0).val) : ℝ) : EReal) := by
  obtain ⟨hb, ⟨rfl, rfl⟩ | ⟨rfl, hab⟩⟩ := hm
  · idx_vars j
    pointwise [prob, causal, logp_at h]
    rw [sle_at (by omega) (by omega)]
    by_cases hl : j0.val ≤ j1.val
    · rw [if_pos hl, Ideal.exp_coe, Args.lse, A.prb_exp _ _ (by omega) (by omega)]; rfl
    · rw [if_neg hl, A.prb_later (by omega)]; rfl
  · idx_vars j
    pointwise [prob, logp_at h]
    rw [Ideal.exp_coe, Args.lse, A.prb_exp _ _ (by omega) (by omega)]

theorem dsc_at {mk : Bool} (hm : Fits mk a b) (n : Fin 8) (j : S512x512.Idx) :
    dsc mk B n j = ((A.ds n.val (512 * b + (j 1).val) (512 * a + (j 0).val) : ℝ) : EReal) := by
  idx_vars j
  pointwise [dsc, prob_at h hm, dpv_at h]
  rw [← EReal.coe_mul]; rfl

theorem dvPair_at {mk : Bool} (hm : Fits mk a b) (p : Fin 4) (j : S512x128.Idx) :
    dvPair mk B p j = ((A.addV (512 * a + (j 0).val) (128 * p.val + (j 1).val) b : ℝ) : EReal) := by
  idx_vars j
  pointwise [dvPair, nnl, ld, z128, prob_at h hm, W_at h]
  simp only [row_even _ _ _ _ _ j1.isLt, row_odd _ _ _ _ _ j1.isLt, ← EReal.coe_mul, ← coe_sum, ← EReal.coe_add, Args.addV]
  by_cases hl : j1.val < 64
  · simp only [if_pos hl, mul_zero, Finset.sum_const_zero, add_zero, show (128 * p.val + j1.val) / 64 = 2 * p.val by omega]
  · simp only [if_neg hl, mul_zero, Finset.sum_const_zero, zero_add, show (128 * p.val + j1.val) / 64 = 2 * p.val + 1 by omega]

theorem dkPair_at {mk : Bool} (hm : Fits mk a b) (p : Fin 4) (j : S512x128.Idx) :
    dkPair mk B p j = ((A.addK (512 * a + (j 0).val) (128 * p.val + (j 1).val) b : ℝ) : EReal) := by
  idx_vars j
  pointwise [dkPair, nnl, ld, z128, dsc_at h hm, Q_at h]
  simp only [row_even _ _ _ _ _ j1.isLt, row_odd _ _ _ _ _ j1.isLt, ← EReal.coe_mul, ← coe_sum, ← EReal.coe_add, Args.addK]
  by_cases hl : j1.val < 64
  · simp only [if_pos hl, mul_zero, Finset.sum_const_zero, add_zero, show (128 * p.val + j1.val) / 64 = 2 * p.val by omega]
  · simp only [if_neg hl, mul_zero, Finset.sum_const_zero, zero_add, show (128 * p.val + j1.val) / 64 = 2 * p.val + 1 by omega]

theorem dqPair_at {mk : Bool} (hm : Fits mk a b) (p : Fin 4) (j : S128x512.Idx) :
    dqPair mk B p j = ((A.addQ (512 * b + (j 1).val) (128 * p.val + (j 0).val) a : ℝ) : EReal) := by
  idx_vars j
  pointwise [dqPair, dqHead, ktPair, dsc_at h hm, Kt_at h]
  rw [show (64#32 : BitVec 32) = BitVec.ofNat 32 64 from rfl, slt_at (by omega) (by omega), ofBits_eighth_bf16]
  simp only [← EReal.coe_mul, ← coe_sum, Args.addQ]
  by_cases hl : j0.val < 64
  · rw [if_pos hl, show (128 * p.val + j0.val) / 64 = 2 * p.val by omega]; rfl
  · rw [if_neg hl, show (128 * p.val + j0.val) / 64 = 2 * p.val + 1 by omega]; rfl

theorem colSum_at {mk : Bool} (hm : Fits mk a b) (n : Fin 8) (j : S8x512.Idx) :
    colSum mk B n j = (((if (j 0).val = n.val then A.addC n.val (512 * b + (j 1).val) a else 0 : ℝ)) : EReal) := by
  idx_vars j
  pointwise [colSum, dsc_at h hm]
  rw [eq_at (by omega) (by omega), ← coe_sum]
  by_cases hl : j0.val = n.val
  · rw [if_pos hl, if_pos hl]; rfl
  · rw [if_neg hl, if_neg hl]; rfl

theorem rowSum_at {mk : Bool} (hm : Fits mk a b) (n : Fin 8) (j : S512x128.Idx) :
    rowSum mk B n j = (((if (j 1).val = n.val then ∑ t : Fin 512, A.ds n.val (512 * b + t.val) (512 * a + (j 0).val) else 0 : ℝ)) : EReal) := by
  idx_vars j
  pointwise [rowSum, dsc_at h hm]
  rw [eq_at (by omega) (by omega), ← coe_sum]
  by_cases hl : j1.val = n.val
  · rw [if_pos hl, if_pos hl]; rfl
  · rw [if_neg hl, if_neg hl]; rfl

theorem dcqAll_at {mk : Bool} (hm : Fits mk a b) (j : S8x512.Idx) :
    dcqAll mk B j = ((A.addC (j 0).val (512 * b + (j 1).val) a : ℝ) : EReal) := by
  idx_vars j
  pointwise [dcqAll, z8, colSum_at h hm]
  fin_cases j0 <;> simp

theorem dckAll_at {mk : Bool} (hm : Fits mk a b) (j : S512x128.Idx) :
    dckAll mk B j = ((A.addB (512 * a + (j 0).val) (j 1).val b : ℝ) : EReal) := by
  idx_vars j
  pointwise [dckAll, z128, rowSum_at h hm]
  generalize j1.val = l
  by_cases hl : l < 8
  · interval_cases l <;> simp [Args.addB]
  · rw [if_neg (by omega), if_neg (by omega), if_neg (by omega), if_neg (by omega), if_neg (by omega), if_neg (by omega),
      if_neg (by omega), if_neg (by omega), Args.addB, if_neg hl]
    simp

end Cert.Proof

end
-- ==== Proof.Acc.lean ====
/-
  The accumulators over the grid's points, at the extended reals: after all points, or after the last point of a block of
  keys, they hold the gradients.
-/
module

public import proofs.«01_k».proof.Proof.Point
public import proofs.«01_k».proof.Proof.Data

@[expose] public section

set_option maxRecDepth 16384

noncomputable section

namespace Cert.Proof

open Cert.KernelIdeal Cert.KernelIdeal.Gen Idealize.ShloMosaic

section Tiles

variable {s : Shape} {e : EltTy} {Val : EltTy → Type} (R : Fin 4 → Rect s) (w : ∀ p, (R p).shape.Idx → Val e) (x : s.Idx → Val e)

/-- Four tiles written one after the other. -/
def over4 : s.Idx → Val e := over (R 3) (w 3) (over (R 2) (w 2) (over (R 1) (w 1) (over (R 0) (w 0) x)))

theorem over4_hit (hd : ∀ p p' : Fin 4, p ≠ p' → ∀ j, (R p).emb j ∉ (R p').set) (p : Fin 4) (j : (R p).shape.Idx) :
    over4 R w x ((R p).emb j) = w p j := by
  unfold over4
  obtain ⟨p, hp⟩ := p
  interval_cases p
  · exact (over_miss _ _ _ _ (hd 0 3 (by decide) j)).trans ((over_miss _ _ _ _ (hd 0 2 (by decide) j)).trans
      ((over_miss _ _ _ _ (hd 0 1 (by decide) j)).trans (over_hit _ _ _ j)))
  · exact (over_miss _ _ _ _ (hd 1 3 (by decide) j)).trans ((over_miss _ _ _ _ (hd 1 2 (by decide) j)).trans (over_hit _ _ _ j))
  · exact (over_miss _ _ _ _ (hd 2 3 (by decide) j)).trans (over_hit _ _ _ j)
  · exact over_hit _ _ _ j

theorem over4_miss (y : s.Idx) (hy : ∀ p, y ∉ (R p).set) : over4 R w x y = x y :=
  (over_miss _ _ _ _ (hy 3)).trans ((over_miss _ _ _ _ (hy 2)).trans ((over_miss _ _ _ _ (hy 1)).trans (over_miss _ _ _ _ (hy 0))))

end Tiles

/-- The accumulators over the reals. -/
structure RSt where
  dq : ℕ → ℕ → ℝ
  dc : ℕ → ℕ → ℝ
  dk : ℕ → ℕ → ℝ
  dv : ℕ → ℕ → ℝ
  dck : ℕ → ℕ → ℝ

/-- The accumulators hold these numbers. -/
structure Holds (s : St Ideal) (r : RSt) : Prop where
  dq : s.dq = mat 512 8192 r.dq
  dc : s.dc = mat 8 8192 r.dc
  dk : s.dk = mat 512 512 r.dk
  dv : s.dv = mat 512 512 r.dv
  dck : s.dck = mat 512 128 r.dck

/-- The numbers after a point at the keys' block `a` and the queries' block `b`. -/
def RSt.next (A : Args) (a b : ℕ) (r : RSt) : RSt where
  dq l t := r.dq l t + if t / 512 = b then A.addQ t l a else 0
  dc n t := r.dc n t + if t / 512 = b then A.addC n t a else 0
  dk s l := r.dk s l + A.addK (512 * a + s) l b
  dv s l := r.dv s l + A.addV (512 * a + s) l b
  dck s n := r.dck s n + A.addB (512 * a + s) n b

variable {A : Args} {μ : ℕ → ℕ → ℝ} {B : Blk Ideal} {a b : ℕ} (h : Reads A μ B a b)

theorem qtile_apart (b : ℕ) (hb : b < 16) (p p' : Fin 4) (hp : p ≠ p') (j : (qtile p b hb).shape.Idx) :
    (qtile p b hb).emb j ∉ (qtile p' b hb).set := by
  refine (qtile p' b hb).not_mem_set_of_axis _ 0 (128 * p'.val) 128 rfl rfl rfl ?_
  have e : ((qtile p b hb).emb j 0).val = 128 * p.val + 1 * (j 0).val := rfl
  have l : (j 0).val < 128 := (j 0).isLt
  have : p.val ≠ p'.val := fun e => hp (Fin.ext e)
  omega

theorem lanes_apart (p p' : Fin 4) (hp : p ≠ p') (j : (lanes p).shape.Idx) : (lanes p).emb j ∉ (lanes p').set := by
  refine (lanes p').not_mem_set_of_axis _ 1 (128 * p'.val) 128 rfl rfl rfl ?_
  have e : ((lanes p).emb j 1).val = 128 * p.val + 1 * (j 1).val := rfl
  have l : (j 1).val < 128 := (j 1).isLt
  have : p.val ≠ p'.val := fun e => hp (Fin.ext e)
  omega

theorem putQ_at (mk : Bool) (B : Blk Ideal) (b : ℕ) (hb : b < 16) (x : Vec Ideal S512x8192 .f32) (p : Fin 4) (j : S128x512.Idx) :
    putQ mk B b hb x p j = x ((qtile p b hb).emb j) + dqPair mk B p j := by
  idx_vars j
  pointwise [putQ]
  rfl
theorem putC_at (mk : Bool) (B : Blk Ideal) (b : ℕ) (hb : b < 16) (x : Vec Ideal S8x8192 .f32) (j : S8x512.Idx) :
    addf (shapeCast S8x512 (cut (Val := Elt Ideal) (e := .f32) (ctile b hb) x) shapeCasts_S8x512_S8x512 : FVec Ideal S8x512 .f32) (dcqAll mk B) j
      = x ((ctile b hb).emb j) + dcqAll mk B j := by
  idx_vars j
  pointwise []
  rfl
theorem putK_at (y : FVec Ideal S512x128 .f32) (x : Vec Ideal S512x512 .f32) (p : Fin 4) (j : S512x128.Idx) :
    putK y x p j = x ((lanes p).emb j) + y j := by
  idx_vars j
  pointwise [putK]
  rfl

include h

theorem nextQ_holds {mk : Bool} (hm : Fits mk a b) (hb : b < 16) (f : ℕ → ℕ → ℝ) :
    nextQ mk B b hb (mat 512 8192 f) = mat 512 8192 (fun l t => f l t + if t / 512 = b then A.addQ t l a else 0) := by
  funext i
  have l0 : (i 0).val < 512 := (i 0).isLt
  show over4 (Val := Elt Ideal) (e := .f32) (fun p => qtile p b hb) (fun p => putQ mk B b hb (mat 512 8192 f) p) (mat 512 8192 f) i = _
  by_cases ht : (i 1).val / 512 = b
  · have hi : (qtile ⟨(i 0).val / 128, by omega⟩ b hb).emb
        (ix2 (⟨(i 0).val % 128, by omega⟩ : Fin 128) (⟨(i 1).val % 512, by omega⟩ : Fin 512)) = i := by
      refine Rect.emb_eq_of_coords _ _ _ fun x => ?_
      fin_cases x
      · show (i 0).val = 128 * ((i 0).val / 128) + 1 * ((i 0).val % 128); omega
      · show (i 1).val = 512 * b + 1 * ((i 1).val % 512); omega
    conv_lhs => rw [← hi]
    rw [over4_hit _ _ _ (qtile_apart b hb)]
    refine (putQ_at mk B b hb _ _ _).trans ?_
    rw [hi, dqPair_at h hm]
    simp only [mat, if_pos ht]
    show _ + ((A.addQ (512 * b + (i 1).val % 512) (128 * ((i 0).val / 128) + (i 0).val % 128) a : ℝ) : EReal) = _
    rw [show 512 * b + (i 1).val % 512 = (i 1).val by omega, Nat.div_add_mod, ← EReal.coe_add]
  · rw [over4_miss _ _ _ _ fun p => ?_]
    · simp only [mat, if_neg ht, add_zero]
    · refine (qtile p b hb).not_mem_set_of_axis _ 1 (512 * b) 512 rfl rfl rfl ?_
      omega

theorem nextC_holds {mk : Bool} (hm : Fits mk a b) (hb : b < 16) (f : ℕ → ℕ → ℝ) :
    nextC mk B b hb (mat 8 8192 f) = mat 8 8192 (fun n t => f n t + if t / 512 = b then A.addC n t a else 0) := by
  funext i
  by_cases ht : (i 1).val / 512 = b
  · have hi : (ctile b hb).emb (ix2 (i 0 : Fin 8) (⟨(i 1).val % 512, by omega⟩ : Fin 512)) = i := by
      refine Rect.emb_eq_of_coords _ _ _ fun x => ?_
      fin_cases x
      · show (i 0).val = 0 + 1 * (i 0).val; omega
      · show (i 1).val = 512 * b + 1 * ((i 1).val % 512); omega
    conv_lhs => rw [← hi]
    rw [nextC, over_hit]
    refine (putC_at mk B b hb _ _).trans ?_
    rw [hi, dcqAll_at h hm]
    simp only [mat, if_pos ht]
    show _ + ((A.addC (i 0).val (512 * b + (i 1).val % 512) a : ℝ) : EReal) = _
    rw [show 512 * b + (i 1).val % 512 = (i 1).val by omega, ← EReal.coe_add]
  · rw [nextC, over_miss _ _ _ _ ((ctile b hb).not_mem_set_of_axis _ 1 (512 * b) 512 rfl rfl rfl (by omega))]
    simp only [mat, if_neg ht, add_zero]

omit h in
theorem nextK_holds {y : Fin 4 → FVec Ideal S512x128 .f32} (f d : ℕ → ℕ → ℝ)
    (hy : ∀ p j, y p j = ((d (j 0).val (128 * p.val + (j 1).val) : ℝ) : EReal)) :
    nextK y (mat 512 512 f) = mat 512 512 (fun s l => f s l + d s l) := by
  funext i
  have l1 : (i 1).val < 512 := (i 1).isLt
  show over4 (Val := Elt Ideal) (e := .f32) lanes (fun p => putK (y p) (mat 512 512 f) p) (mat 512 512 f) i = _
  have hi : (lanes ⟨(i 1).val / 128, by omega⟩).emb (ix2 (i 0 : Fin 512) (⟨(i 1).val % 128, by omega⟩ : Fin 128)) = i := by
    refine Rect.emb_eq_of_coords _ _ _ fun x => ?_
    fin_cases x
    · show (i 0).val = 0 + 1 * (i 0).val; omega
    · show (i 1).val = 128 * ((i 1).val / 128) + 1 * ((i 1).val % 128); omega
  conv_lhs => rw [← hi]
  rw [over4_hit _ _ _ lanes_apart]
  refine (putK_at _ _ _ _).trans ?_
  rw [hi, hy]
  simp only [mat]
  show _ + ((d (i 0).val (128 * ((i 1).val / 128) + (i 1).val % 128) : ℝ) : EReal) = _
  rw [Nat.div_add_mod, ← EReal.coe_add]

theorem step_holds {mk : Bool} (hm : Fits mk a b) (hb : b < 16) {s : St Ideal} {r : RSt} (hs : Holds s r) :
    Holds (step mk B b hb s) (r.next A a b) := by
  unfold step RSt.next
  refine ⟨?_, ?_, ?_, ?_, ?_⟩
  · simp only [hs.dq]; exact nextQ_holds h hm hb _
  · simp only [hs.dc]; exact nextC_holds h hm hb _
  · simp only [hs.dk]
    exact nextK_holds _ (fun s l => A.addK (512 * a + s) l b) fun p j => dkPair_at h hm p j
  · simp only [hs.dv]
    exact nextK_holds _ (fun s l => A.addV (512 * a + s) l b) fun p j => dvPair_at h hm p j
  · simp only [hs.dck]
    funext i
    idx_vars i
    pointwise [dckAll_at h hm, mat]
    rw [← EReal.coe_add]

end Cert.Proof

end
-- ==== Proof.Fold.lean ====
/-
  The grid's walk: the blocks each point meets, and the accumulators after each point.
-/
module

public import proofs.«01_k».proof.Proof.Acc

@[expose] public section

set_option maxRecDepth 16384

noncomputable section

namespace Cert.Proof

open Cert.KernelIdeal Cert.KernelIdeal.Gen Idealize.ShloMosaic

/-- The keys' block at point `n`. -/
def kbAt (n : ℕ) : ℕ := kbN (n / 17) (n % 17)
/-- The queries' block at point `n`. -/
def qbAt (n : ℕ) : ℕ := qbN (n / 17) (n % 17)

theorem kb_at : ∀ t : Fin grid0.N, kb (grid0.coords t) = kbAt t.val := by decide +kernel
theorem qb_at : ∀ t : Fin grid0.N, qb (grid0.coords t) = qbAt t.val := by decide +kernel

/-- Off the diagonal a point keeps the keys' block and takes the next block of queries. -/
theorem walk : ∀ n : Fin 136, qbAt n.val < 16 ∧ kbAt n.val ≤ qbAt n.val ∧ (n.val = 0 → kbAt n.val = qbAt n.val)
    ∧ (n.val ≠ 0 → kbAt n.val ≠ qbAt n.val → kbAt n.val = kbAt (n.val - 1) ∧ qbAt n.val = qbAt (n.val - 1) + 1) := by
  decide +kernel

/-- Every pair of blocks at or below the diagonal is met once. -/
theorem visits : ∀ a b : Fin 16, (∑ n ∈ Finset.range 136, if kbAt n = a.val ∧ qbAt n = b.val then 1 else 0) = if a.val ≤ b.val then 1 else 0 := by
  decide +kernel

/-- A sum over the points that meet the queries' block `b` is one over the keys' blocks. -/
theorem sum_visits (f : ℕ → ℝ) (b : ℕ) (hb : b < 16) (hf : ∀ a, b < a → f a = 0) :
    (∑ n ∈ Finset.range 136, if b = qbAt n then f (kbAt n) else 0) = ∑ a ∈ Finset.range 16, f a := by
  have e : ∀ n ∈ Finset.range 136, (if b = qbAt n then f (kbAt n) else 0)
      = ∑ a ∈ Finset.range 16, (if kbAt n = a ∧ qbAt n = b then 1 else 0 : ℕ) * f a := by
    intro n hn
    obtain ⟨hq, hk, -, -⟩ := walk ⟨n, Finset.mem_range.mp hn⟩
    dsimp only at hq hk
    by_cases h : b = qbAt n
    · rw [if_pos h, Finset.sum_eq_single (kbAt n)]
      · rw [if_pos ⟨rfl, h.symm⟩]; simp
      · intro a _ ha; rw [if_neg fun hh => ha hh.1.symm]; simp
      · intro hh; exact absurd (Finset.mem_range.mpr (by omega)) hh
    · rw [if_neg h]
      refine (Finset.sum_eq_zero fun a _ => ?_).symm
      rw [if_neg fun hh => h hh.2.symm]; simp
  rw [Finset.sum_congr rfl e, Finset.sum_comm]
  refine Finset.sum_congr rfl fun a ha => ?_
  rw [← Finset.sum_mul, ← Nat.cast_sum, visits ⟨a, Finset.mem_range.mp ha⟩ ⟨b, hb⟩]
  by_cases h : a ≤ b
  · simp [h]
  · simp [h, hf a (by omega)]

/-- A sum over the queries' blocks from the keys' own on is one over all. -/
theorem sum_from (f : ℕ → ℝ) (a : ℕ) (ha : a < 16) (hf : ∀ b, b < a → f b = 0) :
    (∑ b ∈ Finset.Ico a 16, f b) = ∑ b ∈ Finset.range 16, f b := by
  rw [Finset.range_eq_Ico, ← Finset.sum_Ico_consecutive f (Nat.zero_le a) ha.le,
    Finset.sum_eq_zero fun b hb => hf b (Finset.mem_Ico.mp hb).2, zero_add]

/-- The numbers after point `n`. -/
def accAt (A : Args) (n : ℕ) : RSt where
  dq l t := ∑ u ∈ Finset.range (n + 1), if t / 512 = qbAt u then A.addQ t l (kbAt u) else 0
  dc h t := ∑ u ∈ Finset.range (n + 1), if t / 512 = qbAt u then A.addC h t (kbAt u) else 0
  dk s l := ∑ b ∈ Finset.Ico (kbAt n) (qbAt n + 1), A.addK (512 * kbAt n + s) l b
  dv s l := ∑ b ∈ Finset.Ico (kbAt n) (qbAt n + 1), A.addV (512 * kbAt n + s) l b
  dck s h := ∑ b ∈ Finset.Ico (kbAt n) (qbAt n + 1), A.addB (512 * kbAt n + s) h b

/-- No numbers. -/
def zeroR : RSt := ⟨fun _ _ => 0, fun _ _ => 0, fun _ _ => 0, fun _ _ => 0, fun _ _ => 0⟩
/-- The keys' numbers dropped. -/
def RSt.clearK (r : RSt) : RSt := { r with dk := fun _ _ => 0, dv := fun _ _ => 0, dck := fun _ _ => 0 }

theorem cleared (s : St Ideal) : Holds (clearK (clearQ s)) zeroR := by
  refine ⟨?_, ?_, ?_, ?_, ?_⟩ <;> (funext i; idx_vars i; pointwise [clearK, clearQ, zeroR, mat]; try rfl)

theorem clearK_holds {s : St Ideal} {r : RSt} (hs : Holds s r) : Holds (clearK s) r.clearK := by
  refine ⟨hs.dq, hs.dc, ?_, ?_, ?_⟩ <;> (funext i; idx_vars i; pointwise [clearK, RSt.clearK, mat]; try rfl)

theorem next_first (A : Args) : zeroR.next A (kbAt 0) (qbAt 0) = accAt A 0 := by
  have e : kbAt 0 = 0 := rfl
  have e' : qbAt 0 = 0 := rfl
  simp [RSt.next, zeroR, accAt, e, e']

theorem next_diag (A : Args) (n : ℕ) (h : kbAt (n + 1) = qbAt (n + 1)) :
    ((accAt A n).clearK).next A (kbAt (n + 1)) (qbAt (n + 1)) = accAt A (n + 1) := by
  simp only [RSt.next, RSt.clearK, accAt, Finset.sum_range_succ _ (n + 1), h, Nat.Ico_succ_singleton, Finset.sum_singleton, zero_add]

theorem next_off (A : Args) (n : ℕ) (hk : kbAt (n + 1) = kbAt n) (hq : qbAt (n + 1) = qbAt n + 1) (hle : kbAt n ≤ qbAt n) :
    (accAt A n).next A (kbAt (n + 1)) (qbAt (n + 1)) = accAt A (n + 1) := by
  simp only [RSt.next, accAt, Finset.sum_range_succ _ (n + 1), hk, hq, Finset.sum_Ico_succ_top (show kbAt n ≤ qbAt n + 1 by omega)]

variable (m : (ℓ : Loc nD τ sig) → Buf (Elt Ideal) ℓ) (c : Dev nD) {A : Args} {μ : ℕ → ℕ → ℝ}
  (hB : ∀ t : Fin cfg0.N, Reads A μ (blkAt m c t) (kbAt t.val) (qbAt t.val))
include hB

theorem step_at (t : Fin cfg0.N) {mk : Bool} (hm : Fits mk (kbAt t.val) (qbAt t.val)) {s : St Ideal} {r : RSt} (hs : Holds s r) :
    Holds (step mk (blkAt m c t) (qb (grid0.coords t)) (qb_lt _) s) (r.next A (kbAt t.val) (qbAt t.val)) := by
  have : ∀ b (hb : b < 16), b = qbAt t.val → Holds (step mk (blkAt m c t) b hb s) (r.next A (kbAt t.val) (qbAt t.val)) := by
    rintro _ hb rfl
    exact step_holds (hB t) hm hb hs
  exact this _ _ (qb_at t)

/-- The accumulators after point `n`. -/
theorem stAt_holds (n : ℕ) (hn : n < 136) : Holds (stAt m c (n + 1)) (accAt A n) := by
  induction n with
  | zero =>
    have ht : 0 < cfg0.N := by show 0 < grid0.N; rw [N_0]; omega
    have h1 : k0_cond1 (grid0.coords ⟨0, ht⟩) = 1#1 := (cond1_iff _).mpr ((first_iff ⟨0, ht⟩).mpr rfl)
    rw [stAt_succ m c ⟨0, ht⟩, pointStep, if_pos h1, ← next_first A]
    exact step_at m c hB ⟨0, ht⟩ ⟨(walk ⟨0, hn⟩).1, .inl ⟨rfl, (walk ⟨0, hn⟩).2.2.1 rfl⟩⟩ (cleared _)
  | succ n ih =>
    have ht : n + 1 < cfg0.N := by show n + 1 < grid0.N; rw [N_0]; omega
    have h1 : k0_cond1 (grid0.coords ⟨n + 1, ht⟩) ≠ 1#1 := fun h => by
      have := (first_iff ⟨n + 1, ht⟩).mp ((cond1_iff _).mp h); simp at this
    obtain ⟨hq, hk, -, hw⟩ := walk ⟨n + 1, hn⟩
    dsimp only at hq hk hw
    rw [stAt_succ m c ⟨n + 1, ht⟩, pointStep, if_neg h1]
    by_cases hd : kbAt (n + 1) = qbAt (n + 1)
    · rw [if_pos ((cond4_iff _).mpr (by rw [kb_at, qb_at]; exact hd.symm)), ← next_diag A n hd]
      exact step_at m c hB ⟨n + 1, ht⟩ ⟨hq, .inl ⟨rfl, hd⟩⟩ (clearK_holds (ih (by omega)))
    · obtain ⟨ek, eq⟩ := hw (by omega) hd
      rw [Nat.add_sub_cancel] at ek eq
      rw [if_neg fun h => hd (by have := (cond4_iff _).mp h; rw [kb_at, qb_at] at this; exact this.symm),
        ← next_off A n ek eq (walk ⟨n, by omega⟩).2.1]
      exact step_at m c hB ⟨n + 1, ht⟩ ⟨hq, .inr ⟨rfl, lt_of_le_of_ne hk hd⟩⟩ (ih (by omega))

/-- After all points the queries' accumulators hold the gradients. -/
theorem last_dq : (stAt m c 136).dq = mat 512 8192 fun l t => A.dq t l := by
  rw [(stAt_holds m c hB 135 (by omega)).dq]
  funext i
  have l1 : (i 1).val < 8192 := (i 1).isLt
  simp only [mat, accAt]
  rw [sum_visits (fun a => A.addQ (i 1).val (i 0).val a) _ (by omega) fun a ha => A.addQ_later ha, A.dq_blocks]
theorem last_dc : (stAt m c 136).dc = mat 8 8192 A.dcq := by
  rw [(stAt_holds m c hB 135 (by omega)).dc]
  funext i
  have l1 : (i 1).val < 8192 := (i 1).isLt
  simp only [mat, accAt]
  rw [sum_visits (fun a => A.addC (i 0).val (i 1).val a) _ (by omega) fun a ha => A.addC_later ha, A.dcq_blocks]

/-- After the last block of queries the keys' accumulators hold their block's gradients. -/
theorem flushed (n : ℕ) (hn : n < 136) (hq : qbAt n = 15) :
    (stAt m c (n + 1)).dk = mat 512 512 (fun s l => A.dk (512 * kbAt n + s) l)
      ∧ (stAt m c (n + 1)).dv = mat 512 512 (fun s l => A.dv (512 * kbAt n + s) l)
      ∧ (stAt m c (n + 1)).dck = mat 512 128 (fun s h => A.dck (512 * kbAt n + s) h) := by
  have h := stAt_holds m c hB n hn
  have hk : kbAt n < 16 := by have := (walk ⟨n, hn⟩).2.1; dsimp only at this; omega
  refine ⟨?_, ?_, ?_⟩
  · rw [h.dk]
    funext i
    have l0 : (i 0).val < 512 := (i 0).isLt
    simp only [mat, accAt, hq]
    rw [sum_from (fun b => A.addK (512 * kbAt n + (i 0).val) (i 1).val b) _ hk fun b hb => A.addK_later (by omega), A.dk_blocks]
  · rw [h.dv]
    funext i
    have l0 : (i 0).val < 512 := (i 0).isLt
    simp only [mat, accAt, hq]
    rw [sum_from (fun b => A.addV (512 * kbAt n + (i 0).val) (i 1).val b) _ hk fun b hb => A.addV_later (by omega), A.dv_blocks]
  · rw [h.dck]
    funext i
    have l0 : (i 0).val < 512 := (i 0).isLt
    simp only [mat, accAt, hq]
    rw [sum_from (fun b => A.addB (512 * kbAt n + (i 0).val) (i 1).val b) _ hk fun b hb => A.addB_later (by omega), A.dck_blocks]

end Cert.Proof

end
-- ==== Proof.Blocks.lean ====
/-
  What the windows hold, on real arguments: each grid point reads the rows of its blocks, and the results end as the
  gradients.
-/
module

public import proofs.«01_k».proof.Proof.Entry
public import proofs.«01_k».proof.Proof.Values
public import proofs.«01_k».proof.Proof.Fold
public import Idealize.ShloMosaic.Lib.Pipeline.ValueKit

@[expose] public section

set_option maxRecDepth 16384
set_option maxHeartbeats 2000000

noncomputable section

namespace Cert.Proof

open Cert.KernelIdeal Cert.KernelIdeal.Gen Idealize.ShloMosaic Idealize.ShloMosaic.Pipeline Idealize.ShloMosaic.TcCoe

variable (A : Args) (m : (ℓ : Loc nD τ sig) → Buf (Elt Ideal) ℓ) (c : Dev nD)

/-- The core's arguments are these reals. -/
structure Given : Prop where
  hq : m (c.tc.loc main_arg0) = Ker.q A
  hk : m (c.tc.loc main_arg1) = Ker.k A
  hv : m (c.tc.loc main_arg2) = Ker.v A
  hc : m (c.tc.loc main_arg3) = Ker.c A
  hg : m (c.tc.loc main_arg4) = Ker.g A

/-- Where each window's block lies. -/
theorem places : ∀ t : Fin grid0.N, (win0_0.index t = ![kbAt t.val, 0] ∧ win0_1.index t = ![kbAt t.val, 0] ∧ win0_2.index t = ![0, kbAt t.val])
    ∧ (win0_3.index t = ![qbAt t.val, 0] ∧ win0_4.index t = ![qbAt t.val, 0])
    ∧ (win0_8.index t = ![kbAt t.val, 0] ∧ win0_9.index t = ![kbAt t.val, 0] ∧ win0_10.index t = ![kbAt t.val, 0]) := by
  decide +kernel

variable {A m c} (G : Given A m c)
include G

theorem keys_entry (i : S8192x1024.Idx) :
    V m c main_v60 i = ((A.keyRow A.k (i 0).val ((i 1).val / 256) ((i 1).val % 256) : ℝ) : EReal) := by
  rw [Ker.V_keys, G.hk, G.hc]
  exact Ker.keyOp_at A _ _ A.k (fun _ => rfl) (Ker.pieces_at _ (fun n t => -A.c n t) (Ker.biases_at A)) i

theorem values_entry (i : S8192x1024.Idx) :
    V m c main_v65 i = ((A.keyRow A.v (i 0).val ((i 1).val / 256) ((i 1).val % 256) : ℝ) : EReal) := by
  rw [Ker.V_values, G.hv, G.hc]
  exact Ker.keyOp_at A _ _ A.v (fun _ => rfl) (Ker.pieces_at _ (fun n t => -A.c n t) (Ker.biases_at A)) i

theorem keysT_entry (i : S512x8192.Idx) : V m c main_v66 i = ((A.k (i 1).val (i 0).val : ℝ) : EReal) := by
  rw [Ker.V_keysT, G.hk]
  exact Ker.keyT_at A i

theorem queries_entry (i : S8192x2048.Idx) : V m c main_v101 i
    = ((Args.queryRow A.q8 1 (A.addLogit (Ker.offset A)) (i 0).val ((i 1).val / 256) ((i 1).val % 256) : ℝ) : EReal) := by
  rw [Ker.V_queries, G.hq, G.hk, G.hc]
  exact Ker.queryOp_at _ _ _ A.q8 1 (A.addLogit (Ker.offset A)) (Ker.ownQ_at A) Ker.pick_at
    (Ker.pieces_at _ (A.addLogit (Ker.offset A)) (Ker.negf_at _ (fun n t => A.lse (Ker.offset A) n t - A.c n t) (Ker.shift_at A))) i

theorem grads_entry (i : S8192x2048.Idx) : V m c main_v128 i
    = ((Args.queryRow A.g 0 A.addGrad (i 0).val ((i 1).val / 256) ((i 1).val % 256) : ℝ) : EReal) := by
  rw [Ker.V_grads, G.hq, G.hk, G.hv, G.hc, G.hg]
  refine Ker.queryOp_at _ _ _ A.g 0 A.addGrad (Ker.ownG_at A) (fun j => ?_)
    (Ker.pieces_at _ A.addGrad (Ker.negf_at _ A.avg (Ker.delta_at A))) i
  rw [Ker.unpick_at, ite_self]; rfl

theorem keys_block (t : Fin cfg0.N) (i : S512x1024.Idx) : iblk m c 0 t i
    = ((A.keyRow A.k (512 * kbAt t.val + (i 0).val) ((i 1).val / 256) ((i 1).val % 256) : ℝ) : EReal) := by
  obtain ⟨⟨e, -, -⟩, -, -⟩ := places t
  show V m c main_v60 (((cfg0.win 0).blk t).view.emb i) = _
  refine (keys_entry G _).trans ?_
  blk_simp [e]
  rw [Nat.mul_comm]

theorem values_block (t : Fin cfg0.N) (i : S512x1024.Idx) : iblk m c 1 t i
    = ((A.keyRow A.v (512 * kbAt t.val + (i 0).val) ((i 1).val / 256) ((i 1).val % 256) : ℝ) : EReal) := by
  obtain ⟨⟨-, e, -⟩, -, -⟩ := places t
  show V m c main_v65 (((cfg0.win 1).blk t).view.emb i) = _
  refine (values_entry G _).trans ?_
  blk_simp [e]
  rw [Nat.mul_comm]

theorem keysT_block (t : Fin cfg0.N) (i : S512x512.Idx) : iblk m c 2 t i
    = ((A.k (512 * kbAt t.val + (i 1).val) (i 0).val : ℝ) : EReal) := by
  obtain ⟨⟨-, -, e⟩, -, -⟩ := places t
  show V m c main_v66 (((cfg0.win 2).blk t).view.emb i) = _
  refine (keysT_entry G _).trans ?_
  blk_simp [e]
  rw [Nat.mul_comm]

theorem queries_block (t : Fin cfg0.N) (i : S512x2048.Idx) : iblk m c 3 t i
    = ((Args.queryRow A.q8 1 (A.addLogit (Ker.offset A)) (512 * qbAt t.val + (i 0).val) ((i 1).val / 256) ((i 1).val % 256) : ℝ) : EReal) := by
  obtain ⟨-, ⟨e, -⟩, -⟩ := places t
  show V m c main_v101 (((cfg0.win 3).blk t).view.emb i) = _
  refine (queries_entry G _).trans ?_
  blk_simp [e]
  rw [Nat.mul_comm]

theorem grads_block (t : Fin cfg0.N) (i : S512x2048.Idx) : iblk m c 4 t i
    = ((Args.queryRow A.g 0 A.addGrad (512 * qbAt t.val + (i 0).val) ((i 1).val / 256) ((i 1).val % 256) : ℝ) : EReal) := by
  obtain ⟨-, ⟨-, e⟩, -⟩ := places t
  show V m c main_v128 (((cfg0.win 4).blk t).view.emb i) = _
  refine (grads_entry G _).trans ?_
  blk_simp [e]
  rw [Nat.mul_comm]

theorem reads (t : Fin cfg0.N) : Reads A (Ker.offset A) (blkAt m c t) (kbAt t.val) (qbAt t.val) :=
  ⟨keys_block G t, values_block G t, keysT_block G t, queries_block G t, grads_block G t⟩

theorem array_dq : (dats m 0 c).arrAt 6 cfg0.N = mat 512 8192 (fun l t => A.dq t l) := by
  refine (dats m 0 c).arrAt_eq_of_after_last 6 (t₀ := (⟨135, by decide⟩ : Fin grid0.N)) (by decide +kernel) _ fun j => ?_
  exact congrFun (last_dq m c (reads G)) j

theorem array_dcq : (dats m 0 c).arrAt 7 cfg0.N = mat 8 8192 A.dcq := by
  refine (dats m 0 c).arrAt_eq_of_after_last 7 (t₀ := (⟨135, by decide⟩ : Fin grid0.N)) (by decide +kernel) _ fun j => ?_
  exact congrFun (last_dc m c (reads G)) j

theorem array_dk : (dats m 0 c).arrAt 8 cfg0.N = mat 8192 512 A.dk := by
  refine (dats m 0 c).arrAt_eq_of_covers 8 _ (by decide +kernel) fun t hf y => ?_
  have hq := (qb_at t).symm.trans (flush_8 t hf)
  obtain ⟨-, -, e, -, -⟩ := places t
  obtain ⟨h, -, -⟩ := flushed m c (reads G) t.val t.isLt hq
  refine (congrFun h y).trans ?_
  unfold mat
  blk_simp [e]
  rw [Nat.mul_comm]

theorem array_dv : (dats m 0 c).arrAt 9 cfg0.N = mat 8192 512 A.dv := by
  refine (dats m 0 c).arrAt_eq_of_covers 9 _ (by decide +kernel) fun t hf y => ?_
  have hq := (qb_at t).symm.trans (flush_9 t hf)
  obtain ⟨-, -, -, e, -⟩ := places t
  obtain ⟨-, h, -⟩ := flushed m c (reads G) t.val t.isLt hq
  refine (congrFun h y).trans ?_
  unfold mat
  blk_simp [e]
  rw [Nat.mul_comm]

theorem array_dck : (dats m 0 c).arrAt 10 cfg0.N = mat 8192 128 A.dck := by
  refine (dats m 0 c).arrAt_eq_of_covers 10 _ (by decide +kernel) fun t hf y => ?_
  have hq := (qb_at t).symm.trans (flush_10 t hf)
  obtain ⟨-, -, -, -, e⟩ := places t
  obtain ⟨-, -, h⟩ := flushed m c (reads G) t.val t.isLt hq
  refine (congrFun h y).trans ?_
  unfold mat
  blk_simp [e]
  rw [Nat.mul_comm]

end Cert.Proof

end
-- ==== Proof.Finite.lean ====
/-
  Arguments of real numbers: the precondition says that every entry is one.
-/
module

public import proofs.«01_k».proof.Defs
public import proofs.«01_k».proof.Proof.Gen.Pre_finite
public import proofs.«01_k».proof.Proof.Blocks
public import Idealize.ShloMosaic.Lib.ReduceAll

@[expose] public section

set_option maxRecDepth 16384

noncomputable section

namespace Cert.Proof

open Idealize.ShloMosaic Idealize.ShloMosaic.TcCoe

theorem and_one {a b : BitVec 1} (h : a &&& b = 1#1) : a = 1#1 ∧ b = 1#1 := by
  revert a b; decide

theorem of_bool {p : Prop} [Decidable p] (h : BitVec.ofBool (decide p) = 1#1) : p := by
  by_contra hp
  rw [decide_eq_false hp] at h
  exact absurd h (by decide)

/-- An array whose every entry lies between the infinities is one of real numbers. -/
theorem real_of_all {s t u : Shape} {axes : List (Fin s.rank)} [Subsingleton t.Idx] {φ : FTy} (x lo hi : FVec Ideal s φ)
    (hlo : ∀ i, lo i = (⊥ : EReal)) (hhi : ∀ i, hi i = (⊤ : EReal)) (init : u.Idx → BitVec 1) (h : s.ReducesTo axes t)
    (hu : 0 < u.numel) (j : t.Idx) (e : Host.reduce IntOp.andi (andi (cmpf .ogt x lo) (cmpf .olt x hi)) init h hu j = 1#1)
    (i : s.Idx) : ∃ r : ℝ, x i = (r : EReal) := by
  have hi' : Ideal.cmp .ogt (x i) (lo i) &&& Ideal.cmp .olt (x i) (hi i) = 1#1 := Host.reduce_andi_all _ init h hu j e i
  obtain ⟨h0, h1⟩ := and_one hi'
  have h0 : lo i < x i := of_bool h0
  have h1 : x i < hi i := of_bool h1
  rw [hlo] at h0
  rw [hhi] at h1
  exact ⟨(x i).toReal, (EReal.coe_toReal h1.ne h0.ne').symm⟩

/-- An array of real numbers, as one. -/
theorem mat_of {n m : ℕ} [NeZero n] [NeZero m] (x : (⟨2, ![n, m]⟩ : Shape).Idx → EReal) (hx : ∀ i, ∃ r : ℝ, x i = (r : EReal)) :
    x = mat n m fun a b => (x (ix2 (Fin.ofNat n a) (Fin.ofNat m b))).toReal := by
  funext i
  have hi : ix2 (Fin.ofNat n (i 0).val) (Fin.ofNat m (i 1).val) = i := by
    funext a
    fin_cases a
    · exact Fin.ofNat_val_eq_self (show Fin n from i 0)
    · exact Fin.ofNat_val_eq_self (show Fin m from i 1)
  obtain ⟨r, h⟩ := hx i
  show _ = (((x (ix2 (Fin.ofNat n (i 0).val) (Fin.ofNat m (i 1).val))).toReal : ℝ) : EReal)
  rw [hi, h, EReal.toReal_coe]

theorem ofBits_bot_bf16 : Ideal.ofBits .bf16 0xFF80#16 = ⊥ := by
  simp [Ideal.ofBits, Ideal.ieee]
theorem ofBits_top_bf16 : Ideal.ofBits .bf16 0x7F80#16 = ⊤ := by
  simp [Ideal.ofBits, Ideal.ieee]
theorem ofBits_top_f32 : Ideal.ofBits .f32 0x7F800000#32 = ⊤ := by
  simp [Ideal.ofBits, Ideal.ieee]

section
open Cert.Pre_finite Cert.Pre_finite.Gen
instance : Subsingleton S_.Idx := ⟨fun a b => funext fun i => i.elim0⟩

theorem real_args (q k v : FVec Ideal S8192x512 .bf16) (c : FVec Ideal S8x8192 .f32) (g : FVec Ideal S8192x512 .f32)
    (h : fn (F := Ideal) q k v c g = fun _ => 1#1) :
    (∀ i, ∃ r : ℝ, q i = (r : EReal)) ∧ (∀ i, ∃ r : ℝ, k i = (r : EReal)) ∧ (∀ i, ∃ r : ℝ, v i = (r : EReal))
      ∧ (∀ i, ∃ r : ℝ, c i = (r : EReal)) ∧ (∀ i, ∃ r : ℝ, g i = (r : EReal)) := by
  have e := congrFun h ix0
  dsimp only [fn, fn_part1, fn_part2] at e
  obtain ⟨e, eg⟩ := and_one e
  obtain ⟨e, ec⟩ := and_one e
  obtain ⟨e, ev⟩ := and_one e
  obtain ⟨eq, ek⟩ := and_one e
  exact ⟨real_of_all _ _ _ (fun _ => ofBits_bot_bf16) (fun _ => ofBits_top_bf16) _ _ _ _ eq,
    real_of_all _ _ _ (fun _ => ofBits_bot_bf16) (fun _ => ofBits_top_bf16) _ _ _ _ ek,
    real_of_all _ _ _ (fun _ => ofBits_bot_bf16) (fun _ => ofBits_top_bf16) _ _ _ _ ev,
    real_of_all _ _ _ (fun _ => ofBits_bot_f32) (fun _ => ofBits_top_f32) _ _ _ _ ec,
    real_of_all _ _ _ (fun _ => ofBits_bot_f32) (fun _ => ofBits_top_f32) _ _ _ _ eg⟩
end

open Cert.KernelIdeal

/-- A core's arguments as reals. -/
def argsOf (m : (ℓ : Loc nD τ sig) → Buf (Elt Ideal) ℓ) (c : Dev nD) : Args where
  q a b := ((m (c.tc.loc main_arg0) : S8192x512.Idx → EReal) (ix2 (Fin.ofNat 8192 a) (Fin.ofNat 512 b))).toReal
  k a b := ((m (c.tc.loc main_arg1) : S8192x512.Idx → EReal) (ix2 (Fin.ofNat 8192 a) (Fin.ofNat 512 b))).toReal
  v a b := ((m (c.tc.loc main_arg2) : S8192x512.Idx → EReal) (ix2 (Fin.ofNat 8192 a) (Fin.ofNat 512 b))).toReal
  c a b := ((m (c.tc.loc main_arg3) : S8x8192.Idx → EReal) (ix2 (Fin.ofNat 8 a) (Fin.ofNat 8192 b))).toReal
  g a b := ((m (c.tc.loc main_arg4) : S8192x512.Idx → EReal) (ix2 (Fin.ofNat 8192 a) (Fin.ofNat 512 b))).toReal

theorem given (m : (ℓ : Loc nD τ sig) → Buf (Elt Ideal) ℓ)
    (h : Cert.Pre_KernelIdeal_finite (hPre_finite := Cert.Pre_finite.Gen.facts) m) (c : Dev nD) : Given (argsOf m c) m c := by
  obtain ⟨hq, hk, hv, hc, hg⟩ := real_args _ _ _ _ _ (h c)
  exact ⟨mat_of _ hq, mat_of _ hk, mat_of _ hv, mat_of _ hc, mat_of _ hg⟩

end Cert.Proof

end
-- ==== Proof.Ref.lean ====
/-
  The reference at the extended reals, on real arguments: each of its arrays is the real one of `Model`.
-/
module

public import proofs.«01_k».proof.Proof.Mat
public import proofs.«01_k».proof.Proof.Gen.ReferenceIdeal.Read

@[expose] public section

set_option maxRecDepth 16384

noncomputable section

namespace Cert.Proof.Ref

open Cert.ReferenceIdeal Cert.ReferenceIdeal.Gen Cert.ReferenceIdeal.Read Idealize.ShloMosaic

variable (A : Args)

/-- The arguments as the program's arrays. -/
abbrev q : S8192x512.Idx → Elt Ideal .bf16 := mat 8192 512 A.q
abbrev k : S8192x512.Idx → Elt Ideal .bf16 := mat 8192 512 A.k
abbrev v : S8192x512.Idx → Elt Ideal .bf16 := mat 8192 512 A.v
abbrev c : S8x8192.Idx → Elt Ideal .f32 := mat 8 8192 A.c
abbrev g : S8192x512.Idx → Elt Ideal .f32 := mat 8192 512 A.g

theorem drop_last (n : Fin 8) (t s : Fin 8192) (i : S8x8192.Idx) (h0 : i 0 = n) (h1 : i 1 = t) :
    reducesTo_S8x8192x8192_S8x8192_d2.drop (ix3 n t s) = i := by
  subst h0 h1
  funext a
  fin_cases a <;> rfl

theorem query (i : S8x8192x64.Idx) :
    val_main_v4 (F := Ideal) (q A) i = ((A.q (i 1).val ((i 0).val * 64 + (i 2).val) * (1 / 8) : ℝ) : EReal) := by
  idx_vars i
  pointwise [val_main_v4, val_main_v3, val_main_v2, val_main_v1, val_main_v0, val_main_cst, mat]
  rw [ofBits_eighth_f32, ← EReal.coe_mul]

theorem key (i : S8x8192x64.Idx) :
    val_main_v7 (F := Ideal) (k A) i = ((A.k (i 1).val ((i 0).val * 64 + (i 2).val) : ℝ) : EReal) := by
  idx_vars i
  pointwise [val_main_v7, val_main_v6, val_main_v5, mat]

theorem value (i : S8x8192x64.Idx) :
    val_main_v10 (F := Ideal) (v A) i = ((A.v (i 1).val ((i 0).val * 64 + (i 2).val) : ℝ) : EReal) := by
  idx_vars i
  pointwise [val_main_v10, val_main_v9, val_main_v8, mat]

theorem grad (i : S8x8192x64.Idx) :
    val_main_v57 (F := Ideal) (g A) i = ((A.g (i 1).val ((i 0).val * 64 + (i 2).val) : ℝ) : EReal) := by
  idx_vars i
  pointwise [val_main_v57, val_main_v56, mat]

theorem logit (i : S8x8192x8192.Idx) :
    val_main_v18 (F := Ideal) (q A) (k A) (c A) i = ((A.lgt (i 0).val (i 1).val (i 2).val : ℝ) : EReal) := by
  idx_vars i
  pointwise [val_main_v18, val_main_v17, val_main_v16, val_main_v15, val_main_v14, val_main_v13, val_main_v12, query, key]
  simp only [mat, Args.lgt, EReal.coe_sub, EReal.coe_add, coe_sum, EReal.coe_mul]
  rfl

theorem causal (i : S8x8192x8192.Idx) : val_main_v24_1 (F := Ideal) i = if (i 2).val ≤ (i 1).val then 1#1 else 0#1 := by
  idx_vars i
  pointwise [val_main_v24_1, val_main_v23, val_main_v22, val_main_v21, val_main_v20, val_main_v19, val_main_v11]
  exact sle_at (by have := i2.isLt; omega) (by have := i1.isLt; omega)

theorem masked (i : S8x8192x8192.Idx) :
    val_main_v24_0 (F := Ideal) (q A) (k A) (c A) i
      = if (i 2).val ≤ (i 1).val then ((A.lgt (i 0).val (i 1).val (i 2).val : ℝ) : EReal) else ⊥ := by
  rw [val_main_v24_0_apply, causal, logit, val_main_call0_v2_apply, val_main_call0_v0_apply, val_main_cst_0_apply]
  show Scalar.select _ _ (Ideal.ofBits .f32 0xFF800000#32) = _
  rw [ofBits_bot_f32]
  by_cases h : (i 2).val ≤ (i 1).val
  · rw [if_pos h, if_pos h]; rfl
  · rw [if_neg h, if_neg h]; rfl

theorem top_real (i : S8x8192.Idx) : ∃ r : ℝ, val_main_v32 (F := Ideal) (q A) (k A) (c A) i = (r : EReal) := by
  obtain ⟨r, h⟩ := reduce_real (val_main_v24_0 (F := Ideal) (q A) (k A) (c A)) (val_main_cst_1 (F := Ideal))
    reducesTo_S8x8192x8192_S8x8192_d2 h_S_ i (fun y => by rw [masked]; split <;> simp)
    (by show Ideal.ofBits .f32 0xFF800000#32 ≠ ⊤; rw [ofBits_bot_f32]; simp) (ix3 (i 0) (i 1) (i 1)) (drop_last (i 0) (i 1) (i 1) i rfl rfl)
    (by rw [masked]; simp [ix3])
  refine ⟨r, ?_⟩
  rw [val_main_v32_apply, val_main_v31_apply, val_main_cst_3_apply]
  show max (Ideal.ofBits .f32 0xFF800000#32) _ = _
  rw [ofBits_bot_f32, max_eq_right bot_le]
  exact h

/-- The real number the reference takes off the logits of a row. -/
def top (n t : ℕ) : ℝ := (val_main_v32 (F := Ideal) (q A) (k A) (c A) (ix2 (Fin.ofNat 8 n) (Fin.ofNat 8192 t))).toReal

theorem top_eq (n : Fin 8) (t : Fin 8192) : val_main_v32 (F := Ideal) (q A) (k A) (c A) (ix2 n t) = ((top A n.val t.val : ℝ) : EReal) := by
  obtain ⟨r, h⟩ := top_real A (ix2 n t)
  simp only [top, Fin.ofNat_val_eq_self, h, EReal.toReal_coe]

/-- A row's weights. -/
abbrev w (n t s : ℕ) : ℝ := A.wgtOff (top A n t) n t s
/-- Their sum. -/
abbrev z (n t : ℕ) : ℝ := A.denOff (top A n t) n t

theorem weight (i : S8x8192x8192.Idx) :
    val_main_v45 (F := Ideal) (q A) (k A) (c A) i = ((w A (i 0).val (i 1).val (i 2).val : ℝ) : EReal) := by
  rw [val_main_v45_apply, val_main_v44_apply, masked]
  idx_vars i
  pointwise [val_main_v43, val_main_v42, top_eq]
  simp only [w, Args.wgtOff]
  by_cases h : i2.val ≤ i1.val
  · rw [if_pos h, if_pos h, ← EReal.coe_sub, Ideal.exp_coe]
  · rw [if_neg h, if_neg h, EReal.bot_sub, Ideal.exp_bot]; rfl

theorem total (i : S8x8192.Idx) : val_main_v46 (F := Ideal) (q A) (k A) (c A) i = ((z A (i 0).val (i 1).val : ℝ) : EReal) := by
  idx_vars i
  pointwise [val_main_v46, val_main_cst_9, weight]
  simp only [w, z, Args.denOff, coe_sum]

theorem total_ne (n : Fin 8) (t : Fin 8192) : z A n.val t.val ≠ 0 := (A.denOff_pos _ _ t.isLt).ne'

theorem prob (i : S8x8192x8192.Idx) :
    val_main_v49 (F := Ideal) (q A) (k A) (c A) i = ((A.prb (i 0).val (i 1).val (i 2).val : ℝ) : EReal) := by
  idx_vars i
  pointwise [val_main_v49, val_main_v48, val_main_v47, total, weight]
  rw [div_real (total_ne A _ _), A.prb_off]

theorem against (i : S8x8192x8192.Idx) :
    val_main_v60 (F := Ideal) (v A) (g A) i = ((A.gv (i 0).val (i 1).val (i 2).val : ℝ) : EReal) := by
  idx_vars i
  pointwise [val_main_v60, grad, value]
  simp only [Args.gv, coe_sum, EReal.coe_mul]

theorem slope (i : S8x8192x8192.Idx) :
    val_main_v72 (F := Ideal) (q A) (k A) (v A) (c A) (g A) i = ((A.ds (i 0).val (i 1).val (i 2).val : ℝ) : EReal) := by
  idx_vars i
  pointwise [val_main_v72, val_main_v71, val_main_v70, val_main_v69, val_main_v68, val_main_v67, val_main_v66, val_main_v65,
    val_main_v64, val_main_v63, val_main_v62, val_main_v61, val_main_v52, val_main_v51, val_main_v50, val_main_v47,
    val_main_cst_10, val_main_cst_11, val_main_cst_12, total, weight, against]
  have hz : z A i0.val i1.val ≠ 0 := total_ne A i0 i1
  rw [show (1 : EReal) = ((1 : ℝ) : EReal) from rfl]
  simp only [← EReal.coe_mul, div_real hz, div_real (mul_ne_zero hz hz), ← coe_sum, ← EReal.coe_neg, ← EReal.coe_add,
    Finset.univ_unique, Finset.sum_singleton]
  rw [← sub_eq_add_neg, A.ds_off _ _ _ i1.isLt]

theorem gated (i : S8x8192x8192.Idx) :
    val_main_v73 (F := Ideal) (q A) (k A) (v A) (c A) (g A) i = ((A.ds (i 0).val (i 1).val (i 2).val : ℝ) : EReal) := by
  rw [val_main_v73_apply, causal, slope]
  idx_vars i
  pointwise [val_main_call1_v0, val_main_call1_cst]
  show Scalar.select (if i2.val ≤ i1.val then 1#1 else 0#1) _ _ = _
  by_cases h : i2.val ≤ i1.val
  · rw [if_pos h]; rfl
  · rw [if_neg h, A.ds_later (Nat.not_le.mp h)]; rfl

theorem result_dq (i : S512x8192.Idx) :
    val_main_v95 (F := Ideal) (q A) (k A) (v A) (c A) (g A) i = ((A.dq (i 1).val (i 0).val : ℝ) : EReal) := by
  idx_vars i
  pointwise [val_main_v95, val_main_v94, val_main_v93, val_main_v92, val_main_v91, val_main_v90, val_main_v89, val_main_v82,
    val_main_cst_17, gated, key]
  rw [ofBits_eighth_f32, Nat.div_add_mod']
  simp only [Args.dq, EReal.coe_mul, coe_sum]

theorem result_dcq (i : S8x8192.Idx) :
    val_main_v80 (F := Ideal) (q A) (k A) (v A) (c A) (g A) i = ((A.dcq (i 0).val (i 1).val : ℝ) : EReal) := by
  idx_vars i
  pointwise [val_main_v80, val_main_v79, val_main_v78, val_main_cst_15, val_main_cst_16, gated]
  simp only [Args.dcq, coe_sum, Finset.univ_unique, Finset.sum_singleton]

theorem result_dk (i : S8192x512.Idx) :
    val_main_v88 (F := Ideal) (q A) (k A) (v A) (c A) (g A) i = ((A.dk (i 0).val (i 1).val : ℝ) : EReal) := by
  idx_vars i
  pointwise [val_main_v88, val_main_v87, val_main_v86, val_main_v81, gated, query]
  rw [Nat.div_add_mod']
  simp only [Args.dk, EReal.coe_mul, coe_sum]

theorem result_dv (i : S8192x512.Idx) :
    val_main_v85 (F := Ideal) (q A) (k A) (c A) (g A) i = ((A.dv (i 0).val (i 1).val : ℝ) : EReal) := by
  idx_vars i
  pointwise [val_main_v85, val_main_v84, val_main_v83, val_main_v59, val_main_v58, prob, grad]
  rw [Nat.div_add_mod']
  simp only [Args.dv, EReal.coe_mul, coe_sum]
  exact Finset.sum_congr rfl fun x _ => mul_comm _ _

theorem result_dck (i : S8192x128.Idx) :
    val_main_v98 (F := Ideal) (q A) (k A) (v A) (c A) (g A) i = ((A.dck (i 0).val (i 1).val : ℝ) : EReal) := by
  idx_vars i
  pointwise [val_main_v98, val_main_v97, val_main_v96, val_main_v77, val_main_v76, val_main_v75, val_main_v74,
    val_main_cst_13, val_main_cst_14, val_main_cst_18, gated]
  simp only [Args.dck, Finset.univ_unique, Finset.sum_singleton, ← EReal.coe_neg, ← coe_sum]
  by_cases h : i1.val < 8
  · rw [dif_pos h, if_pos h, Finset.sum_neg_distrib]
  · rw [dif_neg h, if_neg h]; rfl

end Cert.Proof.Ref

end
-- ==== Proof.Results.lean ====
/-
  The two programs' results on real arguments: the gradients of `Model`, of both.
-/
module

public import proofs.«01_k».proof.Proof.Finite
public import proofs.«01_k».proof.Proof.Launch
public import proofs.«01_k».proof.Proof.Ref
public import proofs.«01_k».proof.Proof.Gen.ReferenceIdeal.Run

@[expose] public section

set_option maxRecDepth 16384
set_option maxHeartbeats 2000000

noncomputable section

namespace Cert.Proof

open Idealize.ShloMosaic Idealize.ShloMosaic.TcCoe Idealize.SL.Sem

section Kernel
open Cert.KernelIdeal Cert.KernelIdeal.Gen

theorem kernel_results (A : Dev nD → Args) (m : (ℓ : Loc nD τ sig) → Buf (Elt Ideal) ℓ) (ρ : Dev nD → PrngReg) (G : ∀ c, Given (A c) m c) :
    θ_run (defs (F := Ideal)) (onTc (τ := τ) (main (F := Ideal))) ⟨m, fun _ => 0, ρ⟩ (fun r => ∀ c : Dev nD,
      r.2.mem ((c.tc : Thread nD τ).loc main_v130_0) = mat 512 8192 (fun l t => (A c).dq t l)
      ∧ r.2.mem ((c.tc : Thread nD τ).loc main_v130_1) = mat 8 8192 (A c).dcq
      ∧ r.2.mem ((c.tc : Thread nD τ).loc main_v130_2) = mat 8192 512 (A c).dk
      ∧ r.2.mem ((c.tc : Thread nD τ).loc main_v130_3) = mat 8192 512 (A c).dv
      ∧ r.2.mem ((c.tc : Thread nD τ).loc main_v130_4) = mat 8192 128 (A c).dck
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 6).trans (array_dq (G c)), ((h.1 c).1 7).trans (array_dcq (G c)),
    ((h.1 c).1 8).trans (array_dk (G c)), ((h.1 c).1 9).trans (array_dv (G c)), ((h.1 c).1 10).trans (array_dck (G c)),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (run_main m ρ)

end Kernel

section Reference
open Cert.ReferenceIdeal Cert.ReferenceIdeal.Gen

theorem reference_results (A : Dev nD → Args) (m : (ℓ : Loc nD τ sig) → Buf (Elt Ideal) ℓ) (ρ : Dev nD → PrngReg)
    (hq : ∀ c : Dev nD, m ((c.tc : Thread nD τ).loc main_arg0) = Ref.q (A c)) (hk : ∀ c : Dev nD, m ((c.tc : Thread nD τ).loc main_arg1) = Ref.k (A c))
    (hv : ∀ c : Dev nD, m ((c.tc : Thread nD τ).loc main_arg2) = Ref.v (A c)) (hc : ∀ c : Dev nD, m ((c.tc : Thread nD τ).loc main_arg3) = Ref.c (A c))
    (hg : ∀ c : Dev nD, m ((c.tc : Thread nD τ).loc main_arg4) = Ref.g (A c)) :
    θ_run (defs (F := Ideal)) (onTc (τ := τ) (main (F := Ideal))) ⟨m, fun _ => 0, ρ⟩ (fun r => ∀ c : Dev nD,
      r.2.mem ((c.tc : Thread nD τ).loc main_v95) = mat 512 8192 (fun l t => (A c).dq t l)
      ∧ r.2.mem ((c.tc : Thread nD τ).loc main_v80) = mat 8 8192 (A c).dcq
      ∧ r.2.mem ((c.tc : Thread nD τ).loc main_v88) = mat 8192 512 (A c).dk
      ∧ r.2.mem ((c.tc : Thread nD τ).loc main_v85) = mat 8192 512 (A c).dv
      ∧ r.2.mem ((c.tc : Thread nD τ).loc main_v98) = mat 8192 128 (A c).dck
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.ReferenceIdeal.Value.run (F := Ideal) m ρ)
  obtain ⟨h0, h1, h2, h3, h4, hargs⟩ := h c
  refine ⟨h0.trans ?_, h1.trans ?_, h2.trans ?_, h3.trans ?_, h4.trans ?_, hargs⟩
  · rw [Read.val_main_v95_eq, hq, hk, hv, hc, hg]
    exact funext (Ref.result_dq (A c))
  · rw [Read.val_main_v80_eq, hq, hk, hv, hc, hg]
    exact funext (Ref.result_dcq (A c))
  · rw [Read.val_main_v88_eq, hq, hk, hv, hc, hg]
    exact funext (Ref.result_dk (A c))
  · rw [Read.val_main_v85_eq, hq, hk, hc, hg]
    exact funext (Ref.result_dv (A c))
  · rw [Read.val_main_v98_eq, hq, hk, hv, hc, hg]
    exact funext (Ref.result_dck (A c))

end Reference

/-- On arguments of real numbers the kernel's results are the reference's. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hfin heq
  have G := given m hfin
  exact ⟨_, _, _, _, _, kernel_results (argsOf m) m ρ G, reference_results (argsOf m) m' ρ'
    (fun c => (heq c).1.trans (G c).hq) (fun c => (heq c).2.1.trans (G c).hk) (fun c => (heq c).2.2.1.trans (G c).hv)
    (fun c => (heq c).2.2.2.1.trans (G c).hc) (fun c => (heq c).2.2.2.2.trans (G c).hg)⟩

end Cert.Proof

end
-- ==== Proof.Slabs.lean ====
/-
  An array of eight slabs, each written once, and columns of a block read apart; sums over the rows as sums over their blocks.
-/
module

public import proofs.«01_k».proof.Proof.Over
public import Idealize.ShloMosaic.Lib.ValueIdx
public import Idealize.ShloMosaic.Lib.Pipeline.ReadBack
public import Mathlib.Algebra.BigOperators.Fin
public import Mathlib.Data.EReal.Operations

@[expose] public section

noncomputable section

namespace Cert.Proof

open Idealize.ShloMosaic Idealize.ShloMosaic.ValueIdx

variable {e : EltTy} {Val : EltTy → Type}

/-- Slab `k` of eight. -/
abbrev slab (p q : ℕ) (k : Fin 8) : Rect ⟨3, ![8, p, q]⟩ :=
  Rect.unit (s := ⟨3, ![8, p, q]⟩) ![k.val, 0, 0] ![1, p, q] fun a => by
    fin_cases a
    · show k.val + 1 ≤ 8; omega
    · exact (Nat.zero_add p).le
    · exact (Nat.zero_add q).le

/-- Columns from `o` on, `w` of them. -/
abbrev cols (n m w o : ℕ) (h : o + w ≤ m) : Rect ⟨2, ![n, m]⟩ :=
  Rect.unit (s := ⟨2, ![n, m]⟩) ![0, o] ![n, w] fun a => by
    fin_cases a
    · exact (Nat.zero_add n).le
    · exact h

theorem slab_emb {p q : ℕ} (k : Fin 8) (a : Fin p) (b : Fin q) : (slab p q k).emb (ix3 0 a b) = ix3 k a b :=
  Rect.emb_eq_of_coords _ _ _ fun x => by
    fin_cases x
    · show k.val = k.val + 1 * 0; omega
    · show a.val = 0 + 1 * a.val; omega
    · show b.val = 0 + 1 * b.val; omega

theorem over_slab_hit {p q : ℕ} (k : Fin 8) (w : (⟨3, ![1, p, q]⟩ : Shape).Idx → Val e) (x : (⟨3, ![8, p, q]⟩ : Shape).Idx → Val e)
    (a : Fin p) (b : Fin q) : over (slab p q k) w x (ix3 k a b) = w (ix3 0 a b) := by
  have := over_hit (slab p q k) w x (ix3 0 a b)
  rwa [slab_emb] at this

theorem over_slab_miss {p q : ℕ} {k k' : Fin 8} (h : k' ≠ k) (w : (⟨3, ![1, p, q]⟩ : Shape).Idx → Val e)
    (x : (⟨3, ![8, p, q]⟩ : Shape).Idx → Val e) (a : Fin p) (b : Fin q) : over (slab p q k) w x (ix3 k' a b) = x (ix3 k' a b) := by
  refine over_miss _ w x _ ((slab p q k).not_mem_set_of_axis _ 0 k.val 1 rfl rfl rfl ?_)
  have : k'.val ≠ k.val := fun hh => h (Fin.ext hh)
  show k'.val < k.val ∨ k.val + 1 ≤ k'.val
  omega

theorem over_slab {p q : ℕ} (k k' : Fin 8) (w : (⟨3, ![1, p, q]⟩ : Shape).Idx → Val e) (x : (⟨3, ![8, p, q]⟩ : Shape).Idx → Val e)
    (a : Fin p) (b : Fin q) : over (slab p q k) w x (ix3 k' a b) = if k' = k then w (ix3 0 a b) else x (ix3 k' a b) := by
  split
  · next h => subst h; exact over_slab_hit _ _ _ _ _
  · next h => exact over_slab_miss h _ _ _ _

theorem cut_slab {p q : ℕ} (k : Fin 8) (x : (⟨3, ![8, p, q]⟩ : Shape).Idx → Val e) (a : Fin p) (b : Fin q) :
    cut (slab p q k) x (ix3 0 a b) = x (ix3 k a b) := congrArg x (slab_emb k a b)

theorem cut_cols {n m w o : ℕ} (h : o + w ≤ m) (x : (⟨2, ![n, m]⟩ : Shape).Idx → Val e) (a : Fin n) (b : Fin w) :
    cut (cols n m w o h) x (ix2 a b) = x (ix2 a ⟨o + b.val, by omega⟩) :=
  congrArg x (Rect.emb_eq_of_coords (cols n m w o h) _ _ fun y => by
    fin_cases y
    · show a.val = 0 + 1 * a.val; omega
    · show o + b.val = o + 1 * b.val; omega)

/-- All of a matrix. -/
theorem cut_mat {n m : ℕ} {h} (x : (⟨2, ![n, m]⟩ : Shape).Idx → Val e) :
    cut (Rect.unit (s := ⟨2, ![n, m]⟩) ![0, 0] ![n, m] h) x = x := by
  funext i
  refine congrArg x (Rect.emb_eq_of_coords (Rect.unit (s := ⟨2, ![n, m]⟩) ![0, 0] ![n, m] h) _ _ fun y => ?_)
  fin_cases y
  · show (i 0).val = 0 + 1 * (i 0).val; omega
  · show (i 1).val = 0 + 1 * (i 1).val; omega

/-- A view whose eight slabs were written, each once, reads each slab's payload. -/
theorem read_slabs {sig : RefSig} {κ : Kind} {sp : Space} {p q : ℕ} (v : View sig κ sp ⟨3, ![8, p, q]⟩ e) (f : v.ty.Contents Val)
    {h0 h1 h2 h3 h4 h5 h6 h7} (w0 w1 w2 w3 w4 w5 w6 w7 : (⟨3, ![1, p, q]⟩ : Shape).Idx → Val e)
    (L : List (View.Piece Val ⟨3, ![8, p, q]⟩ e)) (T : Fin 8 → (⟨3, ![1, p, q]⟩ : Shape).Idx → Val e)
    (hT : ∀ k, ![w0, w1, w2, w3, w4, w5, w6, w7] k = T k) (i : (⟨3, ![8, p, q]⟩ : Shape).Idx) :
    v.read Val (v.writes Val f (⟨Rect.unit ![7, 0, 0] ![1, p, q] h7, w7⟩ :: ⟨Rect.unit ![6, 0, 0] ![1, p, q] h6, w6⟩ ::
      ⟨Rect.unit ![5, 0, 0] ![1, p, q] h5, w5⟩ :: ⟨Rect.unit ![4, 0, 0] ![1, p, q] h4, w4⟩ ::
      ⟨Rect.unit ![3, 0, 0] ![1, p, q] h3, w3⟩ :: ⟨Rect.unit ![2, 0, 0] ![1, p, q] h2, w2⟩ ::
      ⟨Rect.unit ![1, 0, 0] ![1, p, q] h1, w1⟩ :: ⟨Rect.unit ![0, 0, 0] ![1, p, q] h0, w0⟩ :: L)) i
      = T (i 0) (ix3 0 (i 1) (i 2)) := by
  refine Eq.trans ?_ (congrFun (hT (i 0)) _)
  rw [read_writes_over, read_writes_over, read_writes_over, read_writes_over, read_writes_over, read_writes_over, read_writes_over,
    read_writes_over]
  generalize v.read Val (v.writes Val f L) = x
  rw [eq_ix3 i]
  generalize i 0 = k, i 1 = a, i 2 = b
  change Fin 8 at k
  change Fin p at a
  change Fin q at b
  refine (over_slab 7 k w7 _ a b).trans ?_; split; · next h => rw [h]; rfl
  refine (over_slab 6 k w6 _ a b).trans ?_; split; · next h => rw [h]; rfl
  refine (over_slab 5 k w5 _ a b).trans ?_; split; · next h => rw [h]; rfl
  refine (over_slab 4 k w4 _ a b).trans ?_; split; · next h => rw [h]; rfl
  refine (over_slab 3 k w3 _ a b).trans ?_; split; · next h => rw [h]; rfl
  refine (over_slab 2 k w2 _ a b).trans ?_; split; · next h => rw [h]; rfl
  refine (over_slab 1 k w1 _ a b).trans ?_; split; · next h => rw [h]; rfl
  refine (over_slab 0 k w0 _ a b).trans ?_; split; · next h => rw [h]; rfl
  exfalso
  omega

/-- A slab not stored yet, of an array filled with `Z`, is read as `Z`'s. -/
theorem fill {sig : RefSig} {κ : Kind} {sp : Space} {p q : ℕ} [∀ e, Nonempty (Val e)] (v : View sig κ sp ⟨3, ![8, p, q]⟩ e) (k : Fin 8) (L)
    (Z : (⟨3, ![8, p, q]⟩ : Shape).Idx → Val e) {h} (hL : L = [⟨Rect.unit (s := ⟨3, ![8, p, q]⟩) ![0, 0, 0] ![8, p, q] h, Z⟩]) :
    v.readCov L (slab p q k).toLoadRect = cut (slab p q k) Z := by
  subst hL
  exact View.readCov_fill v h Z [] _ fun a => by fin_cases a <;> rfl

/-- Row `r` of block `t` of eight. -/
theorem sum_rows (f : ℕ → EReal) : (∑ t ∈ Finset.range 8, ∑ r : Fin 1024, f (1024 * t + r.val)) = ∑ s : Fin 8192, f s.val := by
  simp only [Fin.sum_univ_eq_sum_range (fun r => f (1024 * _ + r)), Fin.sum_univ_eq_sum_range f]
  have h : ∀ n, (∑ t ∈ Finset.range n, ∑ r ∈ Finset.range 1024, f (1024 * t + r)) = ∑ s ∈ Finset.range (1024 * n), f s := by
    intro n
    induction n with
    | zero => simp
    | succ n ih => rw [Finset.sum_range_succ, ih, Nat.mul_succ, Finset.sum_range_add]
  exact h 8

/-- An array's entry by two numbers. -/
def num {n m : ℕ} [NeZero n] [NeZero m] (x : (⟨2, ![n, m]⟩ : Shape).Idx → EReal) (a b : ℕ) : EReal := x (ix2 (Fin.ofNat n a) (Fin.ofNat m b))

theorem num_eq {n m : ℕ} [NeZero n] [NeZero m] (x : (⟨2, ![n, m]⟩ : Shape).Idx → EReal) (i : (⟨2, ![n, m]⟩ : Shape).Idx) :
    x i = num x (i 0).val (i 1).val := by
  refine congrArg x ?_
  funext a
  fin_cases a
  · exact (Fin.ofNat_val_eq_self (show Fin n from i 0)).symm
  · exact (Fin.ofNat_val_eq_self (show Fin m from i 1)).symm

end Cert.Proof

end
-- ==== Proof.Weight1.lean ====
/-
  The gradient of the first feed-forward matrix: what the kernel leaves after each block of rows, and at the end.
-/
module

public import proofs.«01_k».proof.Proof.Slabs
public import proofs.«01_k».proof.Proof.Gen.Kernel3Ideal.Value
public import Idealize.ShloMosaic.Lib.Pointwise
public import Idealize.ShloMosaic.Lib.IdealHost
public import Idealize.ShloMosaic.Lib.Pipeline.ValueKit

@[expose] public section

noncomputable section

namespace Cert.Proof.W1

open Cert.Kernel3Ideal Cert.Kernel3Ideal.Gen Idealize.ShloMosaic Idealize.ShloMosaic.Pipeline Idealize.ShloMosaic.TcCoe

/-- What a point stores in slab `k`. -/
abbrev term (x0 : Vec Ideal S1024x1024 .bf16) (x1 : Vec Ideal S1024x4096 .bf16) (acc : Vec Ideal S8x1024x512 .f32) (k : Fin 8) :
    Vec Ideal S1x1024x512 .f32 :=
  k0_pay5 (F := Ideal) x0 (cut (slab 1024 512 k) acc) (cut (cols 1024 4096 512 (512 * k.val) (by omega)) x1)

theorem out_B (c : Dev nD) (i : grid0.Coords) (arg1 : Memref sig .tc .vmem S1024x1024 .bf16) (harg1 : arg1.IsWhole)
    (arg2 : Memref sig .tc .vmem S1024x4096 .bf16) (harg2 : arg2.IsWhole) (arg3 : Memref sig .tc .vmem S8x1024x512 .f32)
    (harg3 : arg3.IsWhole) (hc0 : ¬cond0_0 i) (x0 : Vec Ideal S1024x1024 .bf16) (x1 : Vec Ideal S1024x4096 .bf16)
    (acc : Vec Ideal S8x1024x512 .f32) (j : S8x1024x512.Idx) :
    out0_B_2 c i arg1 harg1 arg2 harg2 arg3 harg3 hc0 x0 x1 acc j = term x0 x1 acc (j 0) (ValueIdx.ix3 0 (j 1) (j 2)) := by
  unfold out0_B_2 kernelRun0_B
  dsimp only [kernelRun0_B.sl.r, kernelRun0_B.sl.r_1, kernelRun0_B.sl.v61, kernelRun0_B.sl.v53, kernelRun0_B.sl.v45, kernelRun0_B.sl.v37,
    kernelRun0_B.sl.v29, kernelRun0_B.sl.v21, kernelRun0_B.sl.v13]
  simp only [readAt_cut, harg1.read_unread, harg2.read_unread, harg3.read_unread, cut_mat]
  refine read_slabs VO0_2 _ _ _ _ _ _ _ _ _ _ _ (fun k => ?_) j
  fin_cases k <;> rfl

section First

variable (c : Dev nD) (arg1 : Memref sig .tc .vmem S1024x1024 .bf16) (harg1 : arg1.IsWhole) (arg2 : Memref sig .tc .vmem S1024x4096 .bf16)
  (harg2 : arg2.IsWhole) (arg3 : Memref sig .tc .vmem S8x1024x512 .f32) (x0 : Vec Ideal S1024x1024 .bf16) (x1 : Vec Ideal S1024x4096 .bf16)

theorem v5 : kernelRun0_A.sl.v5 (F := Ideal) c arg3 = cut (slab 1024 512 0) (k0_pay3 (F := Ideal)) := fill arg3.view 0 _ _ rfl

theorem v13 : kernelRun0_A.sl.v13 (F := Ideal) c arg1 harg1 arg2 harg2 arg3 x0 x1 = cut (slab 1024 512 1) (k0_pay3 (F := Ideal)) :=
  (View.readCov_skip _ _ _ _ _ rfl).trans (fill arg3.view 1 _ _ rfl)

theorem v21 : kernelRun0_A.sl.v21 (F := Ideal) c arg1 harg1 arg2 harg2 arg3 x0 x1 = cut (slab 1024 512 2) (k0_pay3 (F := Ideal)) :=
  (View.readCov_skip _ _ _ _ _ rfl).trans <| (View.readCov_skip _ _ _ _ _ rfl).trans (fill arg3.view 2 _ _ rfl)

theorem v29 : kernelRun0_A.sl.v29 (F := Ideal) c arg1 harg1 arg2 harg2 arg3 x0 x1 = cut (slab 1024 512 3) (k0_pay3 (F := Ideal)) :=
  (View.readCov_skip _ _ _ _ _ rfl).trans <| (View.readCov_skip _ _ _ _ _ rfl).trans <| (View.readCov_skip _ _ _ _ _ rfl).trans (fill arg3.view 3 _ _ rfl)

theorem v37 : kernelRun0_A.sl.v37 (F := Ideal) c arg1 harg1 arg2 harg2 arg3 x0 x1 = cut (slab 1024 512 4) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans (fill arg3.view 4 _ _ rfl)

theorem v45 : kernelRun0_A.sl.v45 (F := Ideal) c arg1 harg1 arg2 harg2 arg3 x0 x1 = cut (slab 1024 512 5) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans <| (View.readCov_skip _ _ _ _ _ rfl).trans (fill arg3.view 5 _ _ rfl)

theorem v53 : kernelRun0_A.sl.v53 (F := Ideal) c arg1 harg1 arg2 harg2 arg3 x0 x1 = cut (slab 1024 512 6) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans <| (View.readCov_skip _ _ _ _ _ rfl).trans <| (View.readCov_skip _ _ _ _ _ rfl).trans (fill arg3.view 6 _ _ rfl)

theorem v61 : kernelRun0_A.sl.v61 (F := Ideal) c arg1 harg1 arg2 harg2 arg3 x0 x1 = cut (slab 1024 512 7) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans <| (View.readCov_skip _ _ _ _ _ rfl).trans <| (View.readCov_skip _ _ _ _ _ rfl).trans <|
    (View.readCov_skip _ _ _ _ _ rfl).trans (fill arg3.view 7 _ _ rfl)

end First

theorem out_A (c : Dev nD) (i : grid0.Coords) (arg1 : Memref sig .tc .vmem S1024x1024 .bf16) (harg1 : arg1.IsWhole)
    (arg2 : Memref sig .tc .vmem S1024x4096 .bf16) (harg2 : arg2.IsWhole) (arg3 : Memref sig .tc .vmem S8x1024x512 .f32)
    (harg3 : arg3.IsWhole) (hc0 : cond0_0 i) (x0 : Vec Ideal S1024x1024 .bf16) (x1 : Vec Ideal S1024x4096 .bf16) (j : S8x1024x512.Idx) :
    out0_A_2 c i arg1 harg1 arg2 harg2 arg3 harg3 hc0 x0 x1 j = term x0 x1 (k0_pay3 (F := Ideal)) (j 0) (ValueIdx.ix3 0 (j 1) (j 2)) := by
  unfold out0_A_2 kernelRun0_A
  dsimp only [kernelRun0_A.sl.H2_8, kernelRun0_A.sl.H2_7, kernelRun0_A.sl.H2_6, kernelRun0_A.sl.H2_5, kernelRun0_A.sl.H2_4,
    kernelRun0_A.sl.H2_3, kernelRun0_A.sl.H2_2, kernelRun0_A.sl.H2_1, kernelRun0_A.sl.r, kernelRun0_A.sl.r_1]
  simp only [v5, v13, v21, v29, v37, v45, v53, v61]
  simp only [readAt_cut, harg1.read_unread, harg2.read_unread, harg3.read_unread, cut_mat]
  refine read_slabs VO0_2 _ _ _ _ _ _ _ _ _ _ _ (fun k => ?_) j
  fin_cases k <;> rfl

theorem term_at (x0 : Vec Ideal S1024x1024 .bf16) (x1 : Vec Ideal S1024x4096 .bf16) (acc : Vec Ideal S8x1024x512 .f32) (k : Fin 8)
    (a : Fin 1024) (b : Fin 512) : term x0 x1 acc k (ValueIdx.ix3 0 a b) = acc (ValueIdx.ix3 k a b) +
      ∑ r : Fin 1024, x0 (ValueIdx.ix2 r a) * x1 (ValueIdx.ix2 r ⟨512 * k.val + b.val, by omega⟩) := by
  unfold term
  rw [← cut_slab k acc a b]
  simp only [← cut_cols (n := 1024) (m := 4096) (w := 512) (o := 512 * k.val) (by omega) x1]
  generalize cut (slab 1024 512 k) acc = u
  generalize cut (cols 1024 4096 512 (512 * k.val) (by omega)) x1 = v
  pointwise [k0_pay5, k0_pay4]
  rfl

theorem zero_at (i : S8x1024x512.Idx) : k0_pay3 (F := Ideal) i = 0 := by
  pointwise [k0_pay3]

variable (m : (ℓ : Loc nD τ sig) → Buf (Elt Ideal) ℓ) (c : Dev nD)

/-- The operands, by row and column. -/
def lhs (s a : ℕ) : EReal := num (n := 8192) (m := 1024) (m (c.tc.loc main_arg0)) s a
def rhs (s b : ℕ) : EReal := num (n := 8192) (m := 4096) (m (c.tc.loc main_arg1)) s b

theorem places : ∀ t : Fin grid0.N, win0_0.index t = ![t.val, 0] ∧ win0_1.index t = ![t.val, 0] := by decide +kernel

theorem lhs_block (t : Fin cfg0.N) (i : S1024x1024.Idx) : iblk m c 0 t i = lhs m c (1024 * t.val + (i 0).val) (i 1).val := by
  obtain ⟨e, -⟩ := places t
  show V m c main_arg0 (((cfg0.win 0).blk t).view.emb i) = _
  rw [V_main_arg0]
  refine (num_eq (n := 8192) (m := 1024) _ _).trans ?_
  unfold lhs
  blk_simp [e]
  rw [Nat.mul_comm]

theorem rhs_block (t : Fin cfg0.N) (i : S1024x4096.Idx) : iblk m c 1 t i = rhs m c (1024 * t.val + (i 0).val) (i 1).val := by
  obtain ⟨-, e⟩ := places t
  show V m c main_arg1 (((cfg0.win 1).blk t).view.emb i) = _
  rw [V_main_arg1]
  refine (num_eq (n := 8192) (m := 4096) _ _).trans ?_
  unfold rhs
  blk_simp [e]
  rw [Nat.mul_comm]

/-- What block `t` of the rows adds. -/
def part (k a b t : ℕ) : EReal := ∑ r : Fin 1024, lhs m c (1024 * t + r.val) a * rhs m c (1024 * t + r.val) (512 * k + b)

theorem after (n : ℕ) : ∀ (hn : n < cfg0.N) (k : Fin 8) (a : Fin 1024) (b : Fin 512),
    outsAt0 m c n hn (ValueIdx.ix3 k a b) = ∑ t ∈ Finset.range (n + 1), part m c k.val a.val b.val t := by
  induction n with
  | zero =>
    intro hn k a b
    rw [outsAt0_A m c ⟨0, hn⟩ rfl, out_A]
    refine (term_at _ _ _ k a b).trans ?_
    simp only [zero_at, zero_add, lhs_block, rhs_block, Finset.sum_range_one]
    rfl
  | succ n ih =>
    intro hn k a b
    have h8 : n + 1 < 8 := hn
    rw [outsAt0_B m c ⟨n + 1, hn⟩ (by show ¬(n + 1) % 8 = 0; omega), out_B]
    refine (term_at _ _ _ k a b).trans ?_
    rw [Finset.sum_range_succ]
    refine congrArg₂ (· + ·) (ih _ k a b) ?_
    simp only [lhs_block, rhs_block]
    rfl

/-- The whole product. -/
def total (i : S8x1024x512.Idx) : EReal :=
  ∑ s : Fin 8192, lhs m c s.val (i 1).val * rhs m c s.val (512 * (i 0).val + (i 2).val)

theorem array : (dats m 0 c).arrAt 2 cfg0.N = total m c := by
  refine (dats m 0 c).arrAt_eq_of_after_last 2 (t₀ := (⟨7, by decide⟩ : Fin grid0.N)) (by decide +kernel) _ fun j => ?_
  refine (congrFun (Cert.Kernel3Ideal.Gen.after0_2 m c _) j).trans ?_
  obtain ⟨k, a, b, rfl⟩ : ∃ (k : Fin 8) (a : Fin 1024) (b : Fin 512), j = ValueIdx.ix3 k a b := ⟨j 0, j 1, j 2, ValueIdx.eq_ix3 j⟩
  refine (after m c 7 _ k a b).trans ?_
  exact sum_rows fun s => lhs m c s a.val * rhs m c s (512 * k.val + b.val)

end Cert.Proof.W1

end
-- ==== Proof.WeightRef1.lean ====
/-
  The gradient of the first feed-forward matrix: the reference's product, and that the kernel ends with the same.
-/
module

public import proofs.«01_k».proof.Defs
public import Idealize.ShloMosaic.Lib.Quiescent
public import Idealize.ShloMosaic.Adequacy
public import Idealize.ShloMosaic.Init
public import proofs.«01_k».proof.Proof.Weight1
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Proof.W1

open Idealize.ShloMosaic Idealize.ShloMosaic.TcCoe Idealize.SL.Sem

theorem ref_at (x0 : (⟨2, ![8192, 1024]⟩ : Shape).Idx → EReal) (x1 : (⟨2, ![8192, 4096]⟩ : Shape).Idx → EReal)
    (i : (⟨3, ![8, 1024, 512]⟩ : Shape).Idx) : Cert.Reference3Ideal.Read.val_main_v7 (F := Ideal) x0 x1 i
      = ∑ s : Fin 8192, num x0 s.val (i 1).val * num x1 s.val (512 * (i 0).val + (i 2).val) := by
  have h0 : (i 0).val < 8 := (i 0).isLt
  have h2 : (i 2).val < 512 := (i 2).isLt
  rw [Cert.Reference3Ideal.Read.val_main_v7_apply, Cert.Reference3Ideal.Read.val_main_v6_apply, Cert.Reference3Ideal.Read.val_main_v5_apply,
    Cert.Reference3Ideal.Read.val_main_v4_apply]
  refine Finset.sum_congr rfl fun s _ => ?_
  refine (mul_comm _ _).trans (congrArg₂ (· * ·) ((num_eq x0 _).trans ?_) ((num_eq x1 _).trans ?_))
  · refine congrArg (num x0 s.val) ?_
    show (((i 1).val * 8 + (i 0).val) * 512 + (i 2).val) / 4096 = (i 1).val
    omega
  · refine congrArg (num x1 s.val) ?_
    show (((i 1).val * 8 + (i 0).val) * 512 + (i 2).val) % 4096 = 512 * (i 0).val + (i 2).val
    omega

theorem same_results : Cert.algebraic_Kernel3Ideal_Reference3Ideal (hKernel3Ideal := Cert.Kernel3Ideal.Gen.facts)
    (hReference3Ideal := Cert.Reference3Ideal.Gen.facts) := fun m ρ m' ρ' _ hm => by
  refine ⟨fun c => total m c, ?_, ?_⟩
  · refine (θ_run _ _ _).mono (fun r h c => ?_) (Cert.Kernel3Ideal.Value.run_blocks (F := Ideal) m ρ)
    obtain ⟨h0, h1, h2⟩ := h c
    exact ⟨h0.trans (array m c), h1, h2⟩
  · refine (θ_run _ _ _).mono (fun r h c => ?_) (Cert.Reference3Ideal.Value.run (F := Ideal) m' ρ')
    obtain ⟨h0, h1, h2⟩ := h c
    refine ⟨h0.trans ?_, h1, h2⟩
    rw [(hm c).1, (hm c).2]
    funext i
    exact ref_at _ _ i

theorem frame_reference : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run (F := Ideal) m ρ)

end Cert.Proof.W1

end
-- ==== Proof.Weight2.lean ====
/-
  The gradient of the second feed-forward matrix: what the kernel leaves after each block of rows, and at the end.
-/
module

public import proofs.«01_k».proof.Proof.Slabs
public import proofs.«01_k».proof.Proof.Gen.Kernel4Ideal.Value
public import Idealize.ShloMosaic.Lib.Pointwise
public import Idealize.ShloMosaic.Lib.IdealHost
public import Idealize.ShloMosaic.Lib.Pipeline.ValueKit

@[expose] public section

noncomputable section

namespace Cert.Proof.W2

open Cert.Kernel4Ideal Cert.Kernel4Ideal.Gen Idealize.ShloMosaic Idealize.ShloMosaic.Pipeline Idealize.ShloMosaic.TcCoe

theorem band (k : Fin 8) : S4096x1024.Slices ![512 * k.val, 0] S512x1024 := by fin_cases k <;> decide

/-- What a point stores in slab `k`. -/
def term (x0 : Vec Ideal S1024x4096 .bf16) (x1 : Vec Ideal S1024x1024 .bf16) (acc : Vec Ideal S8x512x1024 .f32) (k : Fin 8) :
    Vec Ideal S1x512x1024 .f32 :=
  shapeCast S1x512x1024 (addf (F := Ideal) (shapeCast S512x1024 (cut (slab 512 1024 k) acc) shapeCasts_S1x512x1024_S512x1024)
    (matmul (φ₂ := .bf16) dot_S512x1024_S1024x1024_S512x1024_1_0_0_1_n_n none
      (extractStridedSlice S512x1024 ![512 * k.val, 0] (k0_pay4 (F := Ideal) x0) (band k)) x1
      (constant S512x1024 .f32 0x00000000#32))) shapeCasts_S512x1024_S1x512x1024

theorem out_B (c : Dev nD) (i : grid0.Coords) (arg1 : Memref sig .tc .vmem S1024x4096 .bf16) (harg1 : arg1.IsWhole)
    (arg2 : Memref sig .tc .vmem S1024x1024 .bf16) (harg2 : arg2.IsWhole) (arg3 : Memref sig .tc .vmem S8x512x1024 .f32)
    (harg3 : arg3.IsWhole) (hc0 : ¬cond0_0 i) (x0 : Vec Ideal S1024x4096 .bf16) (x1 : Vec Ideal S1024x1024 .bf16)
    (acc : Vec Ideal S8x512x1024 .f32) (j : S8x512x1024.Idx) :
    out0_B_2 c i arg1 harg1 arg2 harg2 arg3 harg3 hc0 x0 x1 acc j = term x0 x1 acc (j 0) (ValueIdx.ix3 0 (j 1) (j 2)) := by
  unfold out0_B_2 kernelRun0_B
  dsimp only [kernelRun0_B.sl.r, kernelRun0_B.sl.r_1, kernelRun0_B.sl.r_2, kernelRun0_B.sl.r_3, kernelRun0_B.sl.v67, kernelRun0_B.sl.v, kernelRun0_B.sl.v51, kernelRun0_B.sl.v43,
    kernelRun0_B.sl.v35, kernelRun0_B.sl.v27, kernelRun0_B.sl.v19]
  simp only [readAt_cut, harg1.read_unread, harg2.read_unread, harg3.read_unread, cut_mat]
  refine read_slabs VO0_2 _ _ _ _ _ _ _ _ _ _ _ (fun k => ?_) j
  fin_cases k <;> rfl

section First

variable (c : Dev nD) (arg1 : Memref sig .tc .vmem S1024x4096 .bf16) (harg1 : arg1.IsWhole) (arg2 : Memref sig .tc .vmem S1024x1024 .bf16)
  (harg2 : arg2.IsWhole) (arg3 : Memref sig .tc .vmem S8x512x1024 .f32) (x0 : Vec Ideal S1024x4096 .bf16) (x1 : Vec Ideal S1024x1024 .bf16)

theorem v11 : kernelRun0_A.sl.v11 (F := Ideal) c arg3 = cut (slab 512 1024 0) (k0_pay3 (F := Ideal)) := fill arg3.view 0 _ _ rfl

theorem v19 : kernelRun0_A.sl.v19 (F := Ideal) c arg1 harg1 arg2 harg2 arg3 x0 x1 = cut (slab 512 1024 1) (k0_pay3 (F := Ideal)) :=
  (View.readCov_skip _ _ _ _ _ rfl).trans (fill arg3.view 1 _ _ rfl)

theorem v27 : kernelRun0_A.sl.v27 (F := Ideal) c arg1 harg1 arg2 harg2 arg3 x0 x1 = cut (slab 512 1024 2) (k0_pay3 (F := Ideal)) :=
  (View.readCov_skip _ _ _ _ _ rfl).trans <| (View.readCov_skip _ _ _ _ _ rfl).trans (fill arg3.view 2 _ _ rfl)

theorem v35 : kernelRun0_A.sl.v35 (F := Ideal) c arg1 harg1 arg2 harg2 arg3 x0 x1 = cut (slab 512 1024 3) (k0_pay3 (F := Ideal)) :=
  (View.readCov_skip _ _ _ _ _ rfl).trans <| (View.readCov_skip _ _ _ _ _ rfl).trans <| (View.readCov_skip _ _ _ _ _ rfl).trans (fill arg3.view 3 _ _ rfl)

theorem v43 : kernelRun0_A.sl.v43 (F := Ideal) c arg1 harg1 arg2 harg2 arg3 x0 x1 = cut (slab 512 1024 4) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans (fill arg3.view 4 _ _ rfl)

theorem v51 : kernelRun0_A.sl.v51 (F := Ideal) c arg1 harg1 arg2 harg2 arg3 x0 x1 = cut (slab 512 1024 5) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans <| (View.readCov_skip _ _ _ _ _ rfl).trans (fill arg3.view 5 _ _ rfl)

theorem v59 : kernelRun0_A.sl.v (F := Ideal) c arg1 harg1 arg2 harg2 arg3 x0 x1 = cut (slab 512 1024 6) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans <| (View.readCov_skip _ _ _ _ _ rfl).trans <| (View.readCov_skip _ _ _ _ _ rfl).trans (fill arg3.view 6 _ _ rfl)

theorem v67 : kernelRun0_A.sl.v67 (F := Ideal) c arg1 harg1 arg2 harg2 arg3 x0 x1 = cut (slab 512 1024 7) (k0_pay3 (F := Ideal)) :=
  (View.readCov_skip _ _ _ _ _ rfl).trans <| (View.readCov_skip _ _ _ _ _ rfl).trans <| (View.readCov_skip _ _ _ _ _ rfl).trans <|
    (View.readCov_skip _ _ _ _ _ rfl).trans <| (View.readCov_skip _ _ _ _ _ rfl).trans <| (View.readCov_skip _ _ _ _ _ rfl).trans <|
    (View.readCov_skip _ _ _ _ _ rfl).trans (fill arg3.view 7 _ _ rfl)

end First

theorem out_A (c : Dev nD) (i : grid0.Coords) (arg1 : Memref sig .tc .vmem S1024x4096 .bf16) (harg1 : arg1.IsWhole)
    (arg2 : Memref sig .tc .vmem S1024x1024 .bf16) (harg2 : arg2.IsWhole) (arg3 : Memref sig .tc .vmem S8x512x1024 .f32)
    (harg3 : arg3.IsWhole) (hc0 : cond0_0 i) (x0 : Vec Ideal S1024x4096 .bf16) (x1 : Vec Ideal S1024x1024 .bf16) (j : S8x512x1024.Idx) :
    out0_A_2 c i arg1 harg1 arg2 harg2 arg3 harg3 hc0 x0 x1 j = term x0 x1 (k0_pay3 (F := Ideal)) (j 0) (ValueIdx.ix3 0 (j 1) (j 2)) := by
  unfold out0_A_2 kernelRun0_A
  dsimp only [kernelRun0_A.sl.H2_8, kernelRun0_A.sl.H2_7, kernelRun0_A.sl.H2_6, kernelRun0_A.sl.H2_5, kernelRun0_A.sl.H2_4,
    kernelRun0_A.sl.H2_3, kernelRun0_A.sl.H2_2, kernelRun0_A.sl.H2_1, kernelRun0_A.sl.r, kernelRun0_A.sl.r_1, kernelRun0_A.sl.r_2, kernelRun0_A.sl.r_3]
  simp only [v11, v19, v27, v35, v43, v51, v59, v67]
  simp only [readAt_cut, harg1.read_unread, harg2.read_unread, harg3.read_unread, cut_mat]
  refine read_slabs VO0_2 _ _ _ _ _ _ _ _ _ _ _ (fun k => ?_) j
  fin_cases k <;> rfl

/-- The squared rectifier. -/
def sq (x : EReal) : EReal := max x 0 * max x 0

theorem pay4_at (x0 : Vec Ideal S1024x4096 .bf16) (a : Fin 4096) (r : Fin 1024) :
    k0_pay4 (F := Ideal) x0 (ValueIdx.ix2 a r) = sq (x0 (ValueIdx.ix2 r a)) := by
  unfold sq
  pointwise [k0_pay4]
  rfl

theorem slice_at (w : FVec Ideal S4096x1024 .bf16) (k : Fin 8) (a : Fin 512) (r : Fin 1024) :
    extractStridedSlice S512x1024 ![512 * k.val, 0] w (band k) (ValueIdx.ix2 a r) = w (ValueIdx.ix2 ⟨512 * k.val + a.val, by omega⟩ r) := by
  unfold extractStridedSlice
  refine congrArg w ?_
  funext d
  fin_cases d
  · rfl
  · exact Fin.ext (Nat.zero_add _)

theorem prod_at (w : FVec Ideal S512x1024 .bf16) (x1 : FVec Ideal S1024x1024 .bf16) (u : Vec Ideal S1x512x1024 .f32)
    (a : Fin 512) (b : Fin 1024) :
    shapeCast S1x512x1024 (addf (F := Ideal) (shapeCast S512x1024 u shapeCasts_S1x512x1024_S512x1024)
      (matmul dot_S512x1024_S1024x1024_S512x1024_1_0_0_1_n_n none w x1 (constant S512x1024 .f32 0x00000000#32)))
      shapeCasts_S512x1024_S1x512x1024 (ValueIdx.ix3 0 a b)
      = u (ValueIdx.ix3 0 a b) + ∑ r : Fin 1024, w (ValueIdx.ix2 a r) * x1 (ValueIdx.ix2 r b) := by
  pointwise
  rfl

theorem term_at (x0 : Vec Ideal S1024x4096 .bf16) (x1 : Vec Ideal S1024x1024 .bf16) (acc : Vec Ideal S8x512x1024 .f32) (k : Fin 8)
    (a : Fin 512) (b : Fin 1024) : term x0 x1 acc k (ValueIdx.ix3 0 a b) = acc (ValueIdx.ix3 k a b) +
      ∑ r : Fin 1024, sq (x0 (ValueIdx.ix2 r ⟨512 * k.val + a.val, by omega⟩)) * x1 (ValueIdx.ix2 r b) := by
  refine (prod_at _ x1 _ a b).trans (congrArg₂ (· + ·) (cut_slab k acc a b) (Finset.sum_congr rfl fun r _ => ?_))
  rw [slice_at, pay4_at]

theorem zero_at (i : S8x512x1024.Idx) : k0_pay3 (F := Ideal) i = 0 := by
  pointwise [k0_pay3]

variable (m : (ℓ : Loc nD τ sig) → Buf (Elt Ideal) ℓ) (c : Dev nD)

/-- The operands, by row and column. -/
def lhs (s a : ℕ) : EReal := num (n := 8192) (m := 4096) (m (c.tc.loc main_arg0)) s a
def rhs (s b : ℕ) : EReal := num (n := 8192) (m := 1024) (m (c.tc.loc main_arg1)) s b

theorem places : ∀ t : Fin grid0.N, win0_0.index t = ![t.val, 0] ∧ win0_1.index t = ![t.val, 0] := by decide +kernel

theorem lhs_block (t : Fin cfg0.N) (i : S1024x4096.Idx) : iblk m c 0 t i = lhs m c (1024 * t.val + (i 0).val) (i 1).val := by
  obtain ⟨e, -⟩ := places t
  show V m c main_arg0 (((cfg0.win 0).blk t).view.emb i) = _
  rw [V_main_arg0]
  refine (num_eq (n := 8192) (m := 4096) _ _).trans ?_
  unfold lhs
  blk_simp [e]
  rw [Nat.mul_comm]

theorem rhs_block (t : Fin cfg0.N) (i : S1024x1024.Idx) : iblk m c 1 t i = rhs m c (1024 * t.val + (i 0).val) (i 1).val := by
  obtain ⟨-, e⟩ := places t
  show V m c main_arg1 (((cfg0.win 1).blk t).view.emb i) = _
  rw [V_main_arg1]
  refine (num_eq (n := 8192) (m := 1024) _ _).trans ?_
  unfold rhs
  blk_simp [e]
  rw [Nat.mul_comm]

/-- What block `t` of the rows adds. -/
def part (k a b t : ℕ) : EReal := ∑ r : Fin 1024, sq (lhs m c (1024 * t + r.val) (512 * k + a)) * rhs m c (1024 * t + r.val) b

theorem after (n : ℕ) : ∀ (hn : n < cfg0.N) (k : Fin 8) (a : Fin 512) (b : Fin 1024),
    outsAt0 m c n hn (ValueIdx.ix3 k a b) = ∑ t ∈ Finset.range (n + 1), part m c k.val a.val b.val t := by
  induction n with
  | zero =>
    intro hn k a b
    rw [outsAt0_A m c ⟨0, hn⟩ rfl, out_A]
    refine (term_at _ _ _ k a b).trans ?_
    simp only [zero_at, zero_add, lhs_block, rhs_block, Finset.sum_range_one]
    rfl
  | succ n ih =>
    intro hn k a b
    have h8 : n + 1 < 8 := hn
    rw [outsAt0_B m c ⟨n + 1, hn⟩ (by show ¬(n + 1) % 8 = 0; omega), out_B]
    refine (term_at _ _ _ k a b).trans ?_
    rw [Finset.sum_range_succ]
    refine congrArg₂ (· + ·) (ih _ k a b) ?_
    simp only [lhs_block, rhs_block]
    rfl

/-- The whole product. -/
def total (i : S8x512x1024.Idx) : EReal :=
  ∑ s : Fin 8192, sq (lhs m c s.val (512 * (i 0).val + (i 1).val)) * rhs m c s.val (i 2).val

theorem array : (dats m 0 c).arrAt 2 cfg0.N = total m c := by
  refine (dats m 0 c).arrAt_eq_of_after_last 2 (t₀ := (⟨7, by decide⟩ : Fin grid0.N)) (by decide +kernel) _ fun j => ?_
  refine (congrFun (Cert.Kernel4Ideal.Gen.after0_2 m c _) j).trans ?_
  obtain ⟨k, a, b, rfl⟩ : ∃ (k : Fin 8) (a : Fin 512) (b : Fin 1024), j = ValueIdx.ix3 k a b := ⟨j 0, j 1, j 2, ValueIdx.eq_ix3 j⟩
  refine (after m c 7 _ k a b).trans ?_
  exact sum_rows fun s => sq (lhs m c s (512 * k.val + a.val)) * rhs m c s b.val

end Cert.Proof.W2

end
-- ==== Proof.WeightRef2.lean ====
/-
  The gradient of the second feed-forward matrix: the reference's product, and that the kernel ends with the same.
-/
module

public import proofs.«01_k».proof.Defs
public import Idealize.ShloMosaic.Lib.Quiescent
public import Idealize.ShloMosaic.Adequacy
public import Idealize.ShloMosaic.Init
public import proofs.«01_k».proof.Proof.Weight2
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Proof.W2

open Idealize.ShloMosaic Idealize.ShloMosaic.TcCoe Idealize.SL.Sem

open Cert.Reference4Ideal.Read in
theorem act_at (x0 : (⟨2, ![8192, 4096]⟩ : Shape).Idx → EReal) (i : (⟨2, ![8192, 4096]⟩ : Shape).Idx) :
    val_main_v3 (F := Ideal) x0 i = sq (x0 i) := by
  have h : val_main_call0_v0 (F := Ideal) i = (0 : EReal) := by unfold val_main_call0_v0; pointwise [val_main_call0_cst]
  rw [val_main_v3_apply, val_main_v2_apply, val_main_v1_apply, h]
  rfl

open Cert.Reference4Ideal.Read in
theorem ref_at (x0 : (⟨2, ![8192, 4096]⟩ : Shape).Idx → EReal) (x1 : (⟨2, ![8192, 1024]⟩ : Shape).Idx → EReal)
    (i : (⟨3, ![8, 512, 1024]⟩ : Shape).Idx) : val_main_v8 (F := Ideal) x0 x1 i
      = ∑ s : Fin 8192, sq (num x0 s.val (512 * (i 0).val + (i 1).val)) * num x1 s.val (i 2).val := by
  have h0 : (i 0).val < 8 := (i 0).isLt
  have h1 : (i 1).val < 512 := (i 1).isLt
  have h2 : (i 2).val < 1024 := (i 2).isLt
  rw [val_main_v8_apply, val_main_v7_apply, val_main_v6_apply]
  refine Finset.sum_congr rfl fun s _ => ?_
  rw [act_at]
  refine (mul_comm _ _).trans (congrArg₂ (· * ·) (congrArg sq ((num_eq x0 _).trans ?_)) ((num_eq x1 _).trans ?_))
  · refine congrArg (num x0 s.val) ?_
    show (((i 0).val * 512 + (i 1).val) * 1024 + (i 2).val) / 1024 = 512 * (i 0).val + (i 1).val
    omega
  · refine congrArg (num x1 s.val) ?_
    show (((i 0).val * 512 + (i 1).val) * 1024 + (i 2).val) % 1024 = (i 2).val
    omega

theorem same_results : Cert.algebraic_Kernel4Ideal_Reference4Ideal (hKernel4Ideal := Cert.Kernel4Ideal.Gen.facts)
    (hReference4Ideal := Cert.Reference4Ideal.Gen.facts) := fun m ρ m' ρ' _ hm => by
  refine ⟨fun c => total m c, ?_, ?_⟩
  · refine (θ_run _ _ _).mono (fun r h c => ?_) (Cert.Kernel4Ideal.Value.run_blocks (F := Ideal) m ρ)
    obtain ⟨h0, h1, h2⟩ := h c
    exact ⟨h0.trans (array m c), h1, h2⟩
  · refine (θ_run _ _ _).mono (fun r h c => ?_) (Cert.Reference4Ideal.Value.run (F := Ideal) m' ρ')
    obtain ⟨h0, h1, h2⟩ := h c
    refine ⟨h0.trans ?_, h1, h2⟩
    rw [(hm c).1, (hm c).2]
    funext i
    exact ref_at _ _ i

theorem frame_reference : Cert.quiescent_Reference4Ideal (hReference4Ideal := Cert.Reference4Ideal.Gen.facts) := fun m ρ _ =>
  (θ_run _ _ _).mono (fun r h => ⟨fun c => (h c).2, sem_eq_zero_of_no_sems rfl r.2⟩) (Cert.Reference4Ideal.Value.run (F := Ideal) m ρ)

end Cert.Proof.W2

end
-- ==== Proof.FfnHost.lean ====
/-
  What the host hands the feed-forward layer's backward kernel, in the reference's own arrays.
-/
module

public import proofs.«01_k».proof.Proof.Slabs
public import proofs.«01_k».proof.Proof.Gen.Kernel2Ideal.Value
public import proofs.«01_k».proof.Proof.Gen.Reference2Ideal.Read
public import Idealize.ShloMosaic.Lib.StableHlo.RunRead
public import Idealize.ShloMosaic.Lib.IdealHost
@[expose] public section
set_option maxRecDepth 16384
noncomputable section
namespace Cert.Proof.Ffn
open Cert.Kernel2Ideal Cert.Kernel2Ideal.Gen Idealize.ShloMosaic Idealize.ShloMosaic.TcCoe
open Cert.Reference2Ideal.Read

theorem v18_eq (x1 x2 x4) : val_main_v18 (F := Ideal) x1 x2 x4 = val_main_v17 (F := Ideal) x1 x2 x4 := by
  funext i
  rw [val_main_v18_apply, val_main_v1_apply, val_main_cst_0_apply]
  exact (congrArg _ Ideal.ofBits_zero_f32).trans (add_zero _)

theorem v27_eq (x1 x2 x3 x4) : val_main_v27 (F := Ideal) x1 x2 x3 x4 = val_main_v26 (F := Ideal) x1 x2 x3 x4 := by
  funext i
  rw [val_main_v27_apply, val_main_v0_apply, val_main_cst_apply]
  exact (congrArg _ Ideal.ofBits_zero_f32).trans (add_zero _)

variable (m : (ℓ : Loc nD τ sig) → Buf (Elt Ideal) ℓ) (c : Dev nD)

theorem V_first : V m c main_v16 = (truncf .bf16 (val_main_v17 (F := Ideal) (m (c.tc.loc main_arg1)) (m (c.tc.loc main_arg2)) (m (c.tc.loc main_arg4)) : FVec Ideal S8192x4096 .f32) bitsLt_bf16_f32 : FVec Ideal S8192x4096 .bf16) := by
  unfold V
  after_reads_simp
  rfl
theorem V_second : V m c main_v15 = val_main_v26 (F := Ideal) (m (c.tc.loc main_arg1)) (m (c.tc.loc main_arg2)) (m (c.tc.loc main_arg3)) (m (c.tc.loc main_arg4)) := by
  unfold V
  after_reads_simp
  simp only [StableHlo.TRef.toBuf, StableHlo.TRef.ofBuf, cast_eq]
  unfold val_main_v26 val_main_v23 val_main_v19
  rw [v18_eq]
  rfl
theorem V_w1 : V m c main_v19 = (truncf .bf16 (transpose S8x1024x512 [1, 0, 2] (shapeCast S1024x8x512 (m (c.tc.loc main_arg2)) shapeCasts_S1024x4096_S1024x8x512) transposes_S1024x8x512_S8x1024x512_1_0_2) bitsLt_bf16_f32 : FVec Ideal S8x1024x512 .bf16) := by
  unfold V
  after_reads_simp
  rfl
theorem V_w2 : V m c main_v21 = (truncf .bf16 (shapeCast S8x512x1024 (m (c.tc.loc main_arg3)) shapeCasts_S4096x1024_S8x512x1024) bitsLt_bf16_f32 : FVec Ideal S8x512x1024 .bf16) := by
  unfold V
  after_reads_simp
  rfl
end Cert.Proof.Ffn
end
-- ==== Proof.Ffn.lean ====
/-
  The feed-forward layer's backward pass, a row at a time: the derivative of the root mean square norm as the kernel computes it
  and as the reference does, which agree at infinite entries as well.
-/
module

public import proofs.«01_k».proof.Proof.Mat

@[expose] public section

noncomputable section

namespace Cert.Proof.Ffn

open Idealize.ShloMosaic

/-- The constants. -/
abbrev width : EReal := Ideal.ofBits .f32 0x44800000#32
abbrev share : EReal := Ideal.ofBits .f32 0x3A800000#32
abbrev eps : EReal := Ideal.ofBits .f32 0x358637BD#32
abbrev nhalf : EReal := Ideal.ofBits .f32 0xBF000000#32
abbrev two : EReal := Ideal.ofBits .f32 0x40000000#32

theorem width_eq : width = ((1024 : ℝ) : EReal) := by simp [Ideal.ofBits, Ideal.ieee, -EReal.coe_mul]; norm_num
theorem share_eq : share = ((1 / 1024 : ℝ) : EReal) := by simp [Ideal.ofBits, Ideal.ieee, -EReal.coe_mul]; norm_num
theorem nhalf_eq : nhalf = ((-(1 / 2) : ℝ) : EReal) := by simp [Ideal.ofBits, Ideal.ieee, -EReal.coe_mul]; norm_num
theorem two_eq : two = ((2 : ℝ) : EReal) := by simp [Ideal.ofBits, Ideal.ieee, -EReal.coe_mul]; norm_num
theorem eps_eq : ∃ e : ℝ, 0 < e ∧ eps = (e : EReal) := ⟨8796093 / 2 ^ 43, by norm_num, by simp [Ideal.ofBits, Ideal.ieee, -EReal.coe_mul]; norm_num⟩

variable (x u : Fin 1024 → EReal)

/-- The mean square of a row, and the reciprocal of its root. -/
def ms : EReal := Ideal.div (∑ b, x b * x b) width + eps
def inv : EReal := Ideal.rsqrt (ms x)

/-- A row's cotangent through the norm, `u` the cotangent after the gain: the kernel's formula. -/
def back (a : Fin 1024) : EReal := inv x * u a - x a * (inv x * inv x * inv x * ((∑ b, x b * u b) * share))

/-- The factor of `x` in the reference's formula. -/
def slope : EReal := Ideal.div ((∑ b, x b * u b) * (nhalf * Ideal.div (inv x) (ms x))) width

/-- A mean square is positive, and finite or not. -/
theorem ms_pos : 0 < ms x := by
  obtain ⟨e, he, e'⟩ := eps_eq
  have hs : 0 ≤ ∑ b, x b * x b := Finset.sum_nonneg fun b _ => by
    rcases le_total 0 (x b) with h | h
    · exact mul_nonneg h h
    · rw [← neg_mul_neg]
      exact mul_nonneg (EReal.neg_nonneg.mpr h) (EReal.neg_nonneg.mpr h)
  unfold ms
  rw [e', width_eq, Ideal.div_coe (by norm_num)]
  exact lt_of_lt_of_le (EReal.coe_pos.mpr he) (le_add_of_nonneg_left (mul_nonneg hs (EReal.coe_nonneg.mpr (by norm_num))))

theorem inv_eq {v : ℝ} (h : 0 < v) (e : ms x = (v : EReal)) : inv x = (((Real.sqrt v)⁻¹ : ℝ) : EReal) := by
  unfold inv
  rw [e, Ideal.rsqrt_coe, if_neg h.le.not_gt, if_neg h.ne']

/-- Two halves of a negative multiple are the whole, of an infinity as well. -/
theorem halves (z : EReal) {c : ℝ} (h : c < 0) : z * (c : EReal) + z * (c : EReal) = -(z * ((-2 * c : ℝ) : EReal)) := by
  have h2 : 0 < -2 * c := by linarith
  induction z using EReal.rec with
  | bot => rw [EReal.bot_mul_coe_of_neg h, EReal.bot_mul_coe_of_pos h2]; rfl
  | top => rw [EReal.top_mul_coe_of_neg h, EReal.top_mul_coe_of_pos h2]; rfl
  | coe z =>
    simp only [← EReal.coe_mul, ← EReal.coe_add, ← EReal.coe_neg]
    congr 1
    ring

/-- The reference's formula is the kernel's. -/
theorem back_eq (a : Fin 1024) : u a * inv x + x a * slope x u + slope x u * x a = back x u a := by
  have hp := ms_pos x
  unfold slope back
  rw [share_eq, nhalf_eq, width_eq, Ideal.div_coe (by norm_num)]
  generalize ∑ b, x b * u b = s
  induction e : ms x using EReal.rec with
  | bot => rw [e] at hp; exact absurd hp (by simp)
  | top =>
    have hi : inv x = 0 := by unfold inv; rw [e]; rfl
    have hd : Ideal.div 0 ⊤ = 0 := by unfold Ideal.div; rw [if_neg (by simp), zero_mul]
    rw [hi, hd]
    simp
  | coe v =>
    have h : 0 < v := by rw [e] at hp; exact EReal.coe_pos.mp hp
    have hr : 0 < (Real.sqrt v)⁻¹ := inv_pos.mpr (Real.sqrt_pos.mpr h)
    have hv : (Real.sqrt v)⁻¹ / v = (Real.sqrt v)⁻¹ * (Real.sqrt v)⁻¹ * (Real.sqrt v)⁻¹ := by
      have := Real.mul_self_sqrt h.le
      rw [mul_assoc, ← mul_inv, this, div_eq_mul_inv]
    rw [inv_eq x h e, div_real h.ne', hv]
    generalize (Real.sqrt v)⁻¹ = r at hr
    have hc : -(1 / 2) * (r * r * r) * (1 / 1024) < 0 := by
      have : 0 < r * r * r := by positivity
      linarith
    have e1 : x a * (s * (((-(1 / 2) : ℝ) : EReal) * ((r * r * r : ℝ) : EReal)) * ((1 / 1024 : ℝ) : EReal))
        = x a * s * ((-(1 / 2) * (r * r * r) * (1 / 1024) : ℝ) : EReal) := by
      rw [← EReal.coe_mul, mul_assoc s, ← EReal.coe_mul, mul_assoc (x a)]
    have e2 : x a * ((r : EReal) * r * r * (s * ((1 / 1024 : ℝ) : EReal)))
        = x a * s * ((-2 * (-(1 / 2) * (r * r * r) * (1 / 1024)) : ℝ) : EReal) := by
      rw [mul_left_comm _ s, ← EReal.coe_mul, ← EReal.coe_mul, ← EReal.coe_mul, mul_assoc (x a)]
      congr 3
      ring
    rw [mul_comm _ (x a), e1, e2, add_assoc, halves _ hc, mul_comm (u a), sub_eq_add_neg]

/-- The kernel's factor `2 max(f, 0)`, kept as it is where `f` is positive and zero elsewhere. -/
theorem gate (d f : EReal) : (if 0 < f then d * (two * max f 0) else 0) = d * (two * max f 0) := by
  split
  · rfl
  · next h => rw [max_eq_right (not_lt.mp h), mul_zero, mul_zero]

/-- The arguments: of the rows by number, and what the forward pass makes of them. -/
structure Args where
  dh : ℕ → Fin 1024 → EReal
  h : ℕ → Fin 1024 → EReal
  f : ℕ → Fin 4096 → EReal
  ff : ℕ → Fin 1024 → EReal
  w1 : Fin 1024 → Fin 4096 → EReal
  w2 : Fin 4096 → Fin 1024 → EReal
  gpre : Fin 1024 → EReal
  gpost : Fin 1024 → EReal

namespace Args

variable (A : Args)

def dff (t : ℕ) (a : Fin 1024) : EReal := back (A.ff t) (fun b => A.dh t b * A.gpost b) a
def df (t : ℕ) (k : Fin 4096) : EReal := (∑ a, A.dff t a * A.w2 k a) * (two * max (A.f t k) 0)
def dc (t : ℕ) (a : Fin 1024) : EReal := ∑ k, A.df t k * A.w1 a k
def dx (t : ℕ) (a : Fin 1024) : EReal := A.dh t a + back (A.h t) (fun b => A.dc t b * A.gpre b) a
def postRow (t : ℕ) (a : Fin 1024) : EReal := A.dh t a * (A.ff t a * inv (A.ff t))
def preRow (t : ℕ) (a : Fin 1024) : EReal := A.dc t a * (A.h t a * inv (A.h t))

end Args

end Cert.Proof.Ffn

end
-- ==== Proof.FfnPoint.lean ====
/-
  What the feed-forward layer's backward kernel stores at a point, entry by entry.
-/
module

public import proofs.«01_k».proof.Proof.Ffn
public import proofs.«01_k».proof.Proof.Slabs
public import proofs.«01_k».proof.Proof.Gen.Kernel2Ideal.Value
public import Idealize.ShloMosaic.Lib.Pointwise
public import Idealize.ShloMosaic.Lib.IdealHost

@[expose] public section

noncomputable section

namespace Cert.Proof.Ffn

open Cert.Kernel2Ideal Cert.Kernel2Ideal.Gen Idealize.ShloMosaic

/-- Row `r` of a block. -/
abbrev row {n m : ℕ} (x : (⟨2, ![n, m]⟩ : Shape).Idx → EReal) (r : Fin n) : Fin m → EReal := fun b => x (ValueIdx.ix2 r b)

theorem inv_at (x : Vec Ideal S512x1024 .f32) (r : Fin 512) (z : Fin 1) : k0_pay30 (F := Ideal) x (ValueIdx.ix2 r z) = inv (row x r) := by
  pointwise [k0_pay30]
  rfl

theorem whole (x : Vec Ideal S512x1024 .f32) : k0_pay5 (F := Ideal) x = x := shapeCast_self _ _

theorem pay6_eq (x : Vec Ideal S512x1024 .f32) : k0_pay6 (F := Ideal) x = k0_pay30 x := by
  unfold k0_pay6
  rw [whole]
  rfl

/-- The cotangent through the norm, a block at a time. -/
def backV (y x : Vec Ideal S512x1024 .f32) (g : Vec Ideal S1x1024 .f32) (i : Vec Ideal S512x1 .f32) : FVec Ideal S512x1024 .f32 :=
  subf (mulf (broadcastTo S512x1024 i broadcasts_S512x1_S512x1024) (mulf y (broadcastTo S512x1024 g broadcasts_S1x1024_S512x1024)))
    (mulf x (broadcastTo S512x1024 (mulf (mulf (mulf i i) i) (mulf (shapeCast S512x1 (multiReduction .add [1] S512
      (mulf x (mulf y (broadcastTo S512x1024 g broadcasts_S1x1024_S512x1024))) 0x00000000#32 reduces_S512x1024_S512 (.inl rfl) rfl)
      shapeCasts_S512_S512x1) (broadcast S512x1 (Scalar.ofBits (F := Ideal) .f32 0x3A800000#32)))) broadcasts_S512x1_S512x1024))

theorem backV_at (y x : Vec Ideal S512x1024 .f32) (g : Vec Ideal S1x1024 .f32) (i : Vec Ideal S512x1 .f32) (r : Fin 512) (a : Fin 1024) :
    backV y x g i (ValueIdx.ix2 r a) = i (ValueIdx.ix2 r 0) * (y (ValueIdx.ix2 r a) * g (ValueIdx.ix2 0 a)) - x (ValueIdx.ix2 r a) *
      (i (ValueIdx.ix2 r 0) * i (ValueIdx.ix2 r 0) * i (ValueIdx.ix2 r 0) *
        ((∑ b : Fin 1024, x (ValueIdx.ix2 r b) * (y (ValueIdx.ix2 r b) * g (ValueIdx.ix2 0 b))) * share)) := by
  pointwise [backV]
  rfl

theorem back_at (y x : Vec Ideal S512x1024 .f32) (g : Vec Ideal S1x1024 .f32) (r : Fin 512) (a : Fin 1024) :
    backV y x g (k0_pay30 x) (ValueIdx.ix2 r a) = back (row x r) (fun b => row y r b * row g 0 b) a := by
  rw [backV_at, inv_at]
  rfl

/-- A gain's gradient over a block's rows. -/
def gainV (y x : Vec Ideal S512x1024 .f32) (i : Vec Ideal S512x1 .f32) : FVec Ideal S1x1024 .f32 :=
  shapeCast S1x1024 (multiReduction .add [0] S1024 (mulf y (mulf x (broadcastTo S512x1024 i broadcasts_S512x1_S512x1024))) 0x00000000#32
    reduces_S512x1024_S1024 (.inl rfl) rfl) shapeCasts_S1024_S1x1024

theorem gain_at (y x : Vec Ideal S512x1024 .f32) (z : Fin 1) (a : Fin 1024) : gainV y x (k0_pay30 x) (ValueIdx.ix2 z a)
    = ∑ r : Fin 512, row y r a * (row x r a * inv (row x r)) := by
  simp only [← inv_at x _ 0]
  generalize k0_pay30 (F := Ideal) x = i
  pointwise [gainV]
  rfl

/-- Eight slabs of the first product's cotangent, and the second's sum over them. -/
theorem gate_at (v : FVec Ideal S512x1024 .bf16) (w : Vec Ideal S1x512x1024 .bf16) (f : Vec Ideal S512x512 .bf16) (r s : Fin 512) :
    k0_pay11 (F := Ideal) v w f (ValueIdx.ix2 r s)
      = (∑ a : Fin 1024, v (ValueIdx.ix2 r a) * w (ValueIdx.ix3 0 s a)) * (two * max (f (ValueIdx.ix2 r s)) 0) := by
  pointwise [k0_pay11]
  rfl

def step (acc : FVec Ideal S512x1024 .f32) (d : FVec Ideal S512x512 .bf16) (w : Vec Ideal S1x1024x512 .bf16) : FVec Ideal S512x1024 .f32 :=
  addf acc (matmul (φ₂ := .bf16) dot_S512x512_S1024x512_S512x1024_1_1_0_0_n_n none d (shapeCast S1024x512 w shapeCasts_S1x1024x512_S1024x512)
    (constant S512x1024 .f32 0x00000000#32))

theorem step_at (acc : FVec Ideal S512x1024 .f32) (d : FVec Ideal S512x512 .bf16) (w : Vec Ideal S1x1024x512 .bf16) (r : Fin 512) (a : Fin 1024) :
    step acc d w (ValueIdx.ix2 r a) = acc (ValueIdx.ix2 r a) + ∑ s : Fin 512, d (ValueIdx.ix2 r s) * w (ValueIdx.ix3 0 a s) := by
  pointwise [step]
  rfl

theorem zero_at (i : S512x1024.Idx) : broadcast S512x1024 (Scalar.ofBits (F := Ideal) .f32 0x00000000#32) i = (0 : EReal) := by
  pointwise []

end Cert.Proof.Ffn

end
-- ==== Proof.FfnOut.lean ====
/-
  What a point of the feed-forward layer's backward kernel leaves in each output's buffer.
-/
module

public import proofs.«01_k».proof.Proof.FfnPoint

@[expose] public section

set_option maxRecDepth 16384

noncomputable section

namespace Cert.Proof.Ffn

open Cert.Kernel2Ideal Cert.Kernel2Ideal.Gen Idealize.ShloMosaic

variable {e : EltTy} {Val : EltTy → Type}

/-- Columns `512 k, …, 512 k + 511`, and column `s` of them. -/
abbrev strip (k : Fin 8) := cols 512 4096 512 (512 * k.val) (by omega)

abbrev at8 (k : Fin 8) (s : Fin 512) : Fin 4096 := ⟨512 * k.val + s.val, by omega⟩

theorem strip_emb (k : Fin 8) (r s : Fin 512) : (strip k).emb (ValueIdx.ix2 r s) = ValueIdx.ix2 r (at8 k s) :=
  Rect.emb_eq_of_coords _ _ _ fun y => by
    fin_cases y
    · show r.val = 0 + 1 * r.val; omega
    · show 512 * k.val + s.val = 512 * k.val + 1 * s.val; omega

theorem over_strip_hit (k : Fin 8) (w : (⟨2, ![512, 512]⟩ : Shape).Idx → Val e) (x : (⟨2, ![512, 4096]⟩ : Shape).Idx → Val e)
    (r s : Fin 512) : over (strip k) w x (ValueIdx.ix2 r (at8 k s)) = w (ValueIdx.ix2 r s) := by
  have := over_hit (strip k) w x (ValueIdx.ix2 r s)
  rwa [strip_emb] at this

theorem over_cols_miss {n m w o : ℕ} {h : o + w ≤ m} {t : Fin m} (ht : t.val < o ∨ o + w ≤ t.val)
    (d : (⟨2, ![n, w]⟩ : Shape).Idx → Val e) (x : (⟨2, ![n, m]⟩ : Shape).Idx → Val e) (r : Fin n) :
    over (cols n m w o h) d x (ValueIdx.ix2 r t) = x (ValueIdx.ix2 r t) :=
  over_miss _ d x _ ((cols n m w o h).not_mem_set_of_axis _ 1 o w rfl rfl rfl ht)

theorem over_strip_miss {k k' : Fin 8} (h : k' ≠ k) (w : (⟨2, ![512, 512]⟩ : Shape).Idx → Val e)
    (x : (⟨2, ![512, 4096]⟩ : Shape).Idx → Val e) (r s : Fin 512) :
    over (strip k) w x (ValueIdx.ix2 r (at8 k' s)) = x (ValueIdx.ix2 r (at8 k' s)) := by
  have : k'.val ≠ k.val := fun hh => h (Fin.ext hh)
  refine over_cols_miss ?_ w x r
  show 512 * k'.val + s.val < 512 * k.val ∨ 512 * k.val + 512 ≤ 512 * k'.val + s.val
  omega

theorem over_strip (k k' : Fin 8) (w : (⟨2, ![512, 512]⟩ : Shape).Idx → Val e) (x : (⟨2, ![512, 4096]⟩ : Shape).Idx → Val e)
    (r s : Fin 512) : over (strip k) w x (ValueIdx.ix2 r (at8 k' s))
      = if k' = k then w (ValueIdx.ix2 r s) else x (ValueIdx.ix2 r (at8 k' s)) := by
  split
  · next h => subst h; exact over_strip_hit _ _ _ _ _
  · next h => exact over_strip_miss h _ _ _ _

/-- Eight stores of 512 columns each. -/
theorem read_cols {sig : RefSig} {κ : Kind} {sp : Space} (v : View sig κ sp ⟨2, ![512, 4096]⟩ e)
    (f : v.ty.Contents Val) {h0 h1 h2 h3 h4 h5 h6 h7} (w0 w1 w2 w3 w4 w5 w6 w7 : (⟨2, ![512, 512]⟩ : Shape).Idx → Val e)
    (L : List (View.Piece Val ⟨2, ![512, 4096]⟩ e)) (T : Fin 8 → (⟨2, ![512, 512]⟩ : Shape).Idx → Val e)
    (hT : ∀ k, ![w0, w1, w2, w3, w4, w5, w6, w7] k = T k) (r : Fin 512) (k : Fin 8) (s : Fin 512) :
    v.read Val (v.writes Val f (⟨Rect.unit ![0, 3584] ![512, 512] h7, w7⟩ :: ⟨Rect.unit ![0, 3072] ![512, 512] h6, w6⟩ ::
      ⟨Rect.unit ![0, 2560] ![512, 512] h5, w5⟩ :: ⟨Rect.unit ![0, 2048] ![512, 512] h4, w4⟩ ::
      ⟨Rect.unit ![0, 1536] ![512, 512] h3, w3⟩ :: ⟨Rect.unit ![0, 1024] ![512, 512] h2, w2⟩ ::
      ⟨Rect.unit ![0, 512] ![512, 512] h1, w1⟩ :: ⟨Rect.unit ![0, 0] ![512, 512] h0, w0⟩ :: L))
        (ValueIdx.ix2 r (at8 k s)) = T k (ValueIdx.ix2 r s) := by
  refine Eq.trans ?_ (congrFun (hT k) _)
  rw [read_writes_over, read_writes_over, read_writes_over, read_writes_over, read_writes_over, read_writes_over, read_writes_over,
    read_writes_over]
  generalize v.read Val (v.writes Val f L) = x
  refine (over_strip 7 k w7 _ r s).trans ?_; split; · next h => rw [h]; rfl
  refine (over_strip 6 k w6 _ r s).trans ?_; split; · next h => rw [h]; rfl
  refine (over_strip 5 k w5 _ r s).trans ?_; split; · next h => rw [h]; rfl
  refine (over_strip 4 k w4 _ r s).trans ?_; split; · next h => rw [h]; rfl
  refine (over_strip 3 k w3 _ r s).trans ?_; split; · next h => rw [h]; rfl
  refine (over_strip 2 k w2 _ r s).trans ?_; split; · next h => rw [h]; rfl
  refine (over_strip 1 k w1 _ r s).trans ?_; split; · next h => rw [h]; rfl
  refine (over_strip 0 k w0 _ r s).trans ?_; split; · next h => rw [h]; rfl
  exfalso
  omega

theorem over_at_zero {s : Shape} {off : Fin s.rank → Nat} (h : off = fun _ => 0) (inb : ∀ a, off a + s.size a ≤ s.size a)
    (w x : s.Idx → Val e) : over (Rect.unit off s.size inb) w x = w := by
  subst h
  exact over_whole _ _ _

/-- One store of a whole matrix. -/
theorem read_whole {sig : RefSig} {κ : Kind} {sp : Space} {n m : ℕ} (v : View sig κ sp ⟨2, ![n, m]⟩ e)
    (f : v.ty.Contents Val) {h} (w : (⟨2, ![n, m]⟩ : Shape).Idx → Val e) (L : List (View.Piece Val ⟨2, ![n, m]⟩ e)) :
    v.read Val (v.writes Val f (⟨Rect.unit ![0, 0] ![n, m] h, w⟩ :: L)) = w :=
  (read_writes_over _ _ _ _).trans (over_at_zero (s := ⟨2, ![n, m]⟩) (show (![0, 0] : Fin 2 → ℕ) = fun _ => 0 by decide) h _ _)

/-- What a load reads after a store of the whole matrix. -/
theorem fill_row [∀ e, Nonempty (Val e)] {sig : RefSig} {κ : Kind} {sp : Space} {n m : ℕ} (v : View sig κ sp ⟨2, ![n, m]⟩ e) {h h'}
    (w : (⟨2, ![n, m]⟩ : Shape).Idx → Val e) :
    v.readCov [⟨Rect.unit ![0, 0] ![n, m] h, w⟩] (Rect.unit (s := ⟨2, ![n, m]⟩) ![0, 0] ![n, m] h').toLoadRect = w :=
  (View.readCov_fill v h w [] _ fun a => by fin_cases a <;> rfl).trans (cut_mat w)

/-! The body's named values. -/

section pays
variable (v : FVec Ideal S512x1024 .bf16) (w w' : Vec Ideal S1x512x1024 .bf16) (f f' : Vec Ideal S512x512 .bf16)
  (u u' : Vec Ideal S1x1024x512 .bf16) (acc x y : FVec Ideal S512x1024 .f32) (d : FVec Ideal S512x512 .bf16) (p q : FVec Ideal S512x512 .f32)
  (z : Ideal .f32) (g a b : Vec Ideal S1x1024 .f32)

theorem pay13 : k0_pay13 v w f = k0_pay11 v w f := rfl
theorem pay14 : k0_pay14 v w f = k0_pay11 v w f := rfl
theorem pay20 : k0_pay20 v w f = k0_pay11 v w f := rfl
theorem pay25 : k0_pay25 v w f = k0_pay11 v w f := rfl
theorem pay19 : k0_pay19 (k0_pay16 v w) (k0_pay17 f) k0_pay18 = k0_pay11 v w f := rfl
theorem pay24 : k0_pay24 (k0_pay22 v w) (k0_pay23 f) (FloatOps.ofBits (F := Ideal) .f32 0x00000000#32) = k0_pay11 v w f := rfl
theorem pay28 : k0_pay28 (k0_pay27 v w) f = k0_pay11 v w f := rfl
theorem pay12 : k0_pay12 v w f u = step (broadcast S512x1024 (Scalar.ofBits (F := Ideal) .f32 0x00000000#32)) (k0_pay11 v w f) u := rfl
theorem pay15 : k0_pay15 v acc d u w f u' = step (step acc d u) (k0_pay11 v w f) u' := rfl
theorem pay21 : k0_pay21 v acc p q d u w f u' = step (step acc (k0_pay19 p q d) u) (k0_pay11 v w f) u' := rfl
theorem pay26 : k0_pay26 v acc p q z u w f u' = step (step acc (k0_pay24 p q z) u) (k0_pay11 v w f) u' := rfl
theorem pay29 : k0_pay29 acc p f u = step acc (k0_pay28 p f) u := rfl
theorem pay31 : k0_pay31 acc p f u x g = backV (step acc (k0_pay28 p f) u) x g (k0_pay30 (F := Ideal) x) := rfl
theorem pay2 : k0_pay2 (k0_pay32 acc p f u x) a = addf a (gainV (step acc (k0_pay28 p f) u) x (k0_pay30 (F := Ideal) x)) := by
  show addf (shapeCast S1x1024 a shapeCasts_S1x1024_S1x1024) (gainV (step acc (k0_pay28 p f) u) x (k0_pay30 (F := Ideal) x)) = _
  rw [shapeCast_self]
theorem pay10 : k0_pay10 (k0_pay7 y x) (k0_pay9 a) = addf a (gainV y x (k0_pay30 (F := Ideal) x)) := by
  show addf (shapeCast S1x1024 a shapeCasts_S1x1024_S1x1024) (gainV y (k0_pay5 (F := Ideal) x) (k0_pay6 (F := Ideal) x)) = _
  rw [shapeCast_self, whole, pay6_eq]
end pays

variable (x0 x1 x2 : Vec Ideal S512x1024 .f32) (x3 : Vec Ideal S512x4096 .bf16) (x4 : Vec Ideal S8x1024x512 .bf16)
  (x5 : Vec Ideal S8x512x1024 .bf16) (x6 x7 : Vec Ideal S1x1024 .f32)

/-- The second product's cotangent, the first's in slab `j`, and the sum of `n` slabs against the first matrix. -/
def dffV : FVec Ideal S512x1024 .bf16 := k0_pay8 x0 x1 x6

def gateV (j : Fin 8) : FVec Ideal S512x512 .bf16 :=
  k0_pay11 (dffV x0 x1 x6) (cut (slab 512 1024 j) x5) (cut (strip j) x3)

def sumV : ℕ → FVec Ideal S512x1024 .f32
  | 0 => broadcast S512x1024 (Scalar.ofBits (F := Ideal) .f32 0x00000000#32)
  | n + 1 => step (sumV n) (gateV x0 x1 x3 x5 x6 (Fin.ofNat 8 n)) (cut (slab 1024 512 (Fin.ofNat 8 n)) x4)

abbrev dcV := sumV x0 x1 x3 x4 x5 x6 8

/-! What each part of the body computes. -/

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x4096 .bf16) (h4 : a4.IsWhole)
  (a5 : Memref sig .tc .vmem S8x1024x512 .bf16) (h5 : a5.IsWhole) (a6 : Memref sig .tc .vmem S8x512x1024 .bf16) (h6 : a6.IsWhole)
  (a7 : Memref sig .tc .vmem S1x1024 .f32) (h7 : a7.IsWhole) (a8 : Memref sig .tc .vmem S1x1024 .f32) (h8 : a8.IsWhole)
  (a9 : Memref sig .tc .vmem S512x1024 .bf16) (h9 : a9.IsWhole) (a10 : Memref sig .tc .vmem S512x4096 .bf16) (h10 : a10.IsWhole)
  (a11 : Memref sig .tc .vmem S512x1024 .f32) (h11 : a11.IsWhole) (a12 : Memref sig .tc .vmem S1x1024 .f32) (h12 : a12.IsWhole)
  (a13 : Memref sig .tc .vmem S1x1024 .f32) (h13 : a13.IsWhole) (acc bcc : Vec Ideal S1x1024 .f32)

theorem r2 : kernelRun0_B.sl.r_2 c a1 h1 a2 h2 a7 h7 x0 x1 x6 = dffV x0 x1 x6 := by
  unfold kernelRun0_B.sl.r_2
  simp only [readAt_cut, h1.read_unread, h2.read_unread, h7.read_unread, cut_mat]
  rfl

theorem r5 : kernelRun0_B.sl.r_5 c a1 h1 a2 h2 a4 h4 a6 h6 a7 h7 x0 x1 x3 x5 x6 = gateV x0 x1 x3 x5 x6 1 := by
  unfold kernelRun0_B.sl.r_5
  rw [r2, pay13]
  simp only [readAt_cut, h4.read_unread, h6.read_unread]
  rfl

theorem r7 : k0_pay19 (kernelRun0_B.sl.r_7 c a1 h1 a2 h2 a6 h6 a7 h7 x0 x1 x5 x6) (kernelRun0_B.sl.r_8 c a4 h4 x3) k0_pay18 = gateV x0 x1 x3 x5 x6 3 := by
  unfold kernelRun0_B.sl.r_7 kernelRun0_B.sl.r_8
  rw [r2, pay19]
  simp only [readAt_cut, h4.read_unread, h6.read_unread]
  rfl

theorem r10 : k0_pay24 (kernelRun0_B.sl.r_10 c a1 h1 a2 h2 a6 h6 a7 h7 x0 x1 x5 x6) (kernelRun0_B.sl.r_11 c a4 h4 x3) kernelRun0_B.sl.cst_84 = gateV x0 x1 x3 x5 x6 5 := by
  unfold kernelRun0_B.sl.r_10 kernelRun0_B.sl.r_11 kernelRun0_B.sl.cst_84
  rw [r2, pay24]
  simp only [readAt_cut, h4.read_unread, h6.read_unread]
  rfl

theorem r4 : kernelRun0_B.sl.r_4 c a1 h1 a2 h2 a4 h4 a5 h5 a6 h6 a7 h7 x0 x1 x3 x4 x5 x6 = sumV x0 x1 x3 x4 x5 x6 1 := by
  unfold kernelRun0_B.sl.r_4
  rw [r2, pay12]
  simp only [readAt_cut, h4.read_unread, h5.read_unread, h6.read_unread]
  rfl

theorem r6 : kernelRun0_B.sl.r_6 c a1 h1 a2 h2 a4 h4 a5 h5 a6 h6 a7 h7 x0 x1 x3 x4 x5 x6 = sumV x0 x1 x3 x4 x5 x6 3 := by
  unfold kernelRun0_B.sl.r_6
  rw [r2, r4, r5, pay15]
  simp only [readAt_cut, h4.read_unread, h5.read_unread, h6.read_unread]
  rfl

theorem r9 : kernelRun0_B.sl.r_9 c a1 h1 a2 h2 a4 h4 a5 h5 a6 h6 a7 h7 x0 x1 x3 x4 x5 x6 = sumV x0 x1 x3 x4 x5 x6 5 := by
  unfold kernelRun0_B.sl.r_9
  rw [r2, r6, pay21, r7]
  simp only [readAt_cut, h4.read_unread, h5.read_unread, h6.read_unread]
  rfl

theorem r12 : kernelRun0_B.sl.r_12 c a1 h1 a2 h2 a4 h4 a5 h5 a6 h6 a7 h7 x0 x1 x3 x4 x5 x6 = sumV x0 x1 x3 x4 x5 x6 7 := by
  unfold kernelRun0_B.sl.r_12
  rw [r2, r9, pay26, r10]
  simp only [readAt_cut, h4.read_unread, h5.read_unread, h6.read_unread]
  rfl

theorem r13 : k0_pay28 (kernelRun0_B.sl.r_13 c a1 h1 a2 h2 a6 h6 a7 h7 x0 x1 x5 x6) (a4.view.readAt (Elt Ideal) (Rect.unit (s := S512x4096) ![0, 3584] S512x512.size inb_S512x4096_S512x512_0_3584).toLoadRect (h4.unread x3))
    = gateV x0 x1 x3 x5 x6 7 := by
  unfold kernelRun0_B.sl.r_13
  rw [r2, pay28]
  simp only [readAt_cut, h4.read_unread, h6.read_unread]
  rfl

theorem r14 : kernelRun0_B.sl.r_14 c a1 h1 a2 h2 a3 h3 a4 h4 a5 h5 a6 h6 a7 h7 a8 h8 x0 x1 x2 x3 x4 x5 x6 x7
    = backV (dcV x0 x1 x3 x4 x5 x6) x2 x7 (k0_pay30 (F := Ideal) x2) := by
  unfold kernelRun0_B.sl.r_14
  rw [r12, pay31, r13]
  simp only [readAt_cut, h3.read_unread, h4.read_unread, h5.read_unread, h8.read_unread, cut_mat]
  rfl

theorem r15 (acc : Vec Ideal S1x1024 .f32) : k0_pay2 (kernelRun0_B.sl.r_15 c a1 h1 a2 h2 a3 h3 a4 h4 a5 h5 a6 h6 a7 h7 x0 x1 x2 x3 x4 x5 x6) acc
    = addf acc (gainV (dcV x0 x1 x3 x4 x5 x6) x2 (k0_pay30 (F := Ideal) x2)) := by
  unfold kernelRun0_B.sl.r_15
  rw [r12, pay2, r13]
  simp only [readAt_cut, h3.read_unread, h4.read_unread, h5.read_unread, cut_mat]
  rfl

theorem tiles (k : Fin 8) : (![
    k0_pay11 (kernelRun0_B.sl.r_2 c a1 h1 a2 h2 a7 h7 x0 x1 x6) (a6.view.readAt (Elt Ideal) (Rect.unit (s := S8x512x1024) ![0, 0, 0] S1x512x1024.size inb_S8x512x1024_S1x512x1024_0_0_0).toLoadRect (h6.unread x5))
      (a4.view.readAt (Elt Ideal) (Rect.unit (s := S512x4096) ![0, 0] S512x512.size inb_S512x4096_S512x512_0_0).toLoadRect (h4.unread x3)),
    (kernelRun0_B.sl.r_5 c a1 h1 a2 h2 a4 h4 a6 h6 a7 h7 x0 x1 x3 x5 x6),
    k0_pay14 (kernelRun0_B.sl.r_2 c a1 h1 a2 h2 a7 h7 x0 x1 x6) (a6.view.readAt (Elt Ideal) (Rect.unit (s := S8x512x1024) ![2, 0, 0] S1x512x1024.size inb_S8x512x1024_S1x512x1024_2_0_0).toLoadRect (h6.unread x5))
      (a4.view.readAt (Elt Ideal) (Rect.unit (s := S512x4096) ![0, 1024] S512x512.size inb_S512x4096_S512x512_0_1024).toLoadRect (h4.unread x3)),
    k0_pay19 (kernelRun0_B.sl.r_7 c a1 h1 a2 h2 a6 h6 a7 h7 x0 x1 x5 x6) (kernelRun0_B.sl.r_8 c a4 h4 x3) k0_pay18,
    k0_pay20 (kernelRun0_B.sl.r_2 c a1 h1 a2 h2 a7 h7 x0 x1 x6) (a6.view.readAt (Elt Ideal) (Rect.unit (s := S8x512x1024) ![4, 0, 0] S1x512x1024.size inb_S8x512x1024_S1x512x1024_4_0_0).toLoadRect (h6.unread x5))
      (a4.view.readAt (Elt Ideal) (Rect.unit (s := S512x4096) ![0, 2048] S512x512.size inb_S512x4096_S512x512_0_2048).toLoadRect (h4.unread x3)),
    k0_pay24 (kernelRun0_B.sl.r_10 c a1 h1 a2 h2 a6 h6 a7 h7 x0 x1 x5 x6) (kernelRun0_B.sl.r_11 c a4 h4 x3) kernelRun0_B.sl.cst_84,
    k0_pay25 (kernelRun0_B.sl.r_2 c a1 h1 a2 h2 a7 h7 x0 x1 x6) (a6.view.readAt (Elt Ideal) (Rect.unit (s := S8x512x1024) ![6, 0, 0] S1x512x1024.size inb_S8x512x1024_S1x512x1024_6_0_0).toLoadRect (h6.unread x5))
      (a4.view.readAt (Elt Ideal) (Rect.unit (s := S512x4096) ![0, 3072] S512x512.size inb_S512x4096_S512x512_0_3072).toLoadRect (h4.unread x3)),
    k0_pay28 (kernelRun0_B.sl.r_13 c a1 h1 a2 h2 a6 h6 a7 h7 x0 x1 x5 x6) (a4.view.readAt (Elt Ideal) (Rect.unit (s := S512x4096) ![0, 3584] S512x512.size inb_S512x4096_S512x512_0_3584).toLoadRect (h4.unread x3))]
      : Fin 8 → FVec Ideal S512x512 .bf16) k = gateV x0 x1 x3 x5 x6 k := by
  rw [r2, r5, r7, r10, pay14, pay20, pay25, r13]
  simp only [readAt_cut, h4.read_unread, h6.read_unread]
  fin_cases k <;> rfl

theorem out8_B (hc) : out0_B_8 c i a1 h1 a2 h2 a3 h3 a4 h4 a5 h5 a6 h6 a7 h7 a8 h8 a9 h9 a10 h10 a11 h11 a12 h12 a13 h13 hc x0 x1 x2 x3 x4 x5 x6 x7 acc bcc
    = dffV x0 x1 x6 := by
  unfold out0_B_8 kernelRun0_B
  simp only [readAt_cut, h1.read_unread, h2.read_unread, h7.read_unread, cut_mat]
  exact read_whole _ _ _ _

theorem out9_B (hc) (r : Fin 512) (k : Fin 8) (s : Fin 512) : out0_B_9 c i a1 h1 a2 h2 a3 h3 a4 h4 a5 h5 a6 h6 a7 h7 a8 h8 a9 h9 a10 h10 a11 h11 a12 h12 a13 h13 hc x0 x1 x2 x3 x4 x5 x6 x7 acc bcc (ValueIdx.ix2 r (at8 k s))
    = gateV x0 x1 x3 x5 x6 k (ValueIdx.ix2 r s) := by
  unfold out0_B_9 kernelRun0_B
  refine read_cols (Val := Elt Ideal) (e := .bf16) VO0_9 _ _ _ _ _ _ _ _ _ _ (gateV x0 x1 x3 x5 x6) (fun k => ?_) r k s
  exact tiles x0 x1 x3 x5 x6 c a1 h1 a2 h2 a4 h4 a6 h6 a7 h7 k

theorem out10_B (hc) : out0_B_10 c i a1 h1 a2 h2 a3 h3 a4 h4 a5 h5 a6 h6 a7 h7 a8 h8 a9 h9 a10 h10 a11 h11 a12 h12 a13 h13 hc x0 x1 x2 x3 x4 x5 x6 x7 acc bcc
    = addf x0 (backV (dcV x0 x1 x3 x4 x5 x6) x2 x7 (k0_pay30 (F := Ideal) x2)) := by
  unfold out0_B_10 kernelRun0_B
  refine (read_whole _ _ _ _).trans (congrArg₂ addf ?_ (r14 x0 x1 x2 x3 x4 x5 x6 x7 c a1 h1 a2 h2 a3 h3 a4 h4 a5 h5 a6 h6 a7 h7 a8 h8))
  unfold kernelRun0_B.sl.r
  rw [readAt_cut, h1.read_unread, cut_mat]

theorem out11_B (hc) : out0_B_11 c i a1 h1 a2 h2 a3 h3 a4 h4 a5 h5 a6 h6 a7 h7 a8 h8 a9 h9 a10 h10 a11 h11 a12 h12 a13 h13 hc x0 x1 x2 x3 x4 x5 x6 x7 acc bcc
    = addf acc (gainV x0 x1 (k0_pay30 (F := Ideal) x1)) := by
  unfold out0_B_11 kernelRun0_B
  refine (read_whole _ _ _ _).trans ?_
  unfold kernelRun0_B.sl.r_1 kernelRun0_B.sl.r_3
  simp only [readAt_cut, h1.read_unread, h2.read_unread, h12.read_unread, cut_mat]
  exact pay10 _ _ _

theorem out12_B (hc) : out0_B_12 c i a1 h1 a2 h2 a3 h3 a4 h4 a5 h5 a6 h6 a7 h7 a8 h8 a9 h9 a10 h10 a11 h11 a12 h12 a13 h13 hc x0 x1 x2 x3 x4 x5 x6 x7 acc bcc
    = addf bcc (gainV (dcV x0 x1 x3 x4 x5 x6) x2 (k0_pay30 (F := Ideal) x2)) := by
  unfold out0_B_12 kernelRun0_B
  refine (read_whole _ _ _ _).trans ?_
  simp only [readAt_cut, h13.read_unread, cut_mat]
  exact r15 x0 x1 x2 x3 x4 x5 x6 c a1 h1 a2 h2 a3 h3 a4 h4 a5 h5 a6 h6 a7 h7 _

theorem out8_A (hc) : out0_A_8 c i a1 h1 a2 h2 a3 h3 a4 h4 a5 h5 a6 h6 a7 h7 a8 h8 a9 h9 a10 h10 a11 h11 a12 h12 a13 h13 hc x0 x1 x2 x3 x4 x5 x6 x7
    = dffV x0 x1 x6 := by
  unfold out0_A_8 kernelRun0_A
  simp only [readAt_cut, h1.read_unread, h2.read_unread, h7.read_unread, cut_mat]
  exact read_whole _ _ _ _

theorem out9_A (hc) (r : Fin 512) (k : Fin 8) (s : Fin 512) : out0_A_9 c i a1 h1 a2 h2 a3 h3 a4 h4 a5 h5 a6 h6 a7 h7 a8 h8 a9 h9 a10 h10 a11 h11 a12 h12 a13 h13 hc x0 x1 x2 x3 x4 x5 x6 x7 (ValueIdx.ix2 r (at8 k s))
    = gateV x0 x1 x3 x5 x6 k (ValueIdx.ix2 r s) := by
  unfold out0_A_9 kernelRun0_A
  refine read_cols (Val := Elt Ideal) (e := .bf16) VO0_9 _ _ _ _ _ _ _ _ _ _ (gateV x0 x1 x3 x5 x6) (fun k => ?_) r k s
  exact tiles x0 x1 x3 x5 x6 c a1 h1 a2 h2 a4 h4 a6 h6 a7 h7 k

theorem out10_A (hc) : out0_A_10 c i a1 h1 a2 h2 a3 h3 a4 h4 a5 h5 a6 h6 a7 h7 a8 h8 a9 h9 a10 h10 a11 h11 a12 h12 a13 h13 hc x0 x1 x2 x3 x4 x5 x6 x7
    = addf x0 (backV (dcV x0 x1 x3 x4 x5 x6) x2 x7 (k0_pay30 (F := Ideal) x2)) := by
  unfold out0_A_10 kernelRun0_A
  refine (read_whole _ _ _ _).trans (congrArg₂ addf ?_ (r14 x0 x1 x2 x3 x4 x5 x6 x7 c a1 h1 a2 h2 a3 h3 a4 h4 a5 h5 a6 h6 a7 h7 a8 h8))
  unfold kernelRun0_A.sl.r
  rw [readAt_cut, h1.read_unread, cut_mat]

theorem out11_A (hc) : out0_A_11 c i a1 h1 a2 h2 a3 h3 a4 h4 a5 h5 a6 h6 a7 h7 a8 h8 a9 h9 a10 h10 a11 h11 a12 h12 a13 h13 hc x0 x1 x2 x3 x4 x5 x6 x7
    = addf (k0_pay3 (F := Ideal)) (gainV x0 x1 (k0_pay30 (F := Ideal) x1)) := by
  unfold out0_A_11 kernelRun0_A
  refine (read_whole _ _ _ _).trans ?_
  unfold kernelRun0_A.sl.r_1 kernelRun0_A.sl.r_3 kernelRun0_A.sl.v37 kernelRun0_A.sl.H11_1
  simp only [readAt_cut, h1.read_unread, h2.read_unread, cut_mat]
  exact (congrArg (fun b => k0_pay10 (F := Ideal) _ (k0_pay9 (F := Ideal) b)) (fill_row (Val := Elt Ideal) (e := .f32) _ _)).trans (pay10 _ _ _)

theorem out12_A (hc) : out0_A_12 c i a1 h1 a2 h2 a3 h3 a4 h4 a5 h5 a6 h6 a7 h7 a8 h8 a9 h9 a10 h10 a11 h11 a12 h12 a13 h13 hc x0 x1 x2 x3 x4 x5 x6 x7
    = addf (k0_pay4 (F := Ideal)) (gainV (dcV x0 x1 x3 x4 x5 x6) x2 (k0_pay30 (F := Ideal) x2)) := by
  unfold out0_A_12 kernelRun0_A
  refine (read_whole _ _ _ _).trans ?_
  unfold kernelRun0_A.sl.v210 kernelRun0_A.sl.H12_1
  exact (congrArg (k0_pay2 (F := Ideal) _) (fill_row (Val := Elt Ideal) (e := .f32) _ _)).trans <| r15 x0 x1 x2 x3 x4 x5 x6 c a1 h1 a2 h2 a3 h3 a4 h4 a5 h5 a6 h6 a7 h7 _

end Cert.Proof.Ffn

end
-- ==== Proof.FfnBlock.lean ====
/-
  A point of the feed-forward layer's backward kernel, over rows `512 t, …, 512 t + 511` of the layer.
-/
module

public import proofs.«01_k».proof.Proof.FfnOut

@[expose] public section

noncomputable section

namespace Cert.Proof.Ffn

open Cert.Kernel2Ideal Cert.Kernel2Ideal.Gen Idealize.ShloMosaic

/-- `n` blocks of `p` rows. -/
theorem sum_blocks (p : ℕ) (g : ℕ → EReal) (n : ℕ) :
    (∑ t ∈ Finset.range n, ∑ r : Fin p, g (p * t + r.val)) = ∑ s ∈ Finset.range (p * n), g s := by
  have h : ∀ t, (∑ r : Fin p, g (p * t + r.val)) = ∑ r ∈ Finset.range p, g (p * t + r) :=
    fun t => Fin.sum_univ_eq_sum_range (fun r => g (p * t + r)) p
  simp only [h]
  induction n with
  | zero => simp
  | succ n ih => rw [Finset.sum_range_succ, ih, Nat.mul_succ, Finset.sum_range_add]

/-- What a block's arrays are of the layer's. -/
structure Block (A : Args) (R : ℕ) (x0 x1 x2 : Vec Ideal S512x1024 .f32) (x3 : Vec Ideal S512x4096 .bf16) (x4 : Vec Ideal S8x1024x512 .bf16)
    (x5 : Vec Ideal S8x512x1024 .bf16) (x6 x7 : Vec Ideal S1x1024 .f32) : Prop where
  dh : ∀ r a, x0 (ValueIdx.ix2 r a) = A.dh (R + r.val) a
  ff : ∀ r a, x1 (ValueIdx.ix2 r a) = A.ff (R + r.val) a
  h : ∀ r a, x2 (ValueIdx.ix2 r a) = A.h (R + r.val) a
  f : ∀ r k, x3 (ValueIdx.ix2 r k) = A.f (R + r.val) k
  w1 : ∀ j a s, x4 (ValueIdx.ix3 j a s) = A.w1 a (at8 j s)
  w2 : ∀ j s a, x5 (ValueIdx.ix3 j s a) = A.w2 (at8 j s) a
  gpost : ∀ a, x6 (ValueIdx.ix2 0 a) = A.gpost a
  gpre : ∀ a, x7 (ValueIdx.ix2 0 a) = A.gpre a

namespace Block

variable {A : Args} {R : ℕ} {x0 x1 x2 : Vec Ideal S512x1024 .f32} {x3 : Vec Ideal S512x4096 .bf16} {x4 : Vec Ideal S8x1024x512 .bf16}
  {x5 : Vec Ideal S8x512x1024 .bf16} {x6 x7 : Vec Ideal S1x1024 .f32} (B : Block A R x0 x1 x2 x3 x4 x5 x6 x7)

theorem pay8_eq : dffV x0 x1 x6 = (truncf .bf16 (backV x0 x1 x6 (k0_pay30 (F := Ideal) x1)) bitsLt_bf16_f32 : FVec Ideal S512x1024 .bf16) := by
  show (truncf .bf16 (backV x0 (k0_pay5 (F := Ideal) x1) x6 (k0_pay6 (F := Ideal) x1)) bitsLt_bf16_f32 : FVec Ideal S512x1024 .bf16) = _
  rw [whole, pay6_eq]

include B

theorem dff (r : Fin 512) (a : Fin 1024) : dffV x0 x1 x6 (ValueIdx.ix2 r a) = A.dff (R + r.val) a := by
  rw [pay8_eq]
  refine (back_at x0 x1 x6 r a).trans ?_
  unfold Args.dff row
  simp only [B.dh, B.ff, B.gpost]

theorem df (j : Fin 8) (r s : Fin 512) : gateV x0 x1 x3 x5 x6 j (ValueIdx.ix2 r s) = A.df (R + r.val) (at8 j s) := by
  unfold gateV
  rw [gate_at, show cut (strip j) x3 (ValueIdx.ix2 r s) = A.f (R + r.val) (at8 j s) from (congrArg x3 (strip_emb j r s)).trans (B.f _ _)]
  simp only [B.dff, cut_slab, B.w2]
  rfl

theorem sum (n : ℕ) (r : Fin 512) (a : Fin 1024) : sumV x0 x1 x3 x4 x5 x6 n (ValueIdx.ix2 r a)
    = ∑ j ∈ Finset.range n, ∑ s : Fin 512, A.df (R + r.val) (at8 (Fin.ofNat 8 j) s) * A.w1 a (at8 (Fin.ofNat 8 j) s) := by
  induction n with
  | zero => exact zero_at _
  | succ n ih =>
    rw [Finset.sum_range_succ, ← ih]
    refine (step_at _ _ _ r a).trans ?_
    simp only [B.df, cut_slab, B.w1]

theorem dc (r : Fin 512) (a : Fin 1024) : dcV x0 x1 x3 x4 x5 x6 (ValueIdx.ix2 r a) = A.dc (R + r.val) a := by
  refine (B.sum 8 r a).trans ?_
  unfold Args.dc
  let g : ℕ → EReal := fun k => A.df (R + r.val) (Fin.ofNat 4096 k) * A.w1 a (Fin.ofNat 4096 k)
  have h : ∀ j ∈ Finset.range 8, (∑ s : Fin 512, A.df (R + r.val) (at8 (Fin.ofNat 8 j) s) * A.w1 a (at8 (Fin.ofNat 8 j) s))
      = ∑ s : Fin 512, g (512 * j + s.val) := fun j hj => Finset.sum_congr rfl fun s _ => by
    have hj := Finset.mem_range.mp hj
    have : at8 (Fin.ofNat 8 j) s = Fin.ofNat 4096 (512 * j + s.val) := Fin.ext (by
      show 512 * (j % 8) + s.val = (512 * j + s.val) % 4096
      omega)
    rw [this]
  rw [Finset.sum_congr rfl h, sum_blocks 512 g 8]
  exact (Fin.sum_univ_eq_sum_range g 4096).symm.trans (Finset.sum_congr rfl fun k _ => by simp only [g, Fin.ofNat_val_eq_self])

theorem dx (r : Fin 512) (a : Fin 1024) :
    addf x0 (backV (dcV x0 x1 x3 x4 x5 x6) x2 x7 (k0_pay30 (F := Ideal) x2)) (ValueIdx.ix2 r a) = A.dx (R + r.val) a := by
  refine congrArg₂ (· + ·) (B.dh r a) ((back_at _ x2 x7 r a).trans ?_)
  unfold row
  simp only [B.dc, B.h, B.gpre]

theorem post (z : Fin 1) (a : Fin 1024) : gainV x0 x1 (k0_pay30 (F := Ideal) x1) (ValueIdx.ix2 z a) = ∑ r : Fin 512, A.postRow (R + r.val) a := by
  rw [gain_at]
  unfold Args.postRow row
  simp only [B.dh, B.ff]

theorem pre (z : Fin 1) (a : Fin 1024) :
    gainV (dcV x0 x1 x3 x4 x5 x6) x2 (k0_pay30 (F := Ideal) x2) (ValueIdx.ix2 z a) = ∑ r : Fin 512, A.preRow (R + r.val) a := by
  rw [gain_at]
  unfold Args.preRow row
  simp only [B.dc, B.h]

end Block

end Cert.Proof.Ffn

end
-- ==== Proof.FfnArray.lean ====
/-
  The feed-forward layer's backward kernel, over all its points.
-/
module

public import proofs.«01_k».proof.Proof.FfnHost
public import proofs.«01_k».proof.Proof.FfnBlock
public import Idealize.ShloMosaic.Lib.Pipeline.ValueKit

@[expose] public section

set_option maxRecDepth 16384

noncomputable section

namespace Cert.Proof.Ffn

open Cert.Kernel2Ideal Cert.Kernel2Ideal.Gen Idealize.ShloMosaic Idealize.ShloMosaic.TcCoe
open Cert.Reference2Ideal.Read

/-- The layer's arrays. -/
def argsOf (dh h : Vec Ideal S8192x1024 .f32) (w1 : Vec Ideal S1024x4096 .f32) (w2 : Vec Ideal S4096x1024 .f32)
    (gpre gpost : Vec Ideal S1x1024 .f32) : Args where
  dh t a := num (n := 8192) (m := 1024) dh t a.val
  h t a := num (n := 8192) (m := 1024) h t a.val
  f t k := num (n := 8192) (m := 4096) (val_main_v17 (F := Ideal) h w1 gpre) t k.val
  ff t a := num (n := 8192) (m := 1024) (val_main_v26 (F := Ideal) h w1 w2 gpre) t a.val
  w1 a k := w1 (ValueIdx.ix2 a k)
  w2 k a := w2 (ValueIdx.ix2 k a)
  gpre a := gpre (ValueIdx.ix2 0 a)
  gpost a := gpost (ValueIdx.ix2 0 a)

variable (m : (ℓ : Loc nD τ sig) → Buf (Elt Ideal) ℓ) (c : Dev nD)

abbrev args : Args := argsOf (m (c.tc.loc main_arg0)) (m (c.tc.loc main_arg1)) (m (c.tc.loc main_arg2)) (m (c.tc.loc main_arg3))
  (m (c.tc.loc main_arg4)) (m (c.tc.loc main_arg5))

theorem places : ∀ t : Fin grid0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![0, 0] ∧ win0_8.index t = ![t.val, 0] ∧ win0_9.index t = ![t.val, 0] ∧ win0_10.index t = ![t.val, 0] := by
  decide +kernel

/-- A row of a window's block is a row of its array. -/
theorem rows_at {n w : ℕ} [NeZero n] [NeZero w] {f : ℕ → ℕ → EReal} (x : (⟨2, ![n, w]⟩ : Shape).Idx → EReal) (i : (⟨2, ![n, w]⟩ : Shape).Idx) {r k : ℕ}
    (hf : f = num x) (h0 : (i 0).val = r) (h1 : (i 1).val = k) : x i = f r k := by
  subst hf h0 h1
  exact num_eq x i

theorem dh_block (t : Fin cfg0.N) (r : Fin 512) (a : Fin 1024) : iblk m c 0 t (ValueIdx.ix2 r a) = (args m c).dh (512 * t.val + r.val) a := by
  obtain ⟨e, -⟩ := places t
  show V m c main_arg0 (((cfg0.win 0).blk t).view.emb (ValueIdx.ix2 r a)) = _
  rw [V_main_arg0]
  refine rows_at (n := 8192) (w := 1024) _ _ rfl ?_ ?_ <;> blk_simp [e]
  rw [Nat.mul_comm]

theorem ff_block (t : Fin cfg0.N) (r : Fin 512) (a : Fin 1024) : iblk m c 1 t (ValueIdx.ix2 r a) = (args m c).ff (512 * t.val + r.val) a := by
  obtain ⟨-, e, -⟩ := places t
  show V m c main_v15 (((cfg0.win 1).blk t).view.emb (ValueIdx.ix2 r a)) = _
  rw [V_second]
  refine rows_at (n := 8192) (w := 1024) _ _ rfl ?_ ?_ <;> blk_simp [e]
  rw [Nat.mul_comm]

theorem h_block (t : Fin cfg0.N) (r : Fin 512) (a : Fin 1024) : iblk m c 2 t (ValueIdx.ix2 r a) = (args m c).h (512 * t.val + r.val) a := by
  obtain ⟨-, -, e, -⟩ := places t
  show V m c main_arg1 (((cfg0.win 2).blk t).view.emb (ValueIdx.ix2 r a)) = _
  rw [V_main_arg1]
  refine rows_at (n := 8192) (w := 1024) _ _ rfl ?_ ?_ <;> blk_simp [e]
  rw [Nat.mul_comm]

theorem f_block (t : Fin cfg0.N) (r : Fin 512) (k : Fin 4096) : iblk m c 3 t (ValueIdx.ix2 r k) = (args m c).f (512 * t.val + r.val) k := by
  obtain ⟨-, -, -, e, -⟩ := places t
  show V m c main_v16 (((cfg0.win 3).blk t).view.emb (ValueIdx.ix2 r k)) = _
  rw [V_first]
  refine rows_at (n := 8192) (w := 4096) _ _ rfl ?_ ?_ <;> blk_simp [e]
  rw [Nat.mul_comm]

theorem w1_block (t : Fin cfg0.N) (j : Fin 8) (a : Fin 1024) (s : Fin 512) : iblk m c 4 t (ValueIdx.ix3 j a s) = (args m c).w1 a (at8 j s) := by
  obtain ⟨-, -, -, -, e, -⟩ := places t
  show V m c main_v19 (((cfg0.win 4).blk t).view.emb (ValueIdx.ix3 j a s)) = _
  have he : ((cfg0.win 4).blk t).view.emb (ValueIdx.ix3 j a s) = (ValueIdx.ix3 j a s : S8x1024x512.Idx) := by
    funext y
    fin_cases y <;> refine Fin.ext ?_ <;> blk_simp [e]
  rw [he, V_w1]
  pointwise []
  refine congrArg (m (c.tc.loc main_arg2)) ?_
  funext y
  fin_cases y <;> refine Fin.ext ?_
  all_goals first | rfl | exact congrArg (· + s.val) (Nat.mul_comm j.val 512)

theorem w2_block (t : Fin cfg0.N) (j : Fin 8) (a : Fin 1024) (s : Fin 512) : iblk m c 5 t (ValueIdx.ix3 j s a) = (args m c).w2 (at8 j s) a := by
  obtain ⟨-, -, -, -, -, e, -⟩ := places t
  show V m c main_v21 (((cfg0.win 5).blk t).view.emb (ValueIdx.ix3 j s a)) = _
  have he : ((cfg0.win 5).blk t).view.emb (ValueIdx.ix3 j s a) = (ValueIdx.ix3 j s a : S8x512x1024.Idx) := by
    funext y
    fin_cases y <;> refine Fin.ext ?_ <;> blk_simp [e]
  rw [he, V_w2]
  exact shapeCast_apply _ shapeCasts_S4096x1024_S8x512x1024 (ValueIdx.ix3 j s a) (ValueIdx.ix2 (at8 j s) a) (by
    rewrite [Shape.rowMajor_val_two, Shape.rowMajor_val_three]
    show (512 * j.val + s.val) * 1024 + a.val = (j.val * 512 + s.val) * 1024 + a.val
    omega)

theorem gpost_block (t : Fin cfg0.N) (a : Fin 1024) : iblk m c 6 t (ValueIdx.ix2 0 a) = (args m c).gpost a := by
  obtain ⟨-, -, -, -, -, -, e, -⟩ := places t
  show V m c main_arg5 (((cfg0.win 6).blk t).view.emb (ValueIdx.ix2 0 a)) = _
  have he : ((cfg0.win 6).blk t).view.emb (ValueIdx.ix2 0 a) = (ValueIdx.ix2 0 a : S1x1024.Idx) := by
    funext y
    fin_cases y <;> refine Fin.ext ?_ <;> blk_simp [e]
  rw [he, V_main_arg5]
  rfl

theorem gpre_block (t : Fin cfg0.N) (a : Fin 1024) : iblk m c 7 t (ValueIdx.ix2 0 a) = (args m c).gpre a := by
  obtain ⟨-, -, -, -, -, -, -, e, -⟩ := places t
  show V m c main_arg4 (((cfg0.win 7).blk t).view.emb (ValueIdx.ix2 0 a)) = _
  have he : ((cfg0.win 7).blk t).view.emb (ValueIdx.ix2 0 a) = (ValueIdx.ix2 0 a : S1x1024.Idx) := by
    funext y
    fin_cases y <;> refine Fin.ext ?_ <;> blk_simp [e]
  rw [he, V_main_arg4]
  rfl

theorem block (t : Fin cfg0.N) : Block (args m c) (512 * t.val) (iblk m c 0 t) (iblk m c 1 t) (iblk m c 2 t) (iblk m c 3 t) (iblk m c 4 t) (iblk m c 5 t) (iblk m c 6 t) (iblk m c 7 t) where
  dh := dh_block m c t
  ff := ff_block m c t
  h := h_block m c t
  f := f_block m c t
  w1 j a s := w1_block m c t j a s
  w2 j s a := w2_block m c t j a s
  gpost := gpost_block m c t
  gpre := gpre_block m c t

theorem at_dff (t : Fin cfg0.N) (r : Fin 512) (a : Fin 1024) :
    (outsAt0 m c t.val t.isLt).1 (ValueIdx.ix2 r a) = (args m c).dff (512 * t.val + r.val) a := by
  rw [← (block m c t).dff]
  by_cases h : t.val % 16 = 0
  · rw [outsAt0_A m c t h, out8_A]
  · rw [outsAt0_B m c t h, out8_B]

theorem at_df (t : Fin cfg0.N) (r : Fin 512) (j : Fin 8) (s : Fin 512) :
    (outsAt0 m c t.val t.isLt).2.1 (ValueIdx.ix2 r (at8 j s)) = (args m c).df (512 * t.val + r.val) (at8 j s) := by
  rw [← (block m c t).df]
  by_cases h : t.val % 16 = 0
  · rw [outsAt0_A m c t h]; dsimp only; rw [out9_A]
  · rw [outsAt0_B m c t h]; dsimp only; rw [out9_B]

theorem at_dx (t : Fin cfg0.N) (r : Fin 512) (a : Fin 1024) :
    (outsAt0 m c t.val t.isLt).2.2.1 (ValueIdx.ix2 r a) = (args m c).dx (512 * t.val + r.val) a := by
  rw [← (block m c t).dx]
  by_cases h : t.val % 16 = 0
  · rw [outsAt0_A m c t h, out10_A]
  · rw [outsAt0_B m c t h, out10_B]

theorem pay3_at (i : S1x1024.Idx) : k0_pay3 (F := Ideal) i = 0 := by
  pointwise [k0_pay3]

theorem pay4_at (i : S1x1024.Idx) : k0_pay4 (F := Ideal) i = 0 := by
  pointwise [k0_pay4]

/-- The sums over the points so far. -/
theorem at_gains (n : ℕ) : ∀ (hn : n < cfg0.N) (z : Fin 1) (a : Fin 1024),
    (outsAt0 m c n hn).2.2.2.1 (ValueIdx.ix2 z a) = ∑ t ∈ Finset.range (n + 1), ∑ r : Fin 512, (args m c).postRow (512 * t + r.val) a
    ∧ (outsAt0 m c n hn).2.2.2.2 (ValueIdx.ix2 z a) = ∑ t ∈ Finset.range (n + 1), ∑ r : Fin 512, (args m c).preRow (512 * t + r.val) a := by
  induction n with
  | zero =>
    intro hn z a
    have B := block m c ⟨0, hn⟩
    rw [outsAt0_A m c ⟨0, hn⟩ rfl, out11_A, out12_A, Finset.sum_range_one, Finset.sum_range_one, ← B.post z a, ← B.pre z a]
    exact ⟨(congrArg (· + _) (pay3_at _)).trans (zero_add _), (congrArg (· + _) (pay4_at _)).trans (zero_add _)⟩
  | succ n ih =>
    intro hn z a
    have h16 : n + 1 < 16 := hn
    have B := block m c ⟨n + 1, hn⟩
    rw [outsAt0_B m c ⟨n + 1, hn⟩ (by show ¬(n + 1) % 16 = 0; omega), out11_B, out12_B, Finset.sum_range_succ, Finset.sum_range_succ _ (n + 1), ← B.post z a, ← B.pre z a]
    obtain ⟨h1, h2⟩ := ih (Nat.lt_of_succ_lt hn) z a
    exact ⟨congrArg (· + _) h1, congrArg (· + _) h2⟩

/-- An array by its rows. -/
def mat (w : ℕ) [NeZero w] (f : ℕ → Fin w → EReal) (i : (⟨2, ![8192, w]⟩ : Shape).Idx) : EReal := f (i 0).val (Fin.ofNat w (i 1).val)

theorem array_dff : (dats m 0 c).arrAt 8 cfg0.N = mat 1024 (args m c).dff := by
  refine (dats m 0 c).arrAt_eq_of_covers 8 _ (by decide +kernel) fun t hf y => ?_
  obtain ⟨-, -, -, -, -, -, -, -, e, -⟩ := places t
  refine (congrFun (Cert.Kernel2Ideal.Gen.after0_8 m c t) y).trans ?_
  obtain ⟨r, a, rfl⟩ : ∃ (r : Fin 512) (a : Fin 1024), y = ValueIdx.ix2 r a := ⟨y 0, y 1, ValueIdx.eq_ix2 y⟩
  refine (at_dff m c t r a).trans ?_
  unfold mat
  blk_simp [e]
  rw [Nat.mul_comm]
  exact congrArg _ (Fin.ofNat_val_eq_self a).symm

theorem array_dx : (dats m 0 c).arrAt 10 cfg0.N = mat 1024 (args m c).dx := by
  refine (dats m 0 c).arrAt_eq_of_covers 10 _ (by decide +kernel) fun t hf y => ?_
  obtain ⟨-, -, -, -, -, -, -, -, -, -, e⟩ := places t
  refine (congrFun (Cert.Kernel2Ideal.Gen.after0_10 m c t) y).trans ?_
  obtain ⟨r, a, rfl⟩ : ∃ (r : Fin 512) (a : Fin 1024), y = ValueIdx.ix2 r a := ⟨y 0, y 1, ValueIdx.eq_ix2 y⟩
  refine (at_dx m c t r a).trans ?_
  unfold mat
  blk_simp [e]
  rw [Nat.mul_comm]
  exact congrArg _ (Fin.ofNat_val_eq_self a).symm

theorem array_df : (dats m 0 c).arrAt 9 cfg0.N = mat 4096 (args m c).df := by
  refine (dats m 0 c).arrAt_eq_of_covers 9 _ (by decide +kernel) fun t hf y => ?_
  obtain ⟨-, -, -, -, -, -, -, -, -, e, -⟩ := places t
  refine (congrFun (Cert.Kernel2Ideal.Gen.after0_9 m c t) y).trans ?_
  obtain ⟨r, k, rfl⟩ : ∃ (r : Fin 512) (k : Fin 4096), y = ValueIdx.ix2 r k := ⟨y 0, y 1, ValueIdx.eq_ix2 y⟩
  obtain ⟨j, s, rfl⟩ : ∃ (j : Fin 8) (s : Fin 512), k = at8 j s :=
    ⟨⟨k.val / 512, by omega⟩, ⟨k.val % 512, by omega⟩, Fin.ext (by show k.val = 512 * (k.val / 512) + k.val % 512; omega)⟩
  refine (at_df m c t r j s).trans ?_
  unfold mat
  blk_simp [e]
  rw [Nat.mul_comm]
  exact congrArg _ (Fin.ofNat_val_eq_self (at8 j s)).symm

/-- The sum over all rows. -/
def sums (f : ℕ → Fin 1024 → EReal) (i : S1x1024.Idx) : EReal := ∑ t : Fin 8192, f t.val (i 1)

theorem all_rows (g : ℕ → EReal) : (∑ t ∈ Finset.range (15 + 1), ∑ r : Fin 512, g (512 * t + r.val)) = ∑ t : Fin 8192, g t.val :=
  (sum_blocks 512 g 16).trans (Fin.sum_univ_eq_sum_range g 8192).symm

theorem array_post : (dats m 0 c).arrAt 11 cfg0.N = sums (args m c).postRow := by
  refine (dats m 0 c).arrAt_eq_of_after_last 11 (t₀ := (⟨15, by decide⟩ : Fin grid0.N)) (by decide +kernel) _ fun j => ?_
  refine (congrFun (Cert.Kernel2Ideal.Gen.after0_11 m c _) j).trans ?_
  obtain ⟨z, a, rfl⟩ : ∃ (z : Fin 1) (a : Fin 1024), j = ValueIdx.ix2 z a := ⟨j 0, j 1, ValueIdx.eq_ix2 j⟩
  exact (at_gains m c 15 _ z a).1.trans (all_rows fun t => (args m c).postRow t a)

theorem array_pre : (dats m 0 c).arrAt 12 cfg0.N = sums (args m c).preRow := by
  refine (dats m 0 c).arrAt_eq_of_after_last 12 (t₀ := (⟨15, by decide⟩ : Fin grid0.N)) (by decide +kernel) _ fun j => ?_
  refine (congrFun (Cert.Kernel2Ideal.Gen.after0_12 m c _) j).trans ?_
  obtain ⟨z, a, rfl⟩ : ∃ (z : Fin 1) (a : Fin 1024), j = ValueIdx.ix2 z a := ⟨j 0, j 1, ValueIdx.eq_ix2 j⟩
  exact (at_gains m c 15 _ z a).2.trans (all_rows fun t => (args m c).preRow t a)

end Cert.Proof.Ffn

end
-- ==== Proof.FfnRef.lean ====
/-
  The reference's cotangents of the feed-forward layer, an entry at a time.
-/
module

public import proofs.«01_k».proof.Proof.FfnArray

@[expose] public section

set_option maxRecDepth 16384

noncomputable section

namespace Cert.Proof.Ffn

open Cert.Reference2Ideal Cert.Reference2Ideal.Read Idealize.ShloMosaic

theorem ix2_of {n m : ℕ} (i : (⟨2, ![n, m]⟩ : Shape).Idx) (a : Fin n) (b : Fin m) (h0 : (i 0).val = a.val) (h1 : (i 1).val = b.val) :
    i = ValueIdx.ix2 a b := by
  funext y
  fin_cases y
  · exact Fin.ext h0
  · exact Fin.ext h1

abbrev zeroed (x : EReal) : Ideal.ofBits .f32 0x00000000#32 + x = x := (congrArg (· + x) Ideal.ofBits_zero_f32).trans (zero_add x)

/-! The norm's rows, of any array. -/

section norm

variable (y : Vec Ideal S8192x1024 .f32) (t : Fin 8192)

theorem ms_at : val_main_v8 (F := Ideal) y (ValueIdx.ix2 t 0) = ms (row y t) := by
  rw [val_main_v8_apply, val_main_v6_apply, val_main_v4_apply, val_main_v3_apply, val_main_v5_apply, val_main_v7_apply,
    val_main_cst_1_apply, val_main_cst_2_apply, val_main_cst_3_apply]
  refine congrArg₂ (· + ·) (congrArg₂ Ideal.div ((zeroed _).trans (Finset.sum_congr rfl fun k _ => ?_)) rfl) rfl
  rw [val_main_v2_apply, ix2_of (idx_main_v3 (idx_main_v4 (ValueIdx.ix2 t 0)) k) t k rfl rfl]
  rfl

theorem inv_row : val_main_v9 (F := Ideal) y (ValueIdx.ix2 t 0) = inv (row y t) := by
  rw [val_main_v9_apply, ms_at]
  rfl

theorem normed_at (a : Fin 1024) : val_main_v14 (F := Ideal) y (ValueIdx.ix2 t a) = row y t a * inv (row y t) := by
  rw [val_main_v14_apply, val_main_v13_apply, ix2_of (idx_main_v13 (ValueIdx.ix2 t a)) t 0 rfl rfl, inv_row]
  rfl

theorem factor_at : val_main_v12 (F := Ideal) y (ValueIdx.ix2 t 0) = nhalf * Ideal.div (inv (row y t)) (ms (row y t)) := by
  rw [val_main_v12_apply, val_main_v11_apply, val_main_v10_apply, val_main_cst_4_apply, inv_row, ms_at]
  rfl

end norm

variable (x0 x1 : Vec Ideal S8192x1024 .f32) (x2 : Vec Ideal S1024x4096 .f32) (x3 : Vec Ideal S4096x1024 .f32) (x4 x5 : Vec Ideal S1x1024 .f32)
  (t : Fin 8192)

abbrev A : Args := argsOf x0 x1 x2 x3 x4 x5

theorem dh_row : (A x0 x1 x2 x3 x4 x5).dh t.val = row x0 t := funext fun a => (num_eq (n := 8192) (m := 1024) x0 (ValueIdx.ix2 t a)).symm
theorem h_row : (A x0 x1 x2 x3 x4 x5).h t.val = row x1 t := funext fun a => (num_eq (n := 8192) (m := 1024) x1 (ValueIdx.ix2 t a)).symm
theorem f_row : (A x0 x1 x2 x3 x4 x5).f t.val = row (val_main_v17 (F := Ideal) x1 x2 x4) t :=
  funext fun a => (num_eq (n := 8192) (m := 4096) (val_main_v17 (F := Ideal) x1 x2 x4) (ValueIdx.ix2 t a)).symm
theorem ff_row : (A x0 x1 x2 x3 x4 x5).ff t.val = row (val_main_v26 (F := Ideal) x1 x2 x3 x4) t :=
  funext fun a => (num_eq (n := 8192) (m := 1024) (val_main_v26 (F := Ideal) x1 x2 x3 x4) (ValueIdx.ix2 t a)).symm

/-! The second norm is the first one's, of the second product. -/

theorem v35_eq : val_main_v35 (F := Ideal) x1 x2 x3 x4 = val_main_v9 (F := Ideal) (val_main_v26 (F := Ideal) x1 x2 x3 x4) := by
  rw [← v27_eq]
  rfl
theorem v38_eq : val_main_v38 (F := Ideal) x1 x2 x3 x4 = val_main_v12 (F := Ideal) (val_main_v26 (F := Ideal) x1 x2 x3 x4) := by
  rw [← v27_eq]
  rfl
theorem v40_eq : val_main_v40 (F := Ideal) x1 x2 x3 x4 = val_main_v14 (F := Ideal) (val_main_v26 (F := Ideal) x1 x2 x3 x4) := by
  rw [← v27_eq]
  rfl
theorem v44_eq : val_main_v44 (F := Ideal) x0 = x0 := shapeCast_self _ _

/-! The cotangent at the second product. -/

theorem up_at (a : Fin 1024) : val_main_v49 (F := Ideal) x0 x5 (ValueIdx.ix2 t a) = row x0 t a * row x5 0 a := by
  rw [val_main_v49_apply, v44_eq, val_main_v48_apply, ix2_of (idx_main_v48 (ValueIdx.ix2 t a)) 0 a rfl rfl]
  rfl

theorem slope_post (a : Fin 1024) : val_main_v59 (F := Ideal) x0 x1 x2 x3 x4 x5 (ValueIdx.ix2 t a)
    = slope (row (val_main_v26 (F := Ideal) x1 x2 x3 x4) t) (fun b => row x0 t b * row x5 0 b) := by
  rw [val_main_v59_apply, val_main_v58_apply, val_main_cst_15_apply]
  refine (zeroed _).trans ?_
  rw [Fin.sum_univ_one, ix2_of (idx_main_v58 (idx_main_v59 (ValueIdx.ix2 t a)) 0) t 0 rfl rfl, val_main_v57_apply, val_main_v56_apply,
    val_main_v55_apply, v38_eq, factor_at, val_main_v52_apply, val_main_v51_apply, val_main_cst_13_apply, val_main_cst_14_apply]
  refine congrArg₂ Ideal.div (congrArg₂ (· * ·) ((zeroed _).trans (Finset.sum_congr rfl fun k _ => ?_)) rfl) rfl
  rw [ix2_of (idx_main_v51 (idx_main_v52 (ValueIdx.ix2 t 0)) k) t k (by show t.val * 1 + 0 = t.val; omega) rfl, val_main_v50_apply, v27_eq, up_at]
  rfl

theorem dff_at (a : Fin 1024) : val_main_v63 (F := Ideal) x0 x1 x2 x3 x4 x5 (ValueIdx.ix2 t a) = (A x0 x1 x2 x3 x4 x5).dff t.val a := by
  unfold Args.dff
  rw [ff_row, dh_row]
  refine Eq.trans ?_ (back_eq _ (fun b => row x0 t b * row x5 0 b) a)
  rw [val_main_v63_apply, val_main_v61_apply, val_main_v54_apply, val_main_v53_apply, val_main_v60_apply, val_main_v62_apply, slope_post, v27_eq,
    up_at, v35_eq, ix2_of (idx_main_v53 (ValueIdx.ix2 t a)) t 0 rfl rfl, inv_row]
  rfl

/-! The cotangent at the first product. -/

theorem select_gate (d f : EReal) : Scalar.select (FloatOps.cmpf (F := Ideal) (φ := .f32) .ogt f (0 : EReal)) (d * (two * max f 0)) (0 : EReal)
    = d * (two * max f 0) := by
  refine Eq.trans ?_ (gate d f)
  show (if BitVec.ofBool (decide ((0 : EReal) < f)) = 1#1 then _ else _) = _
  by_cases h : (0 : EReal) < f
  · rw [if_pos h, decide_eq_true h]; rfl
  · rw [if_neg h, decide_eq_false h]; rfl

theorem df_at (k : Fin 4096) :
    val_main_v67 (F := Ideal) x0 x1 x2 x3 x4 x5 (ValueIdx.ix2 t k) = (A x0 x1 x2 x3 x4 x5).df t.val k := by
  have h64 : val_main_v64 (F := Ideal) x0 x1 x2 x3 x4 x5 (ValueIdx.ix2 t k)
      = ∑ a, (A x0 x1 x2 x3 x4 x5).dff t.val a * (A x0 x1 x2 x3 x4 x5).w2 k a := by
    rw [val_main_v64_apply]
    refine Finset.sum_congr rfl fun a _ => ?_
    rw [ix2_of (lidx_main_v64 (ValueIdx.ix2 t k) a) t a rfl rfl, ix2_of (ridx_main_v64 (ValueIdx.ix2 t k) a) k a rfl rfl, dff_at]
    rfl
  have hz : Ideal.ofBits .f32 0x00000000#32 = 0 := Ideal.ofBits_zero_f32
  unfold Args.df
  rw [f_row, val_main_v67_apply, val_main_v65_apply, val_main_v66_apply, val_main_v25_apply, val_main_v24_apply, val_main_v21_apply,
    val_main_v20_apply, val_main_v19_apply, val_main_call0_v0_apply, val_main_cst_16_apply, val_main_cst_7_apply, val_main_cst_5_apply,
    val_main_call0_cst_apply, v18_eq, h64]
  refine Eq.trans ?_ (select_gate _ _)
  show Scalar.select (FloatOps.cmpf (F := Ideal) (φ := .f32) .ogt _ (Ideal.ofBits .f32 0x00000000#32)) (_ * (_ * max _ (Ideal.ofBits .f32 0x00000000#32)))
    (Ideal.ofBits .f32 0x00000000#32) = _
  rw [hz]
  rfl

/-! The cotangent at the layer's input, and at the gains. -/

theorem dc_at (a : Fin 1024) :
    val_main_v68 (F := Ideal) x0 x1 x2 x3 x4 x5 (ValueIdx.ix2 t a) = (A x0 x1 x2 x3 x4 x5).dc t.val a := by
  rw [val_main_v68_apply]
  refine Finset.sum_congr rfl fun k _ => ?_
  rw [ix2_of (lidx_main_v68 (ValueIdx.ix2 t a) k) t k rfl rfl, ix2_of (ridx_main_v68 (ValueIdx.ix2 t a) k) a k rfl rfl, df_at]
  rfl

theorem down_at (a : Fin 1024) : val_main_v73 (F := Ideal) x0 x1 x2 x3 x4 x5 (ValueIdx.ix2 t a) = (A x0 x1 x2 x3 x4 x5).dc t.val a * row x4 0 a := by
  rw [val_main_v73_apply, dc_at, val_main_v72_apply, ix2_of (idx_main_v72 (ValueIdx.ix2 t a)) 0 a rfl rfl]
  rfl

theorem slope_pre (a : Fin 1024) : val_main_v84 (F := Ideal) x0 x1 x2 x3 x4 x5 (ValueIdx.ix2 t a)
    = slope (row x1 t) (fun b => (A x0 x1 x2 x3 x4 x5).dc t.val b * row x4 0 b) := by
  rw [val_main_v84_apply, val_main_v83_apply, val_main_cst_20_apply]
  refine (zeroed _).trans ?_
  rw [Fin.sum_univ_one, ix2_of (idx_main_v83 (idx_main_v84 (ValueIdx.ix2 t a)) 0) t 0 rfl rfl, val_main_v82_apply, val_main_v81_apply,
    val_main_v80_apply, factor_at, val_main_v76_apply, val_main_v75_apply, val_main_cst_18_apply, val_main_cst_19_apply]
  refine congrArg₂ Ideal.div (congrArg₂ (· * ·) ((zeroed _).trans (Finset.sum_congr rfl fun k _ => ?_)) rfl) rfl
  rw [ix2_of (idx_main_v75 (idx_main_v76 (ValueIdx.ix2 t 0)) k) t k (by show t.val * 1 + 0 = t.val; omega) rfl, val_main_v74_apply, down_at]
  rfl

theorem dx_at (a : Fin 1024) :
    val_main_v88 (F := Ideal) x0 x1 x2 x3 x4 x5 (ValueIdx.ix2 t a) = (A x0 x1 x2 x3 x4 x5).dx t.val a := by
  unfold Args.dx
  rw [h_row, dh_row]
  refine Eq.trans ?_ (congrArg (row x0 t a + ·) (back_eq _ (fun b => (A x0 x1 x2 x3 x4 x5).dc t.val b * row x4 0 b) a))
  rw [val_main_v88_apply, val_main_v86_apply, val_main_v79_apply, val_main_v78_apply, val_main_v77_apply, val_main_v85_apply, val_main_v87_apply,
    slope_pre, down_at, ix2_of (idx_main_v77 (ValueIdx.ix2 t a)) t 0 rfl rfl, inv_row]
  exact (congrArg (· + _) (add_assoc _ _ _)).trans (add_assoc _ _ _)

theorem post_at (z : Fin 1) (a : Fin 1024) : val_main_v47 (F := Ideal) x0 x1 x2 x3 x4 (ValueIdx.ix2 z a)
    = ∑ s : Fin 8192, (A x0 x1 x2 x3 x4 x5).postRow s.val a := by
  rw [val_main_v47_apply, val_main_v46_apply, val_main_cst_12_apply]
  refine (zeroed _).trans (Finset.sum_congr rfl fun s _ => ?_)
  have h1 : (idx_main_v46 (idx_main_v47 (ValueIdx.ix2 z a)) s 1).val = a.val := by
    show z.val * 1024 + a.val = a.val
    omega
  unfold Args.postRow
  rw [ix2_of (idx_main_v46 (idx_main_v47 (ValueIdx.ix2 z a)) s) s a rfl h1, val_main_v45_apply, v44_eq, v40_eq, normed_at, ff_row, dh_row]
  exact mul_comm _ _

theorem pre_at (z : Fin 1) (a : Fin 1024) : val_main_v71 (F := Ideal) x0 x1 x2 x3 x4 x5 (ValueIdx.ix2 z a)
      = ∑ s : Fin 8192, (A x0 x1 x2 x3 x4 x5).preRow s.val a := by
  rw [val_main_v71_apply, val_main_v70_apply, val_main_cst_17_apply]
  refine (zeroed _).trans (Finset.sum_congr rfl fun s _ => ?_)
  have h1 : (idx_main_v70 (idx_main_v71 (ValueIdx.ix2 z a)) s 1).val = a.val := by
    show z.val * 1024 + a.val = a.val
    omega
  unfold Args.preRow
  rw [ix2_of (idx_main_v70 (idx_main_v71 (ValueIdx.ix2 z a)) s) s a rfl h1, val_main_v69_apply, normed_at, dc_at, h_row]
  exact mul_comm _ _

/-- Two arrays of rows that agree at every entry. -/
theorem eq_mat {w : ℕ} [NeZero w] (x : (⟨2, ![8192, w]⟩ : Shape).Idx → EReal) (f : ℕ → Fin w → EReal)
    (h : ∀ (t : Fin 8192) (a : Fin w), x (ValueIdx.ix2 t a) = f t.val a) : x = mat w f := by
  funext i
  obtain ⟨t, a, rfl⟩ : ∃ (t : Fin 8192) (a : Fin w), i = ValueIdx.ix2 t a := ⟨i 0, i 1, ValueIdx.eq_ix2 i⟩
  refine (h t a).trans ?_
  unfold mat
  exact congrArg _ (Fin.ofNat_val_eq_self a).symm

theorem eq_sums (x : S1x1024.Idx → EReal) (f : ℕ → Fin 1024 → EReal)
    (h : ∀ (z : Fin 1) (a : Fin 1024), x (ValueIdx.ix2 z a) = ∑ s : Fin 8192, f s.val a) : x = sums f := by
  funext i
  obtain ⟨z, a, rfl⟩ : ∃ (z : Fin 1) (a : Fin 1024), i = ValueIdx.ix2 z a := ⟨i 0, i 1, ValueIdx.eq_ix2 i⟩
  exact h z a

/-! The reference's five results. -/

theorem ref_dff : val_main_v89 (F := Ideal) x0 x1 x2 x3 x4 x5 = mat 1024 (A x0 x1 x2 x3 x4 x5).dff :=
  eq_mat _ _ fun t a => (val_main_v89_apply (F := Ideal) x0 x1 x2 x3 x4 x5 _).trans (dff_at x0 x1 x2 x3 x4 x5 t a)

theorem ref_df : val_main_v90 (F := Ideal) x0 x1 x2 x3 x4 x5 = mat 4096 (A x0 x1 x2 x3 x4 x5).df :=
  eq_mat _ _ fun t k => (val_main_v90_apply (F := Ideal) x0 x1 x2 x3 x4 x5 _).trans (df_at x0 x1 x2 x3 x4 x5 t k)

theorem ref_dx : val_main_v88 (F := Ideal) x0 x1 x2 x3 x4 x5 = mat 1024 (A x0 x1 x2 x3 x4 x5).dx :=
  eq_mat _ _ fun t a => dx_at x0 x1 x2 x3 x4 x5 t a

theorem ref_post : val_main_v47 (F := Ideal) x0 x1 x2 x3 x4 = sums (A x0 x1 x2 x3 x4 x5).postRow :=
  eq_sums _ _ fun z a => post_at x0 x1 x2 x3 x4 x5 z a

theorem ref_pre : val_main_v71 (F := Ideal) x0 x1 x2 x3 x4 x5 = sums (A x0 x1 x2 x3 x4 x5).preRow :=
  eq_sums _ _ fun z a => pre_at x0 x1 x2 x3 x4 x5 z a

end Cert.Proof.Ffn

end
-- ==== Proof.FfnSame.lean ====
/-
  The feed-forward layer's backward kernel and its reference: the same five results, and the reference's frame.
-/
module

public import proofs.«01_k».proof.Defs
public import proofs.«01_k».proof.Proof.FfnRef
public import proofs.«01_k».proof.Proof.Gen.Reference2Ideal.Run
public import Idealize.ShloMosaic.Lib.Quiescent

@[expose] public section

set_option maxRecDepth 16384
set_option maxHeartbeats 1000000

noncomputable section

namespace Cert.Proof.Ffn

open Idealize.ShloMosaic Idealize.ShloMosaic.TcCoe Idealize.SL.Sem

theorem same_results : Cert.algebraic_Kernel2Ideal_Reference2Ideal (hKernel2Ideal := Cert.Kernel2Ideal.Gen.facts)
    (hReference2Ideal := Cert.Reference2Ideal.Gen.facts) := fun m ρ m' ρ' _ hm => by
  refine ⟨fun c => mat 1024 (args m c).dff, fun c => mat 4096 (args m c).df, fun c => mat 1024 (args m c).dx,
    fun c => sums (args m c).postRow, fun c => sums (args m c).preRow, ?_, ?_⟩
  · refine (θ_run _ _ _).mono (fun r h c => ?_) (Cert.Kernel2Ideal.Value.run_blocks (F := Ideal) m ρ)
    obtain ⟨r0, r1, r2, r3, r4, kept⟩ := h c
    exact ⟨r0.trans (array_dff m c), r1.trans (array_df m c), r2.trans (array_dx m c), r3.trans (array_post m c), r4.trans (array_pre m c), kept⟩
  · refine (θ_run _ _ _).mono (fun r h c => ?_) (Cert.Reference2Ideal.Value.run (F := Ideal) m' ρ')
    obtain ⟨r0, r1, r2, r3, r4, kept⟩ := h c
    obtain ⟨e0, e1, e2, e3, e4, e5⟩ := hm c
    replace r0 := r0.trans (Cert.Reference2Ideal.Read.val_main_v89_eq _)
    replace r1 := r1.trans (Cert.Reference2Ideal.Read.val_main_v90_eq _)
    replace r2 := r2.trans (Cert.Reference2Ideal.Read.val_main_v88_eq _)
    replace r3 := r3.trans (Cert.Reference2Ideal.Read.val_main_v47_eq _)
    replace r4 := r4.trans (Cert.Reference2Ideal.Read.val_main_v71_eq _)
    have k0 : StableHlo.launchContents m' c (Proc.devRef .tc Cert.Reference2Ideal.main_arg0) = m (c.tc.loc Cert.Kernel2Ideal.main_arg0) := e0
    have k1 : StableHlo.launchContents m' c (Proc.devRef .tc Cert.Reference2Ideal.main_arg1) = m (c.tc.loc Cert.Kernel2Ideal.main_arg1) := e1
    have k2 : StableHlo.launchContents m' c (Proc.devRef .tc Cert.Reference2Ideal.main_arg2) = m (c.tc.loc Cert.Kernel2Ideal.main_arg2) := e2
    have k3 : StableHlo.launchContents m' c (Proc.devRef .tc Cert.Reference2Ideal.main_arg3) = m (c.tc.loc Cert.Kernel2Ideal.main_arg3) := e3
    have k4 : StableHlo.launchContents m' c (Proc.devRef .tc Cert.Reference2Ideal.main_arg4) = m (c.tc.loc Cert.Kernel2Ideal.main_arg4) := e4
    have k5 : StableHlo.launchContents m' c (Proc.devRef .tc Cert.Reference2Ideal.main_arg5) = m (c.tc.loc Cert.Kernel2Ideal.main_arg5) := e5
    rw [k0, k1, k2, k3, k4, k5] at r0 r1 r2 r4
    rw [k0, k1, k2, k3, k4] at r3
    exact ⟨r0.trans (ref_dff _ _ _ _ _ _), r1.trans (ref_df _ _ _ _ _ _), r2.trans (ref_dx _ _ _ _ _ _), r3.trans (ref_post _ _ _ _ _ _),
      r4.trans (ref_pre _ _ _ _ _ _), kept⟩
theorem frame_reference : Cert.quiescent_Reference2Ideal (hReference2Ideal := Cert.Reference2Ideal.Gen.facts) := fun m ρ _ =>
  (θ_run _ _ _).mono (fun r h => ⟨fun c => (h c).2.2.2.2.2, sem_eq_zero_of_no_sems rfl r.2⟩) (Cert.Reference2Ideal.Value.run (F := Ideal) m ρ)

end Cert.Proof.Ffn

end
-- ==== Proof.FwdPoint.lean ====
/-
  What the feed-forward layer's forward kernel stores at a point, entry by entry.
-/
module

public import proofs.«01_k».proof.Proof.FfnBlock
public import proofs.«01_k».proof.Proof.Gen.Kernel5Ideal.Value
public import Idealize.ShloMosaic.Lib.Pipeline.ValueKit

@[expose] public section

set_option maxRecDepth 16384

noncomputable section

namespace Cert.Proof.Fwd

open Cert.Kernel5Ideal Cert.Kernel5Ideal.Gen Idealize.ShloMosaic Cert.Proof.Ffn

/-- The layer's arrays, by rows. -/
structure Args where
  h : ℕ → Fin 1024 → EReal
  w1 : Fin 1024 → Fin 4096 → EReal
  w2 : Fin 4096 → Fin 1024 → EReal
  gpre : Fin 1024 → EReal
  gpost : Fin 1024 → EReal

namespace Args

variable (A : Args) (t : ℕ)

/-- The normed input, the two products and the layer's output. -/
def c (a : Fin 1024) : EReal := A.h t a * inv (A.h t) * A.gpre a
def f (k : Fin 4096) : EReal := ∑ a, A.c t a * A.w1 a k
def ff (a : Fin 1024) : EReal := ∑ k, (max (A.f t k) 0 * max (A.f t k) 0) * A.w2 k a
def out (a : Fin 1024) : EReal := A.h t a + A.ff t a * inv (A.ff t) * A.gpost a

end Args

/-- Eight slabs of 512. -/
theorem sum_slabs (g : Fin 4096 → EReal) :
    (∑ j ∈ Finset.range 8, ∑ s : Fin 512, g (at8 (Fin.ofNat 8 j) s)) = ∑ k, g k := by
  have h : ∀ j ∈ Finset.range 8, (∑ s : Fin 512, g (at8 (Fin.ofNat 8 j) s)) = ∑ s : Fin 512, g (Fin.ofNat 4096 (512 * j + s.val)) :=
    fun j hj => Finset.sum_congr rfl fun s _ => congrArg g (Fin.ext (by
      have hj := Finset.mem_range.mp hj
      show 512 * (j % 8) + s.val = (512 * j + s.val) % 4096
      omega))
  rw [Finset.sum_congr rfl h, sum_blocks 512 (fun k => g (Fin.ofNat 4096 k)) 8]
  exact (Fin.sum_univ_eq_sum_range (fun k => g (Fin.ofNat 4096 k)) 4096).symm.trans
    (Finset.sum_congr rfl fun k _ => congrArg g (Fin.ofNat_val_eq_self k))

/-- A row of a slab is a row of the matrix. -/
theorem slab_cast (x : Vec Ideal S4096x1024 .f32) (h : S4096x1024.ShapeCasts S8x512x1024) (j : Fin 8) (s : Fin 512) (a : Fin 1024) :
    shapeCast S8x512x1024 x h (ValueIdx.ix3 j s a) = x (ValueIdx.ix2 (at8 j s) a) :=
  shapeCast_apply _ h (ValueIdx.ix3 j s a) (ValueIdx.ix2 (at8 j s) a) (by
    rewrite [Shape.rowMajor_val_two, Shape.rowMajor_val_three]
    show (512 * j.val + s.val) * 1024 + a.val = (j.val * 512 + s.val) * 1024 + a.val
    omega)

/-! The body's values, a block at a time. -/

theorem norm_at (x : Vec Ideal S512x1024 .f32) (g : Vec Ideal S1x1024 .f32) (r : Fin 512) (a : Fin 1024) :
    k0_pay2 (F := Ideal) x g (ValueIdx.ix2 r a) = row x r a * inv (row x r) * row g 0 a := by
  pointwise [k0_pay2]
  rfl

/-- The first product on a slab of 512 columns. -/
def firstV (v : FVec Ideal S512x1024 .bf16) (w : Vec Ideal S1x1024x512 .bf16) : FVec Ideal S512x512 .f32 :=
  matmul (φ₂ := .bf16) dot_S512x1024_S1024x512_S512x512_1_0_0_1_n_n none v (shapeCast S1024x512 w shapeCasts_S1x1024x512_S1024x512)
    (constant S512x512 .f32 0x00000000#32)

theorem first_at (v : FVec Ideal S512x1024 .bf16) (w : Vec Ideal S1x1024x512 .bf16) (r s : Fin 512) :
    firstV v w (ValueIdx.ix2 r s) = ∑ a : Fin 1024, v (ValueIdx.ix2 r a) * w (ValueIdx.ix3 0 a s) := by
  pointwise [firstV]
  rfl

/-- One slab's share of the second product, added to those before. -/
def addV (acc : FVec Ideal S512x1024 .f32) (d : FVec Ideal S512x512 .f32) (w : Vec Ideal S1x512x1024 .bf16) : FVec Ideal S512x1024 .f32 :=
  addf acc (matmul (φ₂ := .bf16) dot_S512x512_S512x1024_S512x1024_1_0_0_1_n_n none
    (truncf .bf16 (mulf (maximumf d (broadcast S512x512 (Scalar.ofBits (F := Ideal) .f32 0x00000000#32)))
      (maximumf d (broadcast S512x512 (Scalar.ofBits (F := Ideal) .f32 0x00000000#32)))) bitsLt_bf16_f32)
    (shapeCast S512x1024 w shapeCasts_S1x512x1024_S512x1024) (constant S512x1024 .f32 0x00000000#32))

theorem add_at (acc : FVec Ideal S512x1024 .f32) (d : FVec Ideal S512x512 .f32) (w : Vec Ideal S1x512x1024 .bf16) (r : Fin 512) (a : Fin 1024) :
    addV acc d w (ValueIdx.ix2 r a) = acc (ValueIdx.ix2 r a)
      + ∑ s : Fin 512, (max (d (ValueIdx.ix2 r s)) 0 * max (d (ValueIdx.ix2 r s)) 0) * w (ValueIdx.ix3 0 s a) := by
  pointwise [addV]
  rfl

/-- The layer's output from its second product. -/
def lastV (x y : FVec Ideal S512x1024 .f32) (g : Vec Ideal S1x1024 .f32) : FVec Ideal S512x1024 .f32 :=
  k0_pay1 x y g (shapeCast S512x1 (multiReduction .add [1] S512 (mulf y y) 0x00000000#32 reduces_S512x1024_S512 (.inl rfl) rfl)
    shapeCasts_S512_S512x1)

theorem last_at (x y : FVec Ideal S512x1024 .f32) (g : Vec Ideal S1x1024 .f32) (r : Fin 512) (a : Fin 1024) :
    lastV x y g (ValueIdx.ix2 r a) = row x r a + row y r a * inv (row y r) * row g 0 a := by
  pointwise [lastV, k0_pay1]
  rfl

/-! The named values are those. -/

section pays
variable (v : FVec Ideal S512x1024 .bf16) (acc x : FVec Ideal S512x1024 .f32) (g : Vec Ideal S1x1024 .f32)
  (w w' w'' : Vec Ideal S1x1024x512 .bf16) (u u' u'' : Vec Ideal S1x512x1024 .bf16)

theorem pay5 : k0_pay5 x g w u = addV (broadcast S512x1024 (Scalar.ofBits (F := Ideal) .f32 0x00000000#32)) (firstV (k0_pay2 x g) w) u := rfl
theorem pay11 : k0_pay11 v acc (k0_pay6 w) (constant S512x512 .f32 0x00000000#32) u w' u'
    = addV (addV acc (firstV v w) u) (firstV v w') u' := rfl
theorem pay19 : k0_pay19 v acc (k0_pay14 v w) u w' u' w'' u''
    = addV (addV (addV acc (firstV v w) u) (firstV v w') u') (firstV v w'') u'' := rfl
theorem pay24 : k0_pay24 v acc w u w' u' = addV (addV acc (firstV v w) u) (firstV v w') u' := rfl
end pays

variable (x0 : Vec Ideal S512x1024 .f32) (x1 : Vec Ideal S1x1024 .f32) (x2 : Vec Ideal S8x1024x512 .bf16)
  (x3 : Vec Ideal S8x512x1024 .bf16) (x4 : Vec Ideal S1x1024 .f32)

/-- The first product in slab `j`, and the second's sum over `n` slabs. -/
def slabV (j : Fin 8) : FVec Ideal S512x512 .f32 := firstV (k0_pay2 x0 x1) (cut (slab 1024 512 j) x2)

def sumV : ℕ → FVec Ideal S512x1024 .f32
  | 0 => broadcast S512x1024 (Scalar.ofBits (F := Ideal) .f32 0x00000000#32)
  | n + 1 => addV (sumV n) (slabV x0 x1 x2 (Fin.ofNat 8 n)) (cut (slab 512 1024 (Fin.ofNat 8 n)) x3)

theorem ld_x : View.ld x0 r0_0 = x0 := View.ld_unit_lit (S := S512x1024) _ x0 (by decide)
theorem ld_g : View.ld x1 r0_1 = x1 := View.ld_unit_lit (S := S1x1024) _ x1 (by decide)

theorem second_eq : k0_pay24 (k0_pay27 x0 x1 x2 x3 x4) (k0_pay29 x0 x1 x2 x3 x4) (View.ld x2 r0_20) (View.ld x3 r0_22) (View.ld x2 r0_23)
    (View.ld x3 r0_25) = sumV x0 x1 x2 x3 8 := by
  unfold k0_pay29 k0_pay28 k0_pay27 k0_pay26
  rw [ld_x, ld_g, pay5, pay11, pay19, pay24]
  rfl

theorem out5 : out0_5 x0 x1 x2 x3 x4 = k0_pay2 x0 x1 := by
  unfold out0_5
  rw [ld_x, ld_g]
  exact View.canon_cons_unit_lit (S := S512x1024) _ _ [] (by decide)

theorem out7 : out0_7 x0 x1 x2 x3 x4 = sumV x0 x1 x2 x3 8 := by
  unfold out0_7
  rw [second_eq]
  exact View.canon_cons_unit_lit (S := S512x1024) _ _ [] (by decide)

theorem out8 : out0_8 x0 x1 x2 x3 x4 = lastV x0 (sumV x0 x1 x2 x3 8) x4 := by
  unfold out0_8 k0_pay25
  rw [second_eq, ld_x, ld_g]
  exact View.canon_cons_unit_lit (S := S512x1024) _ _ [] (by decide)

/-- A store of a slab's columns, at the block's own indices. -/
theorem store_at {F : (⟨2, ![512, 4096]⟩ : Shape).Idx → EReal} (k : Fin 8) (w : FVec Ideal S512x512 .f32)
    (h : ∀ r s, w (ValueIdx.ix2 r s) = F (ValueIdx.ix2 r (at8 k s))) (x : S512x512.Idx) : w x = F ((strip k).emb x) := by
  obtain ⟨r, s, rfl⟩ : ∃ (r s : Fin 512), x = ValueIdx.ix2 r s := ⟨x 0, x 1, ValueIdx.eq_ix2 x⟩
  exact (h r s).trans (congrArg F (strip_emb k r s).symm)

theorem out6 {F : (⟨2, ![512, 4096]⟩ : Shape).Idx → EReal}
    (h : ∀ (j : Fin 8) (r s : Fin 512), slabV x0 x1 x2 j (ValueIdx.ix2 r s) = F (ValueIdx.ix2 r (at8 j s))) : out0_6 x0 x1 x2 x3 x4 = F := by
  funext y
  unfold out0_6 k0_pay28 k0_pay27 k0_pay26
  rw [ld_x, ld_g]
  refine View.canon_apply_of_pieces (Val := Elt Ideal) (e := .bf16) F _ ?_ y (cover0_6 _ _ _ _ _ _ _ _ y)
  simp only [List.forall_mem_cons, List.not_mem_nil, false_imp_iff, implies_true, and_true]
  exact ⟨store_at 7 _ (h 7), store_at 6 _ (h 6), store_at 5 _ (h 5), store_at 4 _ (h 4), store_at 3 _ (h 3), store_at 2 _ (h 2),
    store_at 1 _ (h 1), store_at 0 _ (h 0)⟩

end Cert.Proof.Fwd

end
-- ==== Proof.FwdArray.lean ====
/-
  The feed-forward layer's forward kernel, over all its points.
-/
module

public import proofs.«01_k».proof.Proof.FwdPoint
public import proofs.«01_k».proof.Proof.FfnRef
public import Idealize.ShloMosaic.Lib.StableHlo.RunRead

@[expose] public section

set_option maxRecDepth 16384

noncomputable section

namespace Cert.Proof.Fwd

open Cert.Kernel5Ideal Cert.Kernel5Ideal.Gen Idealize.ShloMosaic Idealize.ShloMosaic.TcCoe Cert.Proof.Ffn

/-- What a block's arrays are of the layer's. -/
structure Block (A : Args) (R : ℕ) (x0 : Vec Ideal S512x1024 .f32) (x1 : Vec Ideal S1x1024 .f32) (x2 : Vec Ideal S8x1024x512 .bf16)
    (x3 : Vec Ideal S8x512x1024 .bf16) (x4 : Vec Ideal S1x1024 .f32) : Prop where
  h : ∀ r a, x0 (ValueIdx.ix2 r a) = A.h (R + r.val) a
  gpre : ∀ a, x1 (ValueIdx.ix2 0 a) = A.gpre a
  w1 : ∀ j a s, x2 (ValueIdx.ix3 j a s) = A.w1 a (at8 j s)
  w2 : ∀ j s a, x3 (ValueIdx.ix3 j s a) = A.w2 (at8 j s) a
  gpost : ∀ a, x4 (ValueIdx.ix2 0 a) = A.gpost a

namespace Block

variable {A : Args} {R : ℕ} {x0 : Vec Ideal S512x1024 .f32} {x1 : Vec Ideal S1x1024 .f32} {x2 : Vec Ideal S8x1024x512 .bf16}
  {x3 : Vec Ideal S8x512x1024 .bf16} {x4 : Vec Ideal S1x1024 .f32} (B : Block A R x0 x1 x2 x3 x4)

include B

theorem c (r : Fin 512) (a : Fin 1024) : k0_pay2 (F := Ideal) x0 x1 (ValueIdx.ix2 r a) = A.c (R + r.val) a := by
  rw [norm_at]
  unfold Args.c row
  simp only [B.h, B.gpre]

theorem f (j : Fin 8) (r s : Fin 512) : slabV x0 x1 x2 j (ValueIdx.ix2 r s) = A.f (R + r.val) (at8 j s) := by
  unfold slabV
  rw [first_at]
  simp only [B.c, cut_slab, B.w1]
  rfl

theorem sum (n : ℕ) (r : Fin 512) (a : Fin 1024) : sumV x0 x1 x2 x3 n (ValueIdx.ix2 r a)
    = ∑ j ∈ Finset.range n, ∑ s : Fin 512, (max (A.f (R + r.val) (at8 (Fin.ofNat 8 j) s)) 0 * max (A.f (R + r.val) (at8 (Fin.ofNat 8 j) s)) 0)
        * A.w2 (at8 (Fin.ofNat 8 j) s) a := by
  induction n with
  | zero => exact zero_at _
  | succ n ih =>
    rw [Finset.sum_range_succ, ← ih]
    refine (add_at _ _ _ r a).trans ?_
    simp only [B.f, cut_slab, B.w2]

theorem ff (r : Fin 512) (a : Fin 1024) : sumV x0 x1 x2 x3 8 (ValueIdx.ix2 r a) = A.ff (R + r.val) a :=
  (B.sum 8 r a).trans (sum_slabs fun k => (max (A.f (R + r.val) k) 0 * max (A.f (R + r.val) k) 0) * A.w2 k a)

theorem out (r : Fin 512) (a : Fin 1024) : lastV x0 (sumV x0 x1 x2 x3 8) x4 (ValueIdx.ix2 r a) = A.out (R + r.val) a := by
  rw [last_at]
  unfold Args.out row
  simp only [B.h, B.ff, B.gpost]

end Block

/-- The layer's arrays, of the arguments. -/
def argsOf (h : Vec Ideal S8192x1024 .f32) (w1 : Vec Ideal S1024x4096 .f32) (w2 : Vec Ideal S4096x1024 .f32)
    (gpre gpost : Vec Ideal S1x1024 .f32) : Args where
  h t a := num (n := 8192) (m := 1024) h t a.val
  w1 a k := w1 (ValueIdx.ix2 a k)
  w2 k a := w2 (ValueIdx.ix2 k a)
  gpre a := gpre (ValueIdx.ix2 0 a)
  gpost a := gpost (ValueIdx.ix2 0 a)

variable (m : (ℓ : Loc nD τ sig) → Buf (Elt Ideal) ℓ) (c : Dev nD)

abbrev args : Args := argsOf (m (c.tc.loc main_arg0)) (m (c.tc.loc main_arg1)) (m (c.tc.loc main_arg2)) (m (c.tc.loc main_arg3))
  (m (c.tc.loc main_arg4))

theorem places : ∀ t : Fin grid0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![t.val, 0] := by
  decide +kernel

/-- The matrices as the host hands them over. -/
theorem V_w1 : V m c main_v2 = (truncf .bf16 (transpose S8x1024x512 [1, 0, 2] (shapeCast S1024x8x512 (m (c.tc.loc main_arg1))
    shapeCasts_S1024x4096_S1024x8x512) transposes_S1024x8x512_S8x1024x512_1_0_2) bitsLt_bf16_f32 : FVec Ideal S8x1024x512 .bf16) := by
  unfold V
  after_reads_simp
  rfl

theorem V_w2 : V m c main_v4 = (truncf .bf16 (shapeCast S8x512x1024 (m (c.tc.loc main_arg2)) shapeCasts_S4096x1024_S8x512x1024)
    bitsLt_bf16_f32 : FVec Ideal S8x512x1024 .bf16) := by
  unfold V
  after_reads_simp
  rfl

theorem block (t : Fin cfg0.N) : Block (args m c) (512 * t.val) (iblk m c 0 t) (iblk m c 1 t) (iblk m c 2 t) (iblk m c 3 t) (iblk m c 4 t) := by
  obtain ⟨p0, p1, p2, p3, p4, -⟩ := places t
  constructor
  · intro r a
    show V m c main_arg0 (((cfg0.win 0).blk t).view.emb (ValueIdx.ix2 r a)) = _
    rw [V_main_arg0]
    refine rows_at (n := 8192) (w := 1024) _ _ rfl ?_ ?_ <;> blk_simp [p0]
    rw [Nat.mul_comm]
  · intro a
    show V m c main_arg3 (((cfg0.win 1).blk t).view.emb (ValueIdx.ix2 0 a)) = _
    rw [V_main_arg3]
    refine congrArg (m (c.tc.loc main_arg3)) (ix2_of _ 0 a ?_ ?_) <;> blk_simp [p1]
    rfl
  · intro j a s
    show V m c main_v2 (((cfg0.win 2).blk t).view.emb (ValueIdx.ix3 j a s)) = _
    have he : ((cfg0.win 2).blk t).view.emb (ValueIdx.ix3 j a s) = (ValueIdx.ix3 j a s : S8x1024x512.Idx) := by
      funext y
      fin_cases y <;> refine Fin.ext ?_ <;> blk_simp [p2]
    rw [he, V_w1]
    pointwise []
    exact congrArg (m (c.tc.loc main_arg1)) (ix2_of _ a (at8 j s) rfl (congrArg (· + s.val) (Nat.mul_comm j.val 512)))
  · intro j s a
    show V m c main_v4 (((cfg0.win 3).blk t).view.emb (ValueIdx.ix3 j s a)) = _
    have he : ((cfg0.win 3).blk t).view.emb (ValueIdx.ix3 j s a) = (ValueIdx.ix3 j s a : S8x512x1024.Idx) := by
      funext y
      fin_cases y <;> refine Fin.ext ?_ <;> blk_simp [p3]
    rw [he, V_w2]
    exact slab_cast _ shapeCasts_S4096x1024_S8x512x1024 j s a
  · intro a
    show V m c main_arg4 (((cfg0.win 4).blk t).view.emb (ValueIdx.ix2 0 a)) = _
    rw [V_main_arg4]
    refine congrArg (m (c.tc.loc main_arg4)) (ix2_of _ 0 a ?_ ?_) <;> blk_simp [p4]
    rfl

/-! The four arrays. -/

theorem array_c : (dats m 0 c).arrAt 5 cfg0.N = Ffn.mat 1024 (args m c).c := by
  refine (dats m 0 c).arrAt_eq_of_covers 5 _ (by decide +kernel) fun t hf y => ?_
  obtain ⟨-, -, -, -, -, e, -⟩ := places t
  refine (congrFun ((after0_5 m c t).trans (out5 ..)) y).trans ?_
  obtain ⟨r, a, rfl⟩ : ∃ (r : Fin 512) (a : Fin 1024), y = ValueIdx.ix2 r a := ⟨y 0, y 1, ValueIdx.eq_ix2 y⟩
  refine ((block m c t).c r a).trans ?_
  unfold Ffn.mat
  blk_simp [e]
  rw [Nat.mul_comm]
  exact congrArg _ (Fin.ofNat_val_eq_self a).symm

theorem array_f : (dats m 0 c).arrAt 6 cfg0.N = Ffn.mat 4096 (args m c).f := by
  refine (dats m 0 c).arrAt_eq_of_covers 6 _ (by decide +kernel) fun t hf y => ?_
  obtain ⟨-, -, -, -, -, -, e, -⟩ := places t
  refine (congrFun ((after0_6 m c t).trans (out6 _ _ _ _ _ (F := fun i => (args m c).f (512 * t.val + (i 0).val) (i 1))
    fun j r s => (block m c t).f j r s)) y).trans ?_
  obtain ⟨r, k, rfl⟩ : ∃ (r : Fin 512) (k : Fin 4096), y = ValueIdx.ix2 r k := ⟨y 0, y 1, ValueIdx.eq_ix2 y⟩
  show (args m c).f (512 * t.val + r.val) k = _
  unfold Ffn.mat
  blk_simp [e]
  rw [Nat.mul_comm]
  exact congrArg _ (Fin.ofNat_val_eq_self k).symm

theorem array_ff : (dats m 0 c).arrAt 7 cfg0.N = Ffn.mat 1024 (args m c).ff := by
  refine (dats m 0 c).arrAt_eq_of_covers 7 _ (by decide +kernel) fun t hf y => ?_
  obtain ⟨-, -, -, -, -, -, -, e, -⟩ := places t
  refine (congrFun ((after0_7 m c t).trans (out7 ..)) y).trans ?_
  obtain ⟨r, a, rfl⟩ : ∃ (r : Fin 512) (a : Fin 1024), y = ValueIdx.ix2 r a := ⟨y 0, y 1, ValueIdx.eq_ix2 y⟩
  refine ((block m c t).ff r a).trans ?_
  unfold Ffn.mat
  blk_simp [e]
  rw [Nat.mul_comm]
  exact congrArg _ (Fin.ofNat_val_eq_self a).symm

theorem array_out : (dats m 0 c).arrAt 8 cfg0.N = Ffn.mat 1024 (args m c).out := by
  refine (dats m 0 c).arrAt_eq_of_covers 8 _ (by decide +kernel) fun t hf y => ?_
  obtain ⟨-, -, -, -, -, -, -, -, e⟩ := places t
  refine (congrFun ((after0_8 m c t).trans (out8 ..)) y).trans ?_
  obtain ⟨r, a, rfl⟩ : ∃ (r : Fin 512) (a : Fin 1024), y = ValueIdx.ix2 r a := ⟨y 0, y 1, ValueIdx.eq_ix2 y⟩
  refine ((block m c t).out r a).trans ?_
  unfold Ffn.mat
  blk_simp [e]
  rw [Nat.mul_comm]
  exact congrArg _ (Fin.ofNat_val_eq_self a).symm

end Cert.Proof.Fwd

end
-- ==== Proof.FwdSame.lean ====
/-
  The feed-forward layer's forward pass: the reference's four results an entry at a time, the same as the kernel's, and the
  reference's frame.
-/
module

public import proofs.«01_k».proof.Defs
public import proofs.«01_k».proof.Proof.FwdArray
public import proofs.«01_k».proof.Proof.Gen.Reference5Ideal.Run
public import proofs.«01_k».proof.Proof.Gen.Reference5Ideal.Read
public import Idealize.ShloMosaic.Lib.Quiescent

@[expose] public section

set_option maxRecDepth 16384
set_option maxHeartbeats 1000000

noncomputable section

namespace Cert.Proof.Fwd

open Cert.Reference5Ideal Cert.Reference5Ideal.Read Idealize.ShloMosaic Idealize.ShloMosaic.TcCoe Idealize.SL.Sem Cert.Proof.Ffn

variable (x0 : Vec Ideal S8192x1024 .f32) (x1 : Vec Ideal S1024x4096 .f32) (x2 : Vec Ideal S4096x1024 .f32) (x3 x4 : Vec Ideal S1x1024 .f32)
  (t : Fin 8192)

abbrev A : Args := argsOf x0 x1 x2 x3 x4

theorem h_row : (A x0 x1 x2 x3 x4).h t.val = row x0 t := funext fun a => (num_eq (n := 8192) (m := 1024) x0 (ValueIdx.ix2 t a)).symm

/-! The norm, of any array. -/

theorem inv_at (y : Vec Ideal S8192x1024 .f32) : val_main_v7 (F := Ideal) y (ValueIdx.ix2 t 0) = inv (row y t) := by
  rw [val_main_v7_apply, val_main_v6_apply, val_main_v4_apply, val_main_v2_apply, val_main_v1_apply, val_main_v3_apply, val_main_v5_apply,
    val_main_cst_apply, val_main_cst_0_apply, val_main_cst_1_apply]
  refine congrArg Ideal.rsqrt (congrArg₂ (· + ·) (congrArg₂ Ideal.div ((zeroed _).trans (Finset.sum_congr rfl fun k _ => ?_)) rfl) rfl)
  rw [val_main_v0_apply, ix2_of (idx_main_v1 (idx_main_v2 (ValueIdx.ix2 t 0)) k) t k rfl rfl]
  rfl

theorem normed_at (y : Vec Ideal S8192x1024 .f32) (g : Vec Ideal S1x1024 .f32) (a : Fin 1024) :
    val_main_v11 (F := Ideal) y g (ValueIdx.ix2 t a) = row y t a * inv (row y t) * row g 0 a := by
  rw [val_main_v11_apply, val_main_v9_apply, val_main_v8_apply, ix2_of (idx_main_v8 (ValueIdx.ix2 t a)) t 0 rfl rfl, inv_at,
    val_main_v10_apply, ix2_of (idx_main_v10 (ValueIdx.ix2 t a)) 0 a rfl rfl]
  rfl

/-- The second norm is the first one's, of the second product. -/
theorem second_norm : val_main_v29 (F := Ideal) x0 x1 x2 x3 x4 = val_main_v11 (F := Ideal) (val_main_v15 (F := Ideal) x0 x1 x2 x3) x4 := rfl

/-! The layer, an entry at a time. -/

theorem c_at (a : Fin 1024) : val_main_v11 (F := Ideal) x0 x3 (ValueIdx.ix2 t a) = (A x0 x1 x2 x3 x4).c t.val a := by
  unfold Args.c
  rw [normed_at, h_row]
  rfl

theorem f_at (k : Fin 4096) : val_main_v12 (F := Ideal) x0 x1 x3 (ValueIdx.ix2 t k) = (A x0 x1 x2 x3 x4).f t.val k := by
  rw [val_main_v12_apply]
  refine Finset.sum_congr rfl fun a _ => ?_
  rw [ix2_of (lidx_main_v12 (ValueIdx.ix2 t k) a) t a rfl rfl, ix2_of (ridx_main_v12 (ValueIdx.ix2 t k) a) a k rfl rfl, c_at x0 x1 x2 x3 x4]
  rfl

theorem square_at (k : Fin 4096) : val_main_v14 (F := Ideal) x0 x1 x3 (ValueIdx.ix2 t k) = max ((A x0 x1 x2 x3 x4).f t.val k) 0 * max ((A x0 x1 x2 x3 x4).f t.val k) 0 := by
  rw [val_main_v14_apply, val_main_v13_apply, val_main_call0_v0_apply, val_main_call0_cst_apply, f_at x0 x1 x2 x3 x4]
  show max _ (Ideal.ofBits .f32 0x00000000#32) * max _ (Ideal.ofBits .f32 0x00000000#32) = _
  rw [Ideal.ofBits_zero_f32]

theorem ff_at (a : Fin 1024) : val_main_v15 (F := Ideal) x0 x1 x2 x3 (ValueIdx.ix2 t a) = (A x0 x1 x2 x3 x4).ff t.val a := by
  rw [val_main_v15_apply]
  refine Finset.sum_congr rfl fun k _ => ?_
  rw [ix2_of (lidx_main_v15 (ValueIdx.ix2 t a) k) t k rfl rfl, ix2_of (ridx_main_v15 (ValueIdx.ix2 t a) k) k a rfl rfl,
    square_at x0 x1 x2 x3 x4]
  rfl

theorem out_at (a : Fin 1024) : val_main_v30 (F := Ideal) x0 x1 x2 x3 x4 (ValueIdx.ix2 t a) = (A x0 x1 x2 x3 x4).out t.val a := by
  have hf : row (val_main_v15 (F := Ideal) x0 x1 x2 x3) t = (A x0 x1 x2 x3 x4).ff t.val := funext fun b => ff_at x0 x1 x2 x3 x4 t b
  unfold Args.out
  rw [val_main_v30_apply, second_norm, normed_at, hf, h_row]
  rfl

theorem ref_c : val_main_v16 (F := Ideal) x0 x3 = Ffn.mat 1024 (A x0 x1 x2 x3 x4).c :=
  eq_mat _ _ fun t a => (val_main_v16_apply (F := Ideal) x0 x3 _).trans (c_at x0 x1 x2 x3 x4 t a)

theorem ref_f : val_main_v17 (F := Ideal) x0 x1 x3 = Ffn.mat 4096 (A x0 x1 x2 x3 x4).f :=
  eq_mat _ _ fun t k => (val_main_v17_apply (F := Ideal) x0 x1 x3 _).trans (f_at x0 x1 x2 x3 x4 t k)

theorem ref_ff : val_main_v15 (F := Ideal) x0 x1 x2 x3 = Ffn.mat 1024 (A x0 x1 x2 x3 x4).ff := eq_mat _ _ fun t a => ff_at x0 x1 x2 x3 x4 t a

theorem ref_out : val_main_v30 (F := Ideal) x0 x1 x2 x3 x4 = Ffn.mat 1024 (A x0 x1 x2 x3 x4).out := eq_mat _ _ fun t a => out_at x0 x1 x2 x3 x4 t a

theorem same_results : Cert.algebraic_Kernel5Ideal_Reference5Ideal (hKernel5Ideal := Cert.Kernel5Ideal.Gen.facts)
    (hReference5Ideal := Cert.Reference5Ideal.Gen.facts) := fun m ρ m' ρ' _ hm => by
  refine ⟨fun c => Ffn.mat 1024 (args m c).c, fun c => Ffn.mat 4096 (args m c).f, fun c => Ffn.mat 1024 (args m c).ff, fun c => Ffn.mat 1024 (args m c).out, ?_, ?_⟩
  · refine (θ_run _ _ _).mono (fun r h c => ?_) (Cert.Kernel5Ideal.Value.run_blocks (F := Ideal) m ρ)
    obtain ⟨r0, r1, r2, r3, kept⟩ := h c
    exact ⟨r0.trans (array_c m c), r1.trans (array_f m c), r2.trans (array_ff m c), r3.trans (array_out m c), kept⟩
  · refine (θ_run _ _ _).mono (fun r h c => ?_) (Cert.Reference5Ideal.Value.run (F := Ideal) m' ρ')
    obtain ⟨r0, r1, r2, r3, kept⟩ := h c
    obtain ⟨e0, e1, e2, e3, e4⟩ := hm c
    replace r0 := r0.trans (val_main_v16_eq _ _)
    replace r1 := r1.trans (val_main_v17_eq _ _ _)
    replace r2 := r2.trans (val_main_v15_eq _ _ _ _)
    replace r3 := r3.trans (val_main_v30_eq _ _)
    rw [e0, e3] at r0
    rw [e0, e1, e3] at r1
    rw [e0, e1, e2, e3] at r2
    rw [e0, e1, e2, e3, e4] at r3
    exact ⟨r0.trans (ref_c _ (m (c.tc.loc Cert.Kernel5Ideal.main_arg1)) (m (c.tc.loc Cert.Kernel5Ideal.main_arg2)) _ (m (c.tc.loc Cert.Kernel5Ideal.main_arg4))),
      r1.trans (ref_f _ _ (m (c.tc.loc Cert.Kernel5Ideal.main_arg2)) _ (m (c.tc.loc Cert.Kernel5Ideal.main_arg4))),
      r2.trans (ref_ff _ _ _ _ (m (c.tc.loc Cert.Kernel5Ideal.main_arg4))), r3.trans (ref_out _ _ _ _ _), kept⟩

theorem frame_reference : Cert.quiescent_Reference5Ideal (hReference5Ideal := Cert.Reference5Ideal.Gen.facts) := fun m ρ _ =>
  (θ_run _ _ _).mono (fun r h => ⟨fun c => (h c).2.2.2.2, sem_eq_zero_of_no_sems rfl r.2⟩) (Cert.Reference5Ideal.Value.run (F := Ideal) m ρ)

end Cert.Proof.Fwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Launch
public import proofs.«01_k».proof.Proof.Results
public import proofs.«01_k».proof.Proof.WeightRef1
public import proofs.«01_k».proof.Proof.WeightRef2
public import proofs.«01_k».proof.Proof.FfnSame
public import proofs.«01_k».proof.Proof.FwdSame
public import Idealize.ShloMosaic.Lib.Quiescent
public import Idealize.ShloMosaic.Adequacy
public import Idealize.ShloMosaic.Init

@[expose] public section

set_option maxRecDepth 16384
set_option maxHeartbeats 4000000

noncomputable section

namespace Cert.Proof

open Idealize.ShloMosaic Idealize.ShloMosaic.TcCoe Idealize.SL.Sem

/-- The two programs have the same body tables … -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  fin_cases l
  rfl

/-- … and so the same labels. -/
theorem defs_eq : @Cert.Kernel.defs Bits _ Cert.Kernel.Gen.facts = @Cert.KernelIdeal.defs Bits _ Cert.KernelIdeal.Gen.facts :=
  congrArg (Pipeline.defs _) bodies_eq

theorem frame_kernel : Cert.quiescent_Kernel (hKernel := Cert.Kernel.Gen.facts) := fun m ρ _ => by
  rw [defs_eq]
  exact frame (F := Bits) m ρ

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2.2.2, sem_eq_zero_of_no_sems rfl r.2⟩)
    (Cert.ReferenceIdeal.Value.run (F := Ideal) m ρ)

theorem claim : Cert.Claim :=
  ⟨Cert.Kernel.Gen.facts, Cert.KernelIdeal.Gen.facts, Cert.ReferenceIdeal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel2.Gen.facts, Cert.Kernel2Ideal.Gen.facts, Cert.Reference2Ideal.Gen.facts,
    Cert.Kernel5.Gen.facts, Cert.Kernel5Ideal.Gen.facts, Cert.Reference5Ideal.Gen.facts, Cert.Pre_finite.Gen.facts,
    frame_kernel, fun m ρ _ => frame (F := Ideal) m ρ, fun m ρ _ => frame (F := Ideal) m ρ,
    fun m ρ _ => frame_reference m ρ, fun m ρ _ => frame_reference m ρ,
    fun m ρ _ => Cert.Kernel3.Gen.frame (F := Bits) m ρ, fun m ρ _ => Cert.Kernel3Ideal.Gen.frame (F := Ideal) m ρ, W1.frame_reference,
    fun m ρ _ => Cert.Kernel4.Gen.frame (F := Bits) m ρ, fun m ρ _ => Cert.Kernel4Ideal.Gen.frame (F := Ideal) m ρ, W2.frame_reference,
    fun m ρ _ => Cert.Kernel2.Gen.frame (F := Bits) m ρ, fun m ρ _ => Cert.Kernel2Ideal.Gen.frame (F := Ideal) m ρ, Ffn.frame_reference,
    fun m ρ _ => Cert.Kernel5.Gen.frame (F := Bits) m ρ, fun m ρ _ => Cert.Kernel5Ideal.Gen.frame (F := Ideal) m ρ, Fwd.frame_reference,
    trivial, same_results, trivial, W1.same_results, trivial, W2.same_results,
    trivial, Ffn.same_results, trivial, Fwd.same_results⟩

end Cert.Proof

end
